-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_counts_in_range : Cert.Pre_counts_in_range.Facts] (m : (ℓ : Loc Cert.Kernel3.nD Cert.Kernel3.τ Cert.Kernel3.sig) → Buf (Elt Bits) ℓ) : Prop :=
  ∀ c : Dev Cert.Kernel3.nD,
    (Cert.Pre_counts_in_range.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3))) = (fun _ => 1#1)

def Pre_Kernel3Ideal [hPre_counts_in_range : Cert.Pre_counts_in_range.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_counts_in_range.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_counts_in_range [hPre_counts_in_range : Cert.Pre_counts_in_range.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_counts_in_range.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] [hPre_counts_in_range : Cert.Pre_counts_in_range.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] [hPre_counts_in_range : Cert.Pre_counts_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_counts_in_range [hReference3Ideal : Cert.Reference3Ideal.Facts] [hPre_counts_in_range : Cert.Pre_counts_in_range.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_counts_in_range m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  True

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] [hPre_counts_in_range : Cert.Pre_counts_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v19)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v19) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v195) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v28) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v33)) (v1 : (c : Dev Cert.Kernel5Ideal.nD) → Buf (Elt Ideal) ((c.tc : Thread Cert.Kernel5Ideal.nD Cert.Kernel5Ideal.τ).loc Cert.Kernel5Ideal.main_v36)) (v2 : (c : Dev Cert.Kernel5Ideal.nD) → Buf (Elt Ideal) ((c.tc : Thread Cert.Kernel5Ideal.nD Cert.Kernel5Ideal.τ).loc Cert.Kernel5Ideal.main_v38)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v33) = v0 c
          ∧ r.2.mem ((c.tc : Thread Cert.Kernel5Ideal.nD Cert.Kernel5Ideal.τ).loc Cert.Kernel5Ideal.main_v36) = v1 c
          ∧ r.2.mem ((c.tc : Thread Cert.Kernel5Ideal.nD Cert.Kernel5Ideal.τ).loc Cert.Kernel5Ideal.main_v38) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v41) = v0 c
          ∧ r.2.mem ((c.tc : Thread Cert.Reference5Ideal.nD Cert.Reference5Ideal.τ).loc Cert.Reference5Ideal.main_v43) = v1 c
          ∧ r.2.mem ((c.tc : Thread Cert.Reference5Ideal.nD Cert.Reference5Ideal.τ).loc Cert.Reference5Ideal.main_v46) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_logits : Cert.Pre_finite_logits.Facts) (hPre_counts_in_range : Cert.Pre_counts_in_range.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_counts_in_range := hPre_counts_in_range)
    ∧ quiescent_Kernel3Ideal (hKernel3Ideal := hKernel3Ideal) (hPre_counts_in_range := hPre_counts_in_range)
    ∧ quiescent_Reference3Ideal (hReference3Ideal := hReference3Ideal)
    ∧ quiescent_Reference3Ideal_pre_counts_in_range (hReference3Ideal := hReference3Ideal) (hPre_counts_in_range := hPre_counts_in_range)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_counts_in_range := hPre_counts_in_range)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_counts_in_range.lean ====
abbrev S69632x1024 : Shape := ⟨2, ![69632, 1024]⟩
abbrev S8 : Shape := ⟨1, ![8]⟩
abbrev S2x8x1024x5632 : Shape := ⟨4, ![2, 8, 1024, 5632]⟩
abbrev S2x8x2816x1024 : Shape := ⟨4, ![2, 8, 2816, 1024]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : FVec F S69632x1024 .f32) (main_arg1 : IVec S8 32) (main_arg2 : FVec F S2x8x1024x5632 .f32) (main_arg3 : FVec F S2x8x2816x1024 .f32) : IVec S_ 1 :=
  let main_c : IVec S_ 32 := constantI S_ 32 0#32
  let main_v0 : IVec S8 32 := broadcastInDim S8 ![] bcast_S_S8 main_c
  let main_v1 : IVec S8 1 := cmpi .sge main_arg1 main_v0
  let main_c_0 : IVec S_ 32 := constantI S_ 32 65536#32
  let main_v2 : IVec S8 32 := broadcastInDim S8 ![] bcast_S_S8 main_c_0
  let main_v3 : IVec S8 1 := cmpi .sle main_arg1 main_v2
  let main_v4 : IVec S8 1 := andi main_v1 main_v3
  let main_c_1 : IVec S_ 1 := constantI S_ 1 1#1
  let main_v5 : IVec S_ 1 := (fun x v => Host.reduce IntOp.andi x v reducesTo_S8_S_d0 h_S_) main_v4 main_c_1
  let main_c_2 : IVec S_ 32 := constantI S_ 32 1#32
  let main_v6 : IVec S8 32 := broadcastInDim S8 ![] bcast_S_S8 main_c_2
  let main_v7 : IVec S8 1 := cmpi .sge main_arg1 main_v6
  let main_c_3 : IVec S_ 1 := constantI S_ 1 0#1
  let main_v8 : IVec S_ 1 := (fun x v => Host.reduce IntOp.ori x v reducesTo_S8_S_d0 h_S_) main_v7 main_c_3
  let main_v9 : IVec S_ 1 := andi main_v5 main_v8
  main_v9
-- ==== Pre_finite_logits.lean ====
abbrev S4x8192x1024 : Shape := ⟨3, ![4, 8192, 1024]⟩
abbrev S4x256x2048 : Shape := ⟨3, ![4, 256, 2048]⟩
abbrev S1024x2560 : Shape := ⟨2, ![1024, 2560]⟩
abbrev S3x768 : Shape := ⟨2, ![3, 768]⟩
abbrev S1024x1024 : Shape := ⟨2, ![1024, 1024]⟩
abbrev S1024 : Shape := ⟨1, ![1024]⟩
abbrev S_ : Shape := ⟨0, ![]⟩
abbrev S1024x256 : Shape := ⟨2, ![1024, 256]⟩
abbrev S4x256x256 : Shape := ⟨3, ![4, 256, 256]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  slices_S1024x2560_S1024x256_0_2304 : S1024x2560.Slices ![0, 2304] S1024x256
  bcast_S_S1024x256 : S_.BroadcastsInDim S1024x256 (![] : Fin 0 → Fin S1024x256.rank)
  reducesTo_S1024x256_S_d0_1 : S1024x256.ReducesTo [0, 1] S_
  slices_S4x256x2048_S4x256x256_0_0_0 : S4x256x2048.Slices ![0, 0, 0] S4x256x256
  bcast_S_S4x256x256 : S_.BroadcastsInDim S4x256x256 (![] : Fin 0 → Fin S4x256x256.rank)
  reducesTo_S4x256x256_S_d0_1_2 : S4x256x256.ReducesTo [0, 1, 2] S_

variable [Facts]

def fn {F : FTy → Type} [FloatOps F] (main_arg0 : FVec F S4x8192x1024 .f32) (main_arg1 : FVec F S4x256x2048 .f32) (main_arg2 : FVec F S1024x2560 .f32) (main_arg3 : FVec F S3x768 .f32) (main_arg4 : FVec F S1024x1024 .f32) (main_arg5 : FVec F S1024 .f32) (main_arg6 : FVec F S1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S1024x256 .f32 := (extractStridedSlice S1024x256 ![0, 2304] · slices_S1024x2560_S1024x256_0_2304) main_arg2
  let main_v5 : FVec F S1024x256 .f32 := Host.absf main_v4
  let main_cst_0 : FVec F S_ .f32 := constant S_ .f32 0x7F800000#32
  let main_v6 : FVec F S1024x256 .f32 := broadcastInDim S1024x256 ![] bcast_S_S1024x256 main_cst_0
  let main_v7 : IVec S1024x256 1 := cmpf .olt main_v5 main_v6
  let main_c_1 : IVec S_ 1 := constantI S_ 1 1#1
  let main_v8 : IVec S_ 1 := (fun x v => Host.reduce IntOp.andi x v reducesTo_S1024x256_S_d0_1 h_S_) main_v7 main_c_1
  let main_v9 : IVec S_ 1 := andi main_v3 main_v8
  let main_v10 : FVec F S4x256x256 .f32 := (extractStridedSlice S4x256x256 ![0, 0, 0] · slices_S4x256x2048_S4x256x256_0_0_0) main_arg1
  let main_v11 : FVec F S4x256x256 .f32 := Host.absf main_v10
  let main_cst_2 : FVec F S_ .f32 := constant S_ .f32 0x7F800000#32
  let main_v12 : FVec F S4x256x256 .f32 := broadcastInDim S4x256x256 ![] bcast_S_S4x256x256 main_cst_2
  let main_v13 : IVec S4x256x256 1 := cmpf .olt main_v11 main_v12
  let main_c_3 : IVec S_ 1 := constantI S_ 1 1#1
  let main_v14 : IVec S_ 1 := (fun x v => Host.reduce IntOp.andi x v reducesTo_S4x256x256_S_d0_1_2 h_S_) main_v13 main_c_3
  let main_v15 : IVec S_ 1 := andi main_v9 main_v14
  main_v15
-- ==== Kernel.lean ====
abbrev S4x8192x1024 : Shape := ⟨3, ![4, 8192, 1024]⟩
abbrev S4x256x2048 : Shape := ⟨3, ![4, 256, 2048]⟩
abbrev S1024x2560 : Shape := ⟨2, ![1024, 2560]⟩
abbrev S3x768 : Shape := ⟨2, ![3, 768]⟩
abbrev S1024x1024 : Shape := ⟨2, ![1024, 1024]⟩
abbrev S1024 : Shape := ⟨1, ![1024]⟩
abbrev S1x1024 : Shape := ⟨2, ![1, 1024]⟩
abbrev S1x512x1024 : Shape := ⟨3, ![1, 512, 1024]⟩
abbrev S1x256x256 : Shape := ⟨3, ![1, 256, 256]⟩
abbrev S8x768 : Shape := ⟨2, ![8, 768]⟩
abbrev S512x1024 : Shape := ⟨2, ![512, 1024]⟩
abbrev S512x2560 : Shape := ⟨2, ![512, 2560]⟩
abbrev S512x768 : Shape := ⟨2, ![512, 768]⟩
abbrev S512x256 : Shape := ⟨2, ![512, 256]⟩
abbrev S1x768 : Shape := ⟨2, ![1, 768]⟩
abbrev S256x256 : Shape := ⟨2, ![256, 256]⟩
abbrev S1x256 : Shape := ⟨2, ![1, 256]⟩
abbrev S512 : Shape := ⟨1, ![512]⟩
abbrev S512x1 : Shape := ⟨2, ![512, 1]⟩
abbrev S768x1024 : Shape := ⟨2, ![768, 1024]⟩
abbrev S256x1024 : Shape := ⟨2, ![256, 1024]⟩

abbrev nBuf : Space → Nat
  | .hbm => 13
  | .vmem => 14
  | .smem => 0
  | _ => 0

abbrev bufTy : (tb : Table) → Fin (tcTables nBuf tb) → BufTy
  | .hbm, ⟨0, _⟩ => ⟨S4x8192x1024, .f32⟩
  | .hbm, ⟨1, _⟩ => ⟨S4x256x2048, .f32⟩
  | .hbm, ⟨2, _⟩ => ⟨S1024x2560, .f32⟩
  | .hbm, ⟨3, _⟩ => ⟨S3x768, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x2560, .bf16⟩
  | .hbm, ⟨8, _⟩ => ⟨S4x256x2048, .bf16⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x2560, .bf16⟩
  | .local _ .vmem, ⟨3, _⟩ => ⟨S3x768, .f32⟩
  | .local _ .vmem, ⟨4, _⟩ => ⟨S1x256x256, .bf16⟩
  | .local _ .vmem, ⟨5, _⟩ => ⟨S1x256x256, .bf16⟩
  | .local _ .vmem, ⟨6, _⟩ => ⟨S1x256x256, .bf16⟩
  | .local _ .vmem, ⟨7, _⟩ => ⟨S1x256x256, .bf16⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1x512x1024, .f32⟩
  | .local _ .vmem, ⟨12, _⟩ => ⟨S1x512x1024, .f32⟩
  | .local _ .vmem, ⟨13, _⟩ => ⟨S8x768, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S4x8192x1024 : Shape := ⟨3, ![4, 8192, 1024]⟩
abbrev S4x256x2048 : Shape := ⟨3, ![4, 256, 2048]⟩
abbrev S1024x2560 : Shape := ⟨2, ![1024, 2560]⟩
abbrev S3x768 : Shape := ⟨2, ![3, 768]⟩
abbrev S1024x1024 : Shape := ⟨2, ![1024, 1024]⟩
abbrev S1024 : Shape := ⟨1, ![1024]⟩
abbrev S4x256x256 : Shape := ⟨3, ![4, 256, 256]⟩
abbrev S4x256x4x64 : Shape := ⟨4, ![4, 256, 4, 64]⟩
abbrev S4x8192x2560 : Shape := ⟨3, ![4, 8192, 2560]⟩
abbrev S4x8192x768 : Shape := ⟨3, ![4, 8192, 768]⟩
abbrev S_ : Shape := ⟨0, ![]⟩
abbrev S4x8194x768 : Shape := ⟨3, ![4, 8194, 768]⟩
abbrev S1x768 : Shape := ⟨2, ![1, 768]⟩
abbrev S768 : Shape := ⟨1, ![768]⟩
abbrev S1x1x768 : Shape := ⟨3, ![1, 1, 768]⟩
abbrev S4x8192x256 : Shape := ⟨3, ![4, 8192, 256]⟩
abbrev S4x8192x4x64 : Shape := ⟨4, ![4, 8192, 4, 64]⟩
abbrev S4x4x8192x256 : Shape := ⟨4, ![4, 4, 8192, 256]⟩
abbrev S4x4x8192 : Shape := ⟨3, ![4, 4, 8192]⟩
abbrev S4x4x8192x1 : Shape := ⟨4, ![4, 4, 8192, 1]⟩
abbrev S4x4x64x8192 : Shape := ⟨4, ![4, 4, 64, 8192]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 98
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x256x2048, .f32⟩
  | .hbm, ⟨2, _⟩ => ⟨S1024x2560, .f32⟩
  | .hbm, ⟨3, _⟩ => ⟨S3x768, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S4x256x256, .f32⟩
  | .hbm, ⟨8, _⟩ => ⟨S4x256x4x64, .f32⟩
  | .hbm, ⟨9, _⟩ => ⟨S4x256x256, .f32⟩
  | .hbm, ⟨10, _⟩ => ⟨S4x256x4x64, .f32⟩
  | .hbm, ⟨11, _⟩ => ⟨S4x8192x2560, .f32⟩
  | .hbm, ⟨12, _⟩ => ⟨S4x8192x768, .f32⟩
  | .hbm, ⟨13, _⟩ => ⟨S4x8192x768, .f32⟩
  | .hbm, ⟨14, _⟩ => ⟨S4x8192x768, .f32⟩
  | .hbm, ⟨15, _⟩ => ⟨S4x8192x768, .f32⟩
  | .hbm, ⟨16, _⟩ => ⟨S_, .i32⟩
  | .hbm, ⟨17, _⟩ => ⟨S_, .f32⟩
  | .hbm, ⟨18, _⟩ => ⟨S4x8194x768, .f32⟩
  | .hbm, ⟨19, _⟩ => ⟨S4x8192x768, .f32⟩
  | .hbm, ⟨20, _⟩ => ⟨S1x768, .f32⟩
  | .hbm, ⟨21, _⟩ => ⟨S768, .f32⟩
  | .hbm, ⟨22, _⟩ => ⟨S1x1x768, .f32⟩
  | .hbm, ⟨23, _⟩ => ⟨S4x8192x768, .f32⟩
  | .hbm, ⟨24, _⟩ => ⟨S4x8192x768, .f32⟩
  | .hbm, ⟨25, _⟩ => ⟨S4x8192x768, .f32⟩
  | .hbm, ⟨26, _⟩ => ⟨S1x768, .f32⟩
  | .hbm, ⟨27, _⟩ => ⟨S768, .f32⟩
  | .hbm, ⟨28, _⟩ => ⟨S1x1x768, .f32⟩
  | .hbm, ⟨29, _⟩ => ⟨S4x8192x768, .f32⟩
  | .hbm, ⟨30, _⟩ => ⟨S4x8192x768, .f32⟩
  | .hbm, ⟨31, _⟩ => ⟨S4x8192x768, .f32⟩
  | .hbm, ⟨32, _⟩ => ⟨S4x8192x768, .f32⟩
  | .hbm, ⟨33, _⟩ => ⟨S1x768, .f32⟩
  | .hbm, ⟨34, _⟩ => ⟨S768, .f32⟩
  | .hbm, ⟨35, _⟩ => ⟨S1x1x768, .f32⟩
  | .hbm, ⟨36, _⟩ => ⟨S4x8192x768, .f32⟩
  | .hbm, ⟨37, _⟩ => ⟨S4x8192x768, .f32⟩
  | .hbm, ⟨38, _⟩ => ⟨S4x8192x768, .f32⟩
  | .hbm, ⟨39, _⟩ => ⟨S4x8192x768, .f32⟩
  | .hbm, ⟨40, _⟩ => ⟨S4x8192x256, .f32⟩
  | .hbm, ⟨41, _⟩ => ⟨S4x8192x4x64, .f32⟩
  | .hbm, ⟨42, _⟩ => ⟨S4x4x8192x256, .f32⟩
  | .hbm, ⟨43, _⟩ => ⟨S_, .f32⟩
  | .hbm, ⟨44, _⟩ => ⟨S4x4x8192x256, .f32⟩
  | .hbm, ⟨45, _⟩ => ⟨S4x4x8192x256, .f32⟩
  | .hbm, ⟨46, _⟩ => ⟨S_, .f32⟩
  | .hbm, ⟨47, _⟩ => ⟨S4x4x8192, .f32⟩
  | .hbm, ⟨48, _⟩ => ⟨S_, .f32⟩
  | .hbm, ⟨49, _⟩ => ⟨S4x4x8192, .f32⟩
  | .hbm, ⟨50, _⟩ => ⟨S4x4x8192, .f32⟩
  | .hbm, ⟨51, _⟩ => ⟨S4x4x8192x1, .f32⟩
  | .hbm, ⟨52, _⟩ => ⟨S4x4x8192x256, .f32⟩
  | .hbm, ⟨53, _⟩ => ⟨S4x4x8192x256, .f32⟩
  | .hbm, ⟨54, _⟩ => ⟨S4x4x8192x256, .f32⟩
  | .hbm, ⟨55, _⟩ => ⟨S_, .f32⟩
  | .hbm, ⟨56, _⟩ => ⟨S4x4x8192, .f32⟩
  | .hbm, ⟨57, _⟩ => ⟨S4x4x8192x1, .f32⟩
  | .hbm, ⟨58, _⟩ => ⟨S4x4x8192x256, .f32⟩
  | .hbm, ⟨59, _⟩ => ⟨S4x4x8192x256, .f32⟩
  | .hbm, ⟨60, _⟩ => ⟨S4x4x64x8192, .f32⟩
  | .hbm, ⟨61, _⟩ => ⟨S4x8192x4x64, .f32⟩
  | .hbm, ⟨62, _⟩ => ⟨S4x8192x256, .f32⟩
  | .hbm, ⟨63, _⟩ => ⟨S4x8192x1024, .f32⟩
  | .hbm, ⟨64, _⟩ => ⟨S4x8192x1024, .f32⟩
  | .hbm, ⟨65, _⟩ => ⟨S_, .f32⟩
  | .hbm, ⟨66, _⟩ => ⟨S4x8192x1024, .f32⟩
  | .hbm, ⟨67, _⟩ => ⟨S4x8192x1024, .f32⟩
  | .hbm, ⟨68, _⟩ => ⟨S4x8192x1024, .f32⟩
  | .hbm, ⟨69, _⟩ => ⟨S_, .f32⟩
  | .hbm, ⟨70, _⟩ => ⟨S4x8192, .f32⟩
  | .hbm, ⟨71, _⟩ => ⟨S4x8192x1, .f32⟩
  | .hbm, ⟨72, _⟩ => ⟨S_, .f32⟩
  | .hbm, ⟨73, _⟩ => ⟨S4x8192x1, .f32⟩
  | .hbm, ⟨74, _⟩ => ⟨S4x8192x1, .f32⟩
  | .hbm, ⟨75, _⟩ => ⟨S4x8192x1024, .f32⟩
  | .hbm, ⟨76, _⟩ => ⟨S4x8192x1024, .f32⟩
  | .hbm, ⟨77, _⟩ => ⟨S4x8192x1024, .f32⟩
  | .hbm, ⟨78, _⟩ => ⟨S_, .f32⟩
  | .hbm, ⟨79, _⟩ => ⟨S4x8192, .f32⟩
  | .hbm, ⟨80, _⟩ => ⟨S4x8192x1, .f32⟩
  | .hbm, ⟨81, _⟩ => ⟨S_, .f32⟩
  | .hbm, ⟨82, _⟩ => ⟨S4x8192x1, .f32⟩
  | .hbm, ⟨83, _⟩ => ⟨S4x8192x1, .f32⟩
  | .hbm, ⟨84, _⟩ => ⟨S4x8192x1024, .f32⟩
  | .hbm, ⟨85, _⟩ => ⟨S4x8192x1024, .f32⟩
  | .hbm, ⟨86, _⟩ => ⟨S_, .f32⟩
  | .hbm, ⟨87, _⟩ => ⟨S4x8192x1, .f32⟩
  | .hbm, ⟨88, _⟩ => ⟨S4x8192x1, .f32⟩
  | .hbm, ⟨89, _⟩ => ⟨S4x8192x1, .f32⟩
  | .hbm, ⟨90, _⟩ => ⟨S4x8192x1024, .f32⟩
  | .hbm, ⟨91, _⟩ => ⟨S4x8192x1024, .f32⟩
  | .hbm, ⟨92, _⟩ => ⟨S1x1x1024, .f32⟩
  | .hbm, ⟨93, _⟩ => ⟨S4x8192x1024, .f32⟩
  | .hbm, ⟨94, _⟩ => ⟨S4x8192x1024, .f32⟩
  | .hbm, ⟨95, _⟩ => ⟨S1x1x1024, .f32⟩
  | .hbm, ⟨96, _⟩ => ⟨S4x8192x1024, .f32⟩
  | .hbm, ⟨97, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst : Ref sig .tc := ⟨.hbm, 43, rfl⟩
abbrev main_v34 : Ref sig .tc := ⟨.hbm, 44, rfl⟩
abbrev main_v35 : Ref sig .tc := ⟨.hbm, 45, rfl⟩
abbrev main_cst_0 : Ref sig .tc := ⟨.hbm, 46, rfl⟩
abbrev main_v36 : Ref sig .tc := ⟨.hbm, 47, rfl⟩
abbrev main_cst_1 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_2 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_3 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_4 : Ref sig .tc := ⟨.hbm, 69, rfl⟩
abbrev main_v55 : Ref sig .tc := ⟨.hbm, 70, rfl⟩
abbrev main_v56 : Ref sig .tc := ⟨.hbm, 71, rfl⟩
abbrev main_cst_5 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_6 : Ref sig .tc := ⟨.hbm, 78, rfl⟩
abbrev main_v62 : Ref sig .tc := ⟨.hbm, 79, rfl⟩
abbrev main_v63 : Ref sig .tc := ⟨.hbm, 80, rfl⟩
abbrev main_cst_7 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_8 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩

abbrev nD : Nat := 1
abbrev τ : Topo := Topo.v7x

variable {F : FTy → Type} [FloatOps F]
-- ==== Kernel2.lean ====
abbrev S32768x1024 : Shape := ⟨2, ![32768, 1024]⟩
abbrev S2x1024x5632 : Shape := ⟨3, ![2, 1024, 5632]⟩
abbrev S2x2816x1024 : Shape := ⟨3, ![2, 2816, 1024]⟩
abbrev S1024 : Shape := ⟨1, ![1024]⟩
abbrev S1x1024 : Shape := ⟨2, ![1, 1024]⟩
abbrev S1024x1024 : Shape := ⟨2, ![1024, 1024]⟩
abbrev S1x1024x1408 : Shape := ⟨3, ![1, 1024, 1408]⟩
abbrev S1x1408x1024 : Shape := ⟨3, ![1, 1408, 1024]⟩
abbrev S1024x1408 : Shape := ⟨2, ![1024, 1408]⟩
abbrev S1408x1024 : Shape := ⟨2, ![1408, 1024]⟩
abbrev S1024x1 : Shape := ⟨2, ![1024, 1]⟩

abbrev nBuf : Space → Nat
  | .hbm => 10
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S2x1024x5632, .f32⟩
  | .hbm, ⟨2, _⟩ => ⟨S2x2816x1024, .f32⟩
  | .hbm, ⟨3, _⟩ => ⟨S1024, .f32⟩
  | .hbm, ⟨4, _⟩ => ⟨S1024, .f32⟩
  | .hbm, ⟨5, _⟩ => ⟨S2x1024x5632, .bf16⟩
  | .hbm, ⟨6, _⟩ => ⟨S2x2816x1024, .bf16⟩
  | .hbm, ⟨7, _⟩ => ⟨S1x1024, .f32⟩
  | .hbm, ⟨8, _⟩ => ⟨S1x1024, .f32⟩
  | .hbm, ⟨9, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1408x1024, .bf16⟩
  | .local _ .vmem, ⟨7, _⟩ => ⟨S1x1408x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 2], ![false, false]⟩

def k0_cond3 (i : grid0.Coords) : BitVec 1 :=
  let arg1 : BitVec 32 := BitVec.ofNat 32 (i 1).val
  let c1_i32 : BitVec 32 := 1#32
  let v6 : BitVec 1 := Scalar.cmpi .eq arg1 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S32768x1024 : Shape := ⟨2, ![32768, 1024]⟩
abbrev S2x1024x5632 : Shape := ⟨3, ![2, 1024, 5632]⟩
abbrev S2x2816x1024 : Shape := ⟨3, ![2, 2816, 1024]⟩
abbrev S1024 : Shape := ⟨1, ![1024]⟩
abbrev S_ : Shape := ⟨0, ![]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S32768x5632 : Shape := ⟨2, ![32768, 5632]⟩
abbrev S32768x2816 : Shape := ⟨2, ![32768, 2816]⟩
abbrev S32768 : Shape := ⟨1, ![32768]⟩
abbrev S32768x1 : Shape := ⟨2, ![32768, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x1024x5632, .f32⟩
  | .hbm, ⟨2, _⟩ => ⟨S2x2816x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S32768x1024, .f32⟩
  | .hbm, ⟨7, _⟩ => ⟨S32768x1024, .f32⟩
  | .hbm, ⟨8, _⟩ => ⟨S1x1024x5632, .f32⟩
  | .hbm, ⟨9, _⟩ => ⟨S1024x5632, .f32⟩
  | .hbm, ⟨10, _⟩ => ⟨S1x2816x1024, .f32⟩
  | .hbm, ⟨11, _⟩ => ⟨S2816x1024, .f32⟩
  | .hbm, ⟨12, _⟩ => ⟨S32768x5632, .f32⟩
  | .hbm, ⟨13, _⟩ => ⟨S32768x2816, .f32⟩
  | .hbm, ⟨14, _⟩ => ⟨S32768x2816, .f32⟩
  | .hbm, ⟨15, _⟩ => ⟨S32768x2816, .f32⟩
  | .hbm, ⟨16, _⟩ => ⟨S_, .f32⟩
  | .hbm, ⟨17, _⟩ => ⟨S32768x2816, .f32⟩
  | .hbm, ⟨18, _⟩ => ⟨S32768x2816, .f32⟩
  | .hbm, ⟨19, _⟩ => ⟨S_, .f32⟩
  | .hbm, ⟨20, _⟩ => ⟨S32768x2816, .f32⟩
  | .hbm, ⟨21, _⟩ => ⟨S32768x2816, .f32⟩
  | .hbm, ⟨22, _⟩ => ⟨S32768x2816, .f32⟩
  | .hbm, ⟨23, _⟩ => ⟨S32768x2816, .f32⟩
  | .hbm, ⟨24, _⟩ => ⟨S32768x2816, .f32⟩
  | .hbm, ⟨25, _⟩ => ⟨S32768x1024, .f32⟩
  | .hbm, ⟨26, _⟩ => ⟨S32768x1024, .f32⟩
  | .hbm, ⟨27, _⟩ => ⟨S_, .f32⟩
  | .hbm, ⟨28, _⟩ => ⟨S32768, .f32⟩
  | .hbm, ⟨29, _⟩ => ⟨S32768x1, .f32⟩
  | .hbm, ⟨30, _⟩ => ⟨S_, .f32⟩
  | .hbm, ⟨31, _⟩ => ⟨S32768x1, .f32⟩
  | .hbm, ⟨32, _⟩ => ⟨S32768x1, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S_, .f32⟩
  | .hbm, ⟨37, _⟩ => ⟨S32768, .f32⟩
  | .hbm, ⟨38, _⟩ => ⟨S32768x1, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S32768x1024, .f32⟩
  | .hbm, ⟨43, _⟩ => ⟨S32768x1024, .f32⟩
  | .hbm, ⟨44, _⟩ => ⟨S_, .f32⟩
  | .hbm, ⟨45, _⟩ => ⟨S32768x1, .f32⟩
  | .hbm, ⟨46, _⟩ => ⟨S32768x1, .f32⟩
  | .hbm, ⟨47, _⟩ => ⟨S32768x1, .f32⟩
  | .hbm, ⟨48, _⟩ => ⟨S32768x1024, .f32⟩
  | .hbm, ⟨49, _⟩ => ⟨S32768x1024, .f32⟩
  | .hbm, ⟨50, _⟩ => ⟨S1x1024, .f32⟩
  | .hbm, ⟨51, _⟩ => ⟨S32768x1024, .f32⟩
  | .hbm, ⟨52, _⟩ => ⟨S32768x1024, .f32⟩
  | .hbm, ⟨53, _⟩ => ⟨S1x1024, .f32⟩
  | .hbm, ⟨54, _⟩ => ⟨S32768x1024, .f32⟩
  | .hbm, ⟨55, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩

abbrev nD : Nat := 1
abbrev τ : Topo := Topo.v7x

variable {F : FTy → Type} [FloatOps F]
-- ==== Kernel3.lean ====
abbrev S69632x1024 : Shape := ⟨2, ![69632, 1024]⟩
abbrev S8 : Shape := ⟨1, ![8]⟩
abbrev S2x8x1024x5632 : Shape := ⟨4, ![2, 8, 1024, 5632]⟩
abbrev S2x8x2816x1024 : Shape := ⟨4, ![2, 8, 2816, 1024]⟩
abbrev S_ : Shape := ⟨0, ![]⟩
abbrev S136 : Shape := ⟨1, ![136]⟩
abbrev S136x1 : Shape := ⟨2, ![136, 1]⟩
abbrev S1x8 : Shape := ⟨2, ![1, 8]⟩
abbrev S136x8 : Shape := ⟨2, ![136, 8]⟩
abbrev S1 : Shape := ⟨1, ![1]⟩
abbrev S512x1024 : Shape := ⟨2, ![512, 1024]⟩
abbrev S1x1x1024x1408 : Shape := ⟨4, ![1, 1, 1024, 1408]⟩
abbrev S1x1x1408x1024 : Shape := ⟨4, ![1, 1, 1408, 1024]⟩
abbrev S1024x1408 : Shape := ⟨2, ![1024, 1408]⟩
abbrev S1408x1024 : Shape := ⟨2, ![1408, 1024]⟩
abbrev S512x1408 : Shape := ⟨2, ![512, 1408]⟩

abbrev nBuf : Space → Nat
  | .hbm => 45
  | .vmem => 12
  | .smem => 2
  | _ => 0

abbrev bufTy : (tb : Table) → Fin (tcTables nBuf tb) → BufTy
  | .hbm, ⟨0, _⟩ => ⟨S69632x1024, .f32⟩
  | .hbm, ⟨1, _⟩ => ⟨S8, .i32⟩
  | .hbm, ⟨2, _⟩ => ⟨S2x8x1024x5632, .f32⟩
  | .hbm, ⟨3, _⟩ => ⟨S2x8x2816x1024, .f32⟩
  | .hbm, ⟨4, _⟩ => ⟨S_, .i32⟩
  | .hbm, ⟨5, _⟩ => ⟨S8, .i32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S_, .i32⟩
  | .hbm, ⟨11, _⟩ => ⟨S_, .i32⟩
  | .hbm, ⟨12, _⟩ => ⟨S8, .i32⟩
  | .hbm, ⟨13, _⟩ => ⟨S8, .i32⟩
  | .hbm, ⟨14, _⟩ => ⟨S8, .i32⟩
  | .hbm, ⟨15, _⟩ => ⟨S_, .i32⟩
  | .hbm, ⟨16, _⟩ => ⟨S8, .i32⟩
  | .hbm, ⟨17, _⟩ => ⟨S8, .i1⟩
  | .hbm, ⟨18, _⟩ => ⟨S8, .i32⟩
  | .hbm, ⟨19, _⟩ => ⟨S8, .i32⟩
  | .hbm, ⟨20, _⟩ => ⟨S_, .i32⟩
  | .hbm, ⟨21, _⟩ => ⟨S8, .i32⟩
  | .hbm, ⟨22, _⟩ => ⟨S8, .i1⟩
  | .hbm, ⟨23, _⟩ => ⟨S8, .i1⟩
  | .hbm, ⟨24, _⟩ => ⟨S_, .i32⟩
  | .hbm, ⟨25, _⟩ => ⟨S8, .i32⟩
  | .hbm, ⟨26, _⟩ => ⟨S8, .i32⟩
  | .hbm, ⟨27, _⟩ => ⟨S8, .i32⟩
  | .hbm, ⟨28, _⟩ => ⟨S_, .i32⟩
  | .hbm, ⟨29, _⟩ => ⟨S_, .i32⟩
  | .hbm, ⟨30, _⟩ => ⟨S8, .i32⟩
  | .hbm, ⟨31, _⟩ => ⟨S136, .i32⟩
  | .hbm, ⟨32, _⟩ => ⟨S136x1, .i32⟩
  | .hbm, ⟨33, _⟩ => ⟨S1x8, .i32⟩
  | .hbm, ⟨34, _⟩ => ⟨S136x8, .i32⟩
  | .hbm, ⟨35, _⟩ => ⟨S136x8, .i32⟩
  | .hbm, ⟨36, _⟩ => ⟨S136x8, .i1⟩
  | .hbm, ⟨37, _⟩ => ⟨S136x8, .i32⟩
  | .hbm, ⟨38, _⟩ => ⟨S_, .i32⟩
  | .hbm, ⟨39, _⟩ => ⟨S136, .i32⟩
  | .hbm, ⟨40, _⟩ => ⟨S_, .i32⟩
  | .hbm, ⟨41, _⟩ => ⟨S136, .i32⟩
  | .hbm, ⟨42, _⟩ => ⟨S2x8x1024x5632, .bf16⟩
  | .hbm, ⟨43, _⟩ => ⟨S2x8x2816x1024, .bf16⟩
  | .hbm, ⟨44, _⟩ => ⟨S69632x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1x1x1024x1408, .bf16⟩
  | .local _ .vmem, ⟨5, _⟩ => ⟨S1x1x1024x1408, .bf16⟩
  | .local _ .vmem, ⟨6, _⟩ => ⟨S1x1x1408x1024, .bf16⟩
  | .local _ .vmem, ⟨7, _⟩ => ⟨S1x1x1408x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .smem, ⟨0, _⟩ => ⟨S136, .i32⟩
  | .local _ .smem, ⟨1, _⟩ => ⟨S1, .i32⟩
  | _, _ => ⟨S69632x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v4 : Ref sig .tc := ⟨.hbm, 27, rfl⟩
abbrev main_call1_call0_c : Ref sig .tc := ⟨.hbm, 28, rfl⟩
abbrev main_call1_call0_v0 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_c_2 : Ref sig .tc := ⟨.hbm, 38, rfl⟩
abbrev main_v13 : Ref sig .tc := ⟨.hbm, 39, rfl⟩
abbrev main_c_3 : Ref sig .tc := ⟨.hbm, 40, rfl⟩
abbrev main_v14 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v15 : Ref sig .tc := ⟨.smem, 0, rfl⟩
abbrev main_v16 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![136, 2], ![false, false]⟩

abbrev pre0 : Pipeline.Prefetch sig := ⟨2, ![main_v15.idx, main_v16.idx], fun | 0 => main_v15.names | 1 => main_v16.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v_true : BitVec 1 := 1#1
  let v2 : BitVec 1 := Scalar.xori v1 v_true
  let arg1 : BitVec 32 := BitVec.ofNat 32 (i 1).val
  let c1_i32 : BitVec 32 := 1#32
  let v3 : BitVec 1 := Scalar.cmpi .eq arg1 c1_i32
  let v4 : BitVec 1 := Scalar.andi v2 v3
  let v5 : BitVec 32 := Scalar.extui v4
  let c0_i32 : BitVec 32 := 0#32
  let v6 : BitVec 1 := Scalar.cmpi .ne v5 c0_i32
  v6

def k0_cond2 (i : grid0.Coords) (v0 : BitVec 32) : BitVec 1 :=
  let arg0 : BitVec 32 := BitVec.ofNat 32 (i 0).val
  let v1 : BitVec 1 := Scalar.cmpi .slt arg0 v0
  let v7 : BitVec 32 := Scalar.extui v1
  let c0_i32_0 : BitVec 32 := 0#32
  let v8 : BitVec 1 := Scalar.cmpi .ne v7 c0_i32_0
  v8

def k0_cond5 (i : grid0.Coords) : BitVec 1 :=
  let arg1 : BitVec 32 := BitVec.ofNat 32 (i 1).val
  let c1_i32_5 : BitVec 32 := 1#32
  let v15 : BitVec 1 := Scalar.cmpi .eq arg1 c1_i32_5
  let v16 : BitVec 32 := Scalar.extui v15
  let c0_i32_6 : BitVec 32 := 0#32
  let v17 : BitVec 1 := Scalar.cmpi .ne v16 c0_i32_6
  v17

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg1.toNat]

def cc0_transform_2 (k0_off1_inb : ∀ i : grid0.Coords, ∀ a, (k0_off1 i) a + S1.size a ≤ S136.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c2_i32 : BitVec 32 := 2#32
  let v2 : BitVec 32 := Scalar.addi arg1 c2_i32
  let c0_i32 : BitVec 32 := 0#32
  let c0_i32_0 : BitVec 32 := 0#32
  let c0_i32_1 : BitVec 32 := 0#32
  ![c0_i32.toNat, v1.toNat, c0_i32_0.toNat, v2.toNat]

def cc0_transform_3 (k0_off1_inb : ∀ i : grid0.Coords, ∀ a, (k0_off1 i) a + S1.size a ≤ S136.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![c0_i32.toNat, v1.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S69632x1024 : Shape := ⟨2, ![69632, 1024]⟩
abbrev S8 : Shape := ⟨1, ![8]⟩
abbrev S2x8x1024x5632 : Shape := ⟨4, ![2, 8, 1024, 5632]⟩
abbrev S2x8x2816x1024 : Shape := ⟨4, ![2, 8, 2816, 1024]⟩
abbrev S_ : Shape := ⟨0, ![]⟩
abbrev S69632 : Shape := ⟨1, ![69632]⟩
abbrev S1 : Shape := ⟨1, ![1]⟩
abbrev S69632x1 : Shape := ⟨2, ![69632, 1]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S69632x5632 : Shape := ⟨2, ![69632, 5632]⟩
abbrev S69632x2816 : Shape := ⟨2, ![69632, 2816]⟩

abbrev nBuf : Space → Nat
  | .hbm => 322
  | .vmem => 0
  | .smem => 0
  | _ => 0

abbrev hbmTy0_0 (i : Nat) : BufTy := match i % 128 with
  | 0 => ⟨S69632x1024, .f32⟩
  | 1 => ⟨S8, .i32⟩
  | 2 => ⟨S2x8x1024x5632, .f32⟩
  | 3 => ⟨S2x8x2816x1024, .f32⟩
  | 4 => ⟨S_, .i32⟩
  | 5 => ⟨S8, .i32⟩
  | 6 => ⟨S8, .i32⟩
  | 7 => ⟨S_, .i32⟩
  | 8 => ⟨S_, .i32⟩
  | 9 => ⟨S8, .i32⟩
  | 10 => ⟨S8, .i32⟩
  | 11 => ⟨S8, .i32⟩
  | 12 => ⟨S_, .i32⟩
  | 13 => ⟨S8, .i32⟩
  | 14 => ⟨S8, .i1⟩
  | 15 => ⟨S8, .i32⟩
  | 16 => ⟨S8, .i32⟩
  | 17 => ⟨S_, .i32⟩
  | 18 => ⟨S8, .i32⟩
  | 19 => ⟨S8, .i1⟩
  | 20 => ⟨S8, .i1⟩
  | 21 => ⟨S_, .i32⟩
  | 22 => ⟨S8, .i32⟩
  | 23 => ⟨S8, .i32⟩
  | 24 => ⟨S8, .i32⟩
  | 25 => ⟨S_, .i32⟩
  | 26 => ⟨S8, .i32⟩
  | 27 => ⟨S8, .i32⟩
  | 28 => ⟨S69632, .i32⟩
  | 29 => ⟨S_, .f32⟩
  | 30 => ⟨S69632x1024, .f32⟩
  | 31 => ⟨S_, .i32⟩
  | 32 => ⟨S69632, .i32⟩
  | 33 => ⟨S69632, .i1⟩
  | 34 => ⟨S1, .i32⟩
  | 35 => ⟨S_, .i32⟩
  | 36 => ⟨S_, .i32⟩
  | 37 => ⟨S_, .i32⟩
  | 38 => ⟨S69632, .i32⟩
  | 39 => ⟨S69632, .i1⟩
  | 40 => ⟨S69632, .i1⟩
  | 41 => ⟨S69632x1, .i1⟩
  | 42 => ⟨S1x1x1024x5632, .f32⟩
  | 43 => ⟨S1024x5632, .f32⟩
  | 44 => ⟨S1x1x2816x1024, .f32⟩
  | 45 => ⟨S2816x1024, .f32⟩
  | 46 => ⟨S69632x5632, .f32⟩
  | 47 => ⟨S69632x2816, .f32⟩
  | 48 => ⟨S69632x2816, .f32⟩
  | 49 => ⟨S69632x2816, .f32⟩
  | 50 => ⟨S_, .f32⟩
  | 51 => ⟨S69632x2816, .f32⟩
  | 52 => ⟨S69632x2816, .f32⟩
  | 53 => ⟨S_, .f32⟩
  | 54 => ⟨S69632x2816, .f32⟩
  | 55 => ⟨S69632x2816, .f32⟩
  | 56 => ⟨S69632x2816, .f32⟩
  | 57 => ⟨S69632x2816, .f32⟩
  | 58 => ⟨S69632x2816, .f32⟩
  | 59 => ⟨S69632x1024, .f32⟩
  | 60 => ⟨S_, .f32⟩
  | 61 => ⟨S_, .f32⟩
  | 62 => ⟨S69632x1024, .i1⟩
  | 63 => ⟨S69632x1024, .f32⟩
  | 64 => ⟨S69632x1024, .f32⟩
  | 65 => ⟨S69632x1024, .f32⟩
  | 66 => ⟨S1, .i32⟩
  | 67 => ⟨S_, .i32⟩
  | 68 => ⟨S_, .i32⟩
  | 69 => ⟨S_, .i32⟩
  | 70 => ⟨S69632, .i32⟩
  | 71 => ⟨S69632, .i1⟩
  | 72 => ⟨S1, .i32⟩
  | 73 => ⟨S_, .i32⟩
  | 74 => ⟨S_, .i32⟩
  | 75 => ⟨S69632, .i32⟩
  | 76 => ⟨S69632, .i1⟩
  | 77 => ⟨S69632, .i1⟩
  | 78 => ⟨S69632x1, .i1⟩
  | 79 => ⟨S1x1x1024x5632, .f32⟩
  | 80 => ⟨S1024x5632, .f32⟩
  | 81 => ⟨S1x1x2816x1024, .f32⟩
  | 82 => ⟨S2816x1024, .f32⟩
  | 83 => ⟨S69632x5632, .f32⟩
  | 84 => ⟨S69632x2816, .f32⟩
  | 85 => ⟨S69632x2816, .f32⟩
  | 86 => ⟨S69632x2816, .f32⟩
  | 87 => ⟨S_, .f32⟩
  | 88 => ⟨S69632x2816, .f32⟩
  | 89 => ⟨S69632x2816, .f32⟩
  | 90 => ⟨S_, .f32⟩
  | 91 => ⟨S69632x2816, .f32⟩
  | 92 => ⟨S69632x2816, .f32⟩
  | 93 => ⟨S69632x2816, .f32⟩
  | 94 => ⟨S69632x2816, .f32⟩
  | 95 => ⟨S69632x2816, .f32⟩
  | 96 => ⟨S69632x1024, .f32⟩
  | 97 => ⟨S_, .f32⟩
  | 98 => ⟨S_, .f32⟩
  | 99 => ⟨S69632x1024, .i1⟩
  | 100 => ⟨S69632x1024, .f32⟩
  | 101 => ⟨S69632x1024, .f32⟩
  | 102 => ⟨S69632x1024, .f32⟩
  | 103 => ⟨S1, .i32⟩
  | 104 => ⟨S_, .i32⟩
  | 105 => ⟨S_, .i32⟩
  | 106 => ⟨S69632, .i32⟩
  | 107 => ⟨S69632, .i1⟩
  | 108 => ⟨S1, .i32⟩
  | 109 => ⟨S_, .i32⟩
  | 110 => ⟨S_, .i32⟩
  | 111 => ⟨S69632, .i32⟩
  | 112 => ⟨S69632, .i1⟩
  | 113 => ⟨S69632, .i1⟩
  | 114 => ⟨S69632x1, .i1⟩
  | 115 => ⟨S1x1x1024x5632, .f32⟩
  | 116 => ⟨S1024x5632, .f32⟩
  | 117 => ⟨S1x1x2816x1024, .f32⟩
  | 118 => ⟨S2816x1024, .f32⟩
  | 119 => ⟨S69632x5632, .f32⟩
  | 120 => ⟨S69632x2816, .f32⟩
  | 121 => ⟨S69632x2816, .f32⟩
  | 122 => ⟨S69632x2816, .f32⟩
  | 123 => ⟨S_, .f32⟩
  | 124 => ⟨S69632x2816, .f32⟩
  | 125 => ⟨S69632x2816, .f32⟩
  | 126 => ⟨S_, .f32⟩
  | 127 => ⟨S69632x2816, .f32⟩
  | _ => ⟨S69632x1024, .f32⟩

abbrev hbmTy0_1 (i : Nat) : BufTy := match i % 128 with
  | 0 => ⟨S69632x2816, .f32⟩
  | 1 => ⟨S69632x2816, .f32⟩
  | 2 => ⟨S69632x2816, .f32⟩
  | 3 => ⟨S69632x2816, .f32⟩
  | 4 => ⟨S69632x1024, .f32⟩
  | 5 => ⟨S_, .f32⟩
  | 6 => ⟨S_, .f32⟩
  | 7 => ⟨S69632x1024, .i1⟩
  | 8 => ⟨S69632x1024, .f32⟩
  | 9 => ⟨S69632x1024, .f32⟩
  | 10 => ⟨S69632x1024, .f32⟩
  | 11 => ⟨S1, .i32⟩
  | 12 => ⟨S_, .i32⟩
  | 13 => ⟨S_, .i32⟩
  | 14 => ⟨S69632, .i32⟩
  | 15 => ⟨S69632, .i1⟩
  | 16 => ⟨S1, .i32⟩
  | 17 => ⟨S_, .i32⟩
  | 18 => ⟨S_, .i32⟩
  | 19 => ⟨S69632, .i32⟩
  | 20 => ⟨S69632, .i1⟩
  | 21 => ⟨S69632, .i1⟩
  | 22 => ⟨S69632x1, .i1⟩
  | 23 => ⟨S1x1x1024x5632, .f32⟩
  | 24 => ⟨S1024x5632, .f32⟩
  | 25 => ⟨S1x1x2816x1024, .f32⟩
  | 26 => ⟨S2816x1024, .f32⟩
  | 27 => ⟨S69632x5632, .f32⟩
  | 28 => ⟨S69632x2816, .f32⟩
  | 29 => ⟨S69632x2816, .f32⟩
  | 30 => ⟨S69632x2816, .f32⟩
  | 31 => ⟨S_, .f32⟩
  | 32 => ⟨S69632x2816, .f32⟩
  | 33 => ⟨S69632x2816, .f32⟩
  | 34 => ⟨S_, .f32⟩
  | 35 => ⟨S69632x2816, .f32⟩
  | 36 => ⟨S69632x2816, .f32⟩
  | 37 => ⟨S69632x2816, .f32⟩
  | 38 => ⟨S69632x2816, .f32⟩
  | 39 => ⟨S69632x2816, .f32⟩
  | 40 => ⟨S69632x1024, .f32⟩
  | 41 => ⟨S_, .f32⟩
  | 42 => ⟨S_, .f32⟩
  | 43 => ⟨S69632x1024, .i1⟩
  | 44 => ⟨S69632x1024, .f32⟩
  | 45 => ⟨S69632x1024, .f32⟩
  | 46 => ⟨S69632x1024, .f32⟩
  | 47 => ⟨S1, .i32⟩
  | 48 => ⟨S_, .i32⟩
  | 49 => ⟨S_, .i32⟩
  | 50 => ⟨S69632, .i32⟩
  | 51 => ⟨S69632, .i1⟩
  | 52 => ⟨S1, .i32⟩
  | 53 => ⟨S_, .i32⟩
  | 54 => ⟨S_, .i32⟩
  | 55 => ⟨S69632, .i32⟩
  | 56 => ⟨S69632, .i1⟩
  | 57 => ⟨S69632, .i1⟩
  | 58 => ⟨S69632x1, .i1⟩
  | 59 => ⟨S1x1x1024x5632, .f32⟩
  | 60 => ⟨S1024x5632, .f32⟩
  | 61 => ⟨S1x1x2816x1024, .f32⟩
  | 62 => ⟨S2816x1024, .f32⟩
  | 63 => ⟨S69632x5632, .f32⟩
  | 64 => ⟨S69632x2816, .f32⟩
  | 65 => ⟨S69632x2816, .f32⟩
  | 66 => ⟨S69632x2816, .f32⟩
  | 67 => ⟨S_, .f32⟩
  | 68 => ⟨S69632x2816, .f32⟩
  | 69 => ⟨S69632x2816, .f32⟩
  | 70 => ⟨S_, .f32⟩
  | 71 => ⟨S69632x2816, .f32⟩
  | 72 => ⟨S69632x2816, .f32⟩
  | 73 => ⟨S69632x2816, .f32⟩
  | 74 => ⟨S69632x2816, .f32⟩
  | 75 => ⟨S69632x2816, .f32⟩
  | 76 => ⟨S69632x1024, .f32⟩
  | 77 => ⟨S_, .f32⟩
  | 78 => ⟨S_, .f32⟩
  | 79 => ⟨S69632x1024, .i1⟩
  | 80 => ⟨S69632x1024, .f32⟩
  | 81 => ⟨S69632x1024, .f32⟩
  | 82 => ⟨S69632x1024, .f32⟩
  | 83 => ⟨S1, .i32⟩
  | 84 => ⟨S_, .i32⟩
  | 85 => ⟨S_, .i32⟩
  | 86 => ⟨S69632, .i32⟩
  | 87 => ⟨S69632, .i1⟩
  | 88 => ⟨S1, .i32⟩
  | 89 => ⟨S_, .i32⟩
  | 90 => ⟨S_, .i32⟩
  | 91 => ⟨S69632, .i32⟩
  | 92 => ⟨S69632, .i1⟩
  | 93 => ⟨S69632, .i1⟩
  | 94 => ⟨S69632x1, .i1⟩
  | 95 => ⟨S1x1x1024x5632, .f32⟩
  | 96 => ⟨S1024x5632, .f32⟩
  | 97 => ⟨S1x1x2816x1024, .f32⟩
  | 98 => ⟨S2816x1024, .f32⟩
  | 99 => ⟨S69632x5632, .f32⟩
  | 100 => ⟨S69632x2816, .f32⟩
  | 101 => ⟨S69632x2816, .f32⟩
  | 102 => ⟨S69632x2816, .f32⟩
  | 103 => ⟨S_, .f32⟩
  | 104 => ⟨S69632x2816, .f32⟩
  | 105 => ⟨S69632x2816, .f32⟩
  | 106 => ⟨S_, .f32⟩
  | 107 => ⟨S69632x2816, .f32⟩
  | 108 => ⟨S69632x2816, .f32⟩
  | 109 => ⟨S69632x2816, .f32⟩
  | 110 => ⟨S69632x2816, .f32⟩
  | 111 => ⟨S69632x2816, .f32⟩
  | 112 => ⟨S69632x1024, .f32⟩
  | 113 => ⟨S_, .f32⟩
  | 114 => ⟨S_, .f32⟩
  | 115 => ⟨S69632x1024, .i1⟩
  | 116 => ⟨S69632x1024, .f32⟩
  | 117 => ⟨S69632x1024, .f32⟩
  | 118 => ⟨S69632x1024, .f32⟩
  | 119 => ⟨S1, .i32⟩
  | 120 => ⟨S_, .i32⟩
  | 121 => ⟨S_, .i32⟩
  | 122 => ⟨S69632, .i32⟩
  | 123 => ⟨S69632, .i1⟩
  | 124 => ⟨S1, .i32⟩
  | 125 => ⟨S_, .i32⟩
  | 126 => ⟨S_, .i32⟩
  | 127 => ⟨S69632, .i32⟩
  | _ => ⟨S69632x1024, .f32⟩

abbrev hbmTy0_2 (i : Nat) : BufTy := match i % 128 with
  | 0 => ⟨S69632, .i1⟩
  | 1 => ⟨S69632, .i1⟩
  | 2 => ⟨S69632x1, .i1⟩
  | 3 => ⟨S1x1x1024x5632, .f32⟩
  | 4 => ⟨S1024x5632, .f32⟩
  | 5 => ⟨S1x1x2816x1024, .f32⟩
  | 6 => ⟨S2816x1024, .f32⟩
  | 7 => ⟨S69632x5632, .f32⟩
  | 8 => ⟨S69632x2816, .f32⟩
  | 9 => ⟨S69632x2816, .f32⟩
  | 10 => ⟨S69632x2816, .f32⟩
  | 11 => ⟨S_, .f32⟩
  | 12 => ⟨S69632x2816, .f32⟩
  | 13 => ⟨S69632x2816, .f32⟩
  | 14 => ⟨S_, .f32⟩
  | 15 => ⟨S69632x2816, .f32⟩
  | 16 => ⟨S69632x2816, .f32⟩
  | 17 => ⟨S69632x2816, .f32⟩
  | 18 => ⟨S69632x2816, .f32⟩
  | 19 => ⟨S69632x2816, .f32⟩
  | 20 => ⟨S69632x1024, .f32⟩
  | 21 => ⟨S_, .f32⟩
  | 22 => ⟨S_, .f32⟩
  | 23 => ⟨S69632x1024, .i1⟩
  | 24 => ⟨S69632x1024, .f32⟩
  | 25 => ⟨S69632x1024, .f32⟩
  | 26 => ⟨S69632x1024, .f32⟩
  | 27 => ⟨S1, .i32⟩
  | 28 => ⟨S_, .i32⟩
  | 29 => ⟨S_, .i32⟩
  | 30 => ⟨S69632, .i32⟩
  | 31 => ⟨S69632, .i1⟩
  | 32 => ⟨S1, .i32⟩
  | 33 => ⟨S_, .i32⟩
  | 34 => ⟨S_, .i32⟩
  | 35 => ⟨S69632, .i32⟩
  | 36 => ⟨S69632, .i1⟩
  | 37 => ⟨S69632, .i1⟩
  | 38 => ⟨S69632x1, .i1⟩
  | 39 => ⟨S1x1x1024x5632, .f32⟩
  | 40 => ⟨S1024x5632, .f32⟩
  | 41 => ⟨S1x1x2816x1024, .f32⟩
  | 42 => ⟨S2816x1024, .f32⟩
  | 43 => ⟨S69632x5632, .f32⟩
  | 44 => ⟨S69632x2816, .f32⟩
  | 45 => ⟨S69632x2816, .f32⟩
  | 46 => ⟨S69632x2816, .f32⟩
  | 47 => ⟨S_, .f32⟩
  | 48 => ⟨S69632x2816, .f32⟩
  | 49 => ⟨S69632x2816, .f32⟩
  | 50 => ⟨S_, .f32⟩
  | 51 => ⟨S69632x2816, .f32⟩
  | 52 => ⟨S69632x2816, .f32⟩
  | 53 => ⟨S69632x2816, .f32⟩
  | 54 => ⟨S69632x2816, .f32⟩
  | 55 => ⟨S69632x2816, .f32⟩
  | 56 => ⟨S69632x1024, .f32⟩
  | 57 => ⟨S_, .f32⟩
  | 58 => ⟨S_, .f32⟩
  | 59 => ⟨S69632x1024, .i1⟩
  | 60 => ⟨S69632x1024, .f32⟩
  | 61 => ⟨S69632x1024, .f32⟩
  | 62 => ⟨S69632x1024, .f32⟩
  | 63 => ⟨S1, .i32⟩
  | 64 => ⟨S_, .i32⟩
  | 65 => ⟨S_, .i32⟩
  | _ => ⟨S69632x1024, .f32⟩

abbrev hbmTy (i : Nat) : BufTy := match i / 128 with
  | 0 => hbmTy0_0 i
  | 1 => hbmTy0_1 i
  | 2 => hbmTy0_2 i
  | _ => ⟨S69632x1024, .f32⟩

abbrev bufTy : (tb : Table) → Fin (tcTables nBuf tb) → BufTy
  | .hbm, ⟨i, _⟩ => hbmTy i
  | _, _ => ⟨S69632x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v2 : Ref sig .tc := ⟨.hbm, 24, rfl⟩
abbrev main_c_1 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_cst : Ref sig .tc := ⟨.hbm, 29, rfl⟩
abbrev main_v6 : Ref sig .tc := ⟨.hbm, 30, rfl⟩
abbrev main_c_2 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_c_3 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_call1_v0 : Ref sig .tc := ⟨.hbm, 48, rfl⟩
abbrev main_call1_v1 : Ref sig .tc := ⟨.hbm, 49, rfl⟩
abbrev main_call1_cst : Ref sig .tc := ⟨.hbm, 50, rfl⟩
abbrev main_call1_v2 : Ref sig .tc := ⟨.hbm, 51, rfl⟩
abbrev main_call1_v3 : Ref sig .tc := ⟨.hbm, 52, rfl⟩
abbrev main_call1_cst_0 : Ref sig .tc := ⟨.hbm, 53, rfl⟩
abbrev main_call1_v4 : Ref sig .tc := ⟨.hbm, 54, rfl⟩
abbrev main_call1_v5 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_cst_4 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_c_5 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_call3_v0 : Ref sig .tc := ⟨.hbm, 85, rfl⟩
abbrev main_call3_v1 : Ref sig .tc := ⟨.hbm, 86, rfl⟩
abbrev main_call3_cst : Ref sig .tc := ⟨.hbm, 87, rfl⟩
abbrev main_call3_v2 : Ref sig .tc := ⟨.hbm, 88, rfl⟩
abbrev main_call3_v3 : Ref sig .tc := ⟨.hbm, 89, rfl⟩
abbrev main_call3_cst_0 : Ref sig .tc := ⟨.hbm, 90, rfl⟩
abbrev main_call3_v4 : Ref sig .tc := ⟨.hbm, 91, rfl⟩
abbrev main_call3_v5 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_cst_6 : Ref sig .tc := ⟨.hbm, 97, rfl⟩
abbrev main_call4_v0 : Ref sig .tc := ⟨.hbm, 98, rfl⟩
abbrev main_call4_v1 : Ref sig .tc := ⟨.hbm, 99, rfl⟩
abbrev main_call4_v2 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_call5_v0 : Ref sig .tc := ⟨.hbm, 121, rfl⟩
abbrev main_call5_v1 : Ref sig .tc := ⟨.hbm, 122, rfl⟩
abbrev main_call5_cst : Ref sig .tc := ⟨.hbm, 123, rfl⟩
abbrev main_call5_v2 : Ref sig .tc := ⟨.hbm, 124, rfl⟩
abbrev main_call5_v3 : Ref sig .tc := ⟨.hbm, 125, rfl⟩
abbrev main_call5_cst_0 : Ref sig .tc := ⟨.hbm, 126, rfl⟩
abbrev main_call5_v4 : Ref sig .tc := ⟨.hbm, 127, rfl⟩
abbrev main_call5_v5 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_cst_7 : Ref sig .tc := ⟨.hbm, 133, rfl⟩
abbrev main_call6_v0 : Ref sig .tc := ⟨.hbm, 134, rfl⟩
abbrev main_call6_v1 : Ref sig .tc := ⟨.hbm, 135, rfl⟩
abbrev main_call6_v2 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_call7_v0 : Ref sig .tc := ⟨.hbm, 157, rfl⟩
abbrev main_call7_v1 : Ref sig .tc := ⟨.hbm, 158, rfl⟩
abbrev main_call7_cst : Ref sig .tc := ⟨.hbm, 159, rfl⟩
abbrev main_call7_v2 : Ref sig .tc := ⟨.hbm, 160, rfl⟩
abbrev main_call7_v3 : Ref sig .tc := ⟨.hbm, 161, rfl⟩
abbrev main_call7_cst_0 : Ref sig .tc := ⟨.hbm, 162, rfl⟩
abbrev main_call7_v4 : Ref sig .tc := ⟨.hbm, 163, rfl⟩
abbrev main_call7_v5 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_cst_8 : Ref sig .tc := ⟨.hbm, 169, rfl⟩
abbrev main_call8_v0 : Ref sig .tc := ⟨.hbm, 170, rfl⟩
abbrev main_call8_v1 : Ref sig .tc := ⟨.hbm, 171, rfl⟩
abbrev main_call8_v2 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_v115 : Ref sig .tc := ⟨.hbm, 190, rfl⟩
abbrev main_v116 : Ref sig .tc := ⟨.hbm, 191, rfl⟩
abbrev main_v117 : Ref sig .tc := ⟨.hbm, 192, rfl⟩
abbrev main_call9_v0 : Ref sig .tc := ⟨.hbm, 193, rfl⟩
abbrev main_call9_v1 : Ref sig .tc := ⟨.hbm, 194, rfl⟩
abbrev main_call9_cst : Ref sig .tc := ⟨.hbm, 195, rfl⟩
abbrev main_call9_v2 : Ref sig .tc := ⟨.hbm, 196, rfl⟩
abbrev main_call9_v3 : Ref sig .tc := ⟨.hbm, 197, rfl⟩
abbrev main_call9_cst_0 : Ref sig .tc := ⟨.hbm, 198, rfl⟩
abbrev main_call9_v4 : Ref sig .tc := ⟨.hbm, 199, rfl⟩
abbrev main_call9_v5 : Ref sig .tc := ⟨.hbm, 200, rfl⟩
abbrev main_v118 : Ref sig .tc := ⟨.hbm, 201, rfl⟩
abbrev main_v119 : Ref sig .tc := ⟨.hbm, 202, rfl⟩
abbrev main_v120 : Ref sig .tc := ⟨.hbm, 203, rfl⟩
abbrev main_v121 : Ref sig .tc := ⟨.hbm, 204, rfl⟩
abbrev main_cst_9 : Ref sig .tc := ⟨.hbm, 205, rfl⟩
abbrev main_call10_v0 : Ref sig .tc := ⟨.hbm, 206, rfl⟩
abbrev main_call10_v1 : Ref sig .tc := ⟨.hbm, 207, rfl⟩
abbrev main_call10_v2 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_v125 : Ref sig .tc := ⟨.hbm, 212, rfl⟩
abbrev main_v126 : Ref sig .tc := ⟨.hbm, 213, rfl⟩
abbrev main_v127 : Ref sig .tc := ⟨.hbm, 214, rfl⟩
abbrev main_v128 : Ref sig .tc := ⟨.hbm, 215, rfl⟩
abbrev main_v129 : Ref sig .tc := ⟨.hbm, 216, rfl⟩
abbrev main_v130 : Ref sig .tc := ⟨.hbm, 217, rfl⟩
abbrev main_v131 : Ref sig .tc := ⟨.hbm, 218, rfl⟩
abbrev main_v132 : Ref sig .tc := ⟨.hbm, 219, rfl⟩
abbrev main_v133 : Ref sig .tc := ⟨.hbm, 220, rfl⟩
abbrev main_v134 : Ref sig .tc := ⟨.hbm, 221, rfl⟩
abbrev main_v135 : Ref sig .tc := ⟨.hbm, 222, rfl⟩
abbrev main_v136 : Ref sig .tc := ⟨.hbm, 223, rfl⟩
abbrev main_v137 : Ref sig .tc := ⟨.hbm, 224, rfl⟩
abbrev main_v138 : Ref sig .tc := ⟨.hbm, 225, rfl⟩
abbrev main_v139 : Ref sig .tc := ⟨.hbm, 226, rfl⟩
abbrev main_v140 : Ref sig .tc := ⟨.hbm, 227, rfl⟩
abbrev main_v141 : Ref sig .tc := ⟨.hbm, 228, rfl⟩
abbrev main_call11_v0 : Ref sig .tc := ⟨.hbm, 229, rfl⟩
abbrev main_call11_v1 : Ref sig .tc := ⟨.hbm, 230, rfl⟩
abbrev main_call11_cst : Ref sig .tc := ⟨.hbm, 231, rfl⟩
abbrev main_call11_v2 : Ref sig .tc := ⟨.hbm, 232, rfl⟩
abbrev main_call11_v3 : Ref sig .tc := ⟨.hbm, 233, rfl⟩
abbrev main_call11_cst_0 : Ref sig .tc := ⟨.hbm, 234, rfl⟩
abbrev main_call11_v4 : Ref sig .tc := ⟨.hbm, 235, rfl⟩
abbrev main_call11_v5 : Ref sig .tc := ⟨.hbm, 236, rfl⟩
abbrev main_v142 : Ref sig .tc := ⟨.hbm, 237, rfl⟩
abbrev main_v143 : Ref sig .tc := ⟨.hbm, 238, rfl⟩
abbrev main_v144 : Ref sig .tc := ⟨.hbm, 239, rfl⟩
abbrev main_v145 : Ref sig .tc := ⟨.hbm, 240, rfl⟩
abbrev main_cst_10 : Ref sig .tc := ⟨.hbm, 241, rfl⟩
abbrev main_call12_v0 : Ref sig .tc := ⟨.hbm, 242, rfl⟩
abbrev main_call12_v1 : Ref sig .tc := ⟨.hbm, 243, rfl⟩
abbrev main_call12_v2 : Ref sig .tc := ⟨.hbm, 244, rfl⟩
abbrev main_v146 : Ref sig .tc := ⟨.hbm, 245, rfl⟩
abbrev main_v147 : Ref sig .tc := ⟨.hbm, 246, rfl⟩
abbrev main_v148 : Ref sig .tc := ⟨.hbm, 247, rfl⟩
abbrev main_v149 : Ref sig .tc := ⟨.hbm, 248, rfl⟩
abbrev main_v150 : Ref sig .tc := ⟨.hbm, 249, rfl⟩
abbrev main_v151 : Ref sig .tc := ⟨.hbm, 250, rfl⟩
abbrev main_v152 : Ref sig .tc := ⟨.hbm, 251, rfl⟩
abbrev main_v153 : Ref sig .tc := ⟨.hbm, 252, rfl⟩
abbrev main_v154 : Ref sig .tc := ⟨.hbm, 253, rfl⟩
abbrev main_v155 : Ref sig .tc := ⟨.hbm, 254, rfl⟩
abbrev main_v156 : Ref sig .tc := ⟨.hbm, 255, rfl⟩
abbrev main_v157 : Ref sig .tc := ⟨.hbm, 256, rfl⟩
abbrev main_v158 : Ref sig .tc := ⟨.hbm, 257, rfl⟩
abbrev main_v159 : Ref sig .tc := ⟨.hbm, 258, rfl⟩
abbrev main_v160 : Ref sig .tc := ⟨.hbm, 259, rfl⟩
abbrev main_v161 : Ref sig .tc := ⟨.hbm, 260, rfl⟩
abbrev main_v162 : Ref sig .tc := ⟨.hbm, 261, rfl⟩
abbrev main_v163 : Ref sig .tc := ⟨.hbm, 262, rfl⟩
abbrev main_v164 : Ref sig .tc := ⟨.hbm, 263, rfl⟩
abbrev main_v165 : Ref sig .tc := ⟨.hbm, 264, rfl⟩
abbrev main_call13_v0 : Ref sig .tc := ⟨.hbm, 265, rfl⟩
abbrev main_call13_v1 : Ref sig .tc := ⟨.hbm, 266, rfl⟩
abbrev main_call13_cst : Ref sig .tc := ⟨.hbm, 267, rfl⟩
abbrev main_call13_v2 : Ref sig .tc := ⟨.hbm, 268, rfl⟩
abbrev main_call13_v3 : Ref sig .tc := ⟨.hbm, 269, rfl⟩
abbrev main_call13_cst_0 : Ref sig .tc := ⟨.hbm, 270, rfl⟩
abbrev main_call13_v4 : Ref sig .tc := ⟨.hbm, 271, rfl⟩
abbrev main_call13_v5 : Ref sig .tc := ⟨.hbm, 272, rfl⟩
abbrev main_v166 : Ref sig .tc := ⟨.hbm, 273, rfl⟩
abbrev main_v167 : Ref sig .tc := ⟨.hbm, 274, rfl⟩
abbrev main_v168 : Ref sig .tc := ⟨.hbm, 275, rfl⟩
abbrev main_v169 : Ref sig .tc := ⟨.hbm, 276, rfl⟩
abbrev main_cst_11 : Ref sig .tc := ⟨.hbm, 277, rfl⟩
abbrev main_call14_v0 : Ref sig .tc := ⟨.hbm, 278, rfl⟩
abbrev main_call14_v1 : Ref sig .tc := ⟨.hbm, 279, rfl⟩
abbrev main_call14_v2 : Ref sig .tc := ⟨.hbm, 280, rfl⟩
abbrev main_v170 : Ref sig .tc := ⟨.hbm, 281, rfl⟩
abbrev main_v171 : Ref sig .tc := ⟨.hbm, 282, rfl⟩
abbrev main_v172 : Ref sig .tc := ⟨.hbm, 283, rfl⟩
abbrev main_v173 : Ref sig .tc := ⟨.hbm, 284, rfl⟩
abbrev main_v174 : Ref sig .tc := ⟨.hbm, 285, rfl⟩
abbrev main_v175 : Ref sig .tc := ⟨.hbm, 286, rfl⟩
abbrev main_v176 : Ref sig .tc := ⟨.hbm, 287, rfl⟩
abbrev main_v177 : Ref sig .tc := ⟨.hbm, 288, rfl⟩
abbrev main_v178 : Ref sig .tc := ⟨.hbm, 289, rfl⟩
abbrev main_v179 : Ref sig .tc := ⟨.hbm, 290, rfl⟩
abbrev main_v180 : Ref sig .tc := ⟨.hbm, 291, rfl⟩
abbrev main_v181 : Ref sig .tc := ⟨.hbm, 292, rfl⟩
abbrev main_v182 : Ref sig .tc := ⟨.hbm, 293, rfl⟩
abbrev main_v183 : Ref sig .tc := ⟨.hbm, 294, rfl⟩
abbrev main_v184 : Ref sig .tc := ⟨.hbm, 295, rfl⟩
abbrev main_v185 : Ref sig .tc := ⟨.hbm, 296, rfl⟩
abbrev main_v186 : Ref sig .tc := ⟨.hbm, 297, rfl⟩
abbrev main_v187 : Ref sig .tc := ⟨.hbm, 298, rfl⟩
abbrev main_v188 : Ref sig .tc := ⟨.hbm, 299, rfl⟩
abbrev main_v189 : Ref sig .tc := ⟨.hbm, 300, rfl⟩
abbrev main_call15_v0 : Ref sig .tc := ⟨.hbm, 301, rfl⟩
abbrev main_call15_v1 : Ref sig .tc := ⟨.hbm, 302, rfl⟩
abbrev main_call15_cst : Ref sig .tc := ⟨.hbm, 303, rfl⟩
abbrev main_call15_v2 : Ref sig .tc := ⟨.hbm, 304, rfl⟩
abbrev main_call15_v3 : Ref sig .tc := ⟨.hbm, 305, rfl⟩
abbrev main_call15_cst_0 : Ref sig .tc := ⟨.hbm, 306, rfl⟩
abbrev main_call15_v4 : Ref sig .tc := ⟨.hbm, 307, rfl⟩
abbrev main_call15_v5 : Ref sig .tc := ⟨.hbm, 308, rfl⟩
abbrev main_v190 : Ref sig .tc := ⟨.hbm, 309, rfl⟩
abbrev main_v191 : Ref sig .tc := ⟨.hbm, 310, rfl⟩
abbrev main_v192 : Ref sig .tc := ⟨.hbm, 311, rfl⟩
abbrev main_v193 : Ref sig .tc := ⟨.hbm, 312, rfl⟩
abbrev main_cst_12 : Ref sig .tc := ⟨.hbm, 313, rfl⟩
abbrev main_call16_v0 : Ref sig .tc := ⟨.hbm, 314, rfl⟩
abbrev main_call16_v1 : Ref sig .tc := ⟨.hbm, 315, rfl⟩
abbrev main_call16_v2 : Ref sig .tc := ⟨.hbm, 316, rfl⟩
abbrev main_v194 : Ref sig .tc := ⟨.hbm, 317, rfl⟩
abbrev main_v195 : Ref sig .tc := ⟨.hbm, 318, rfl⟩
abbrev main_v196 : Ref sig .tc := ⟨.hbm, 319, rfl⟩
abbrev main_v197 : Ref sig .tc := ⟨.hbm, 320, rfl⟩
abbrev main_v198 : Ref sig .tc := ⟨.hbm, 321, rfl⟩

abbrev nD : Nat := 1
abbrev τ : Topo := Topo.v7x

variable {F : FTy → Type} [FloatOps F]
-- ==== Kernel4.lean ====
abbrev S4x8192x1024 : Shape := ⟨3, ![4, 8192, 1024]⟩
abbrev S4x8192x768 : Shape := ⟨3, ![4, 8192, 768]⟩
abbrev S4x8192x256 : Shape := ⟨3, ![4, 8192, 256]⟩
abbrev S1024x1024 : Shape := ⟨2, ![1024, 1024]⟩
abbrev S1024 : Shape := ⟨1, ![1024]⟩
abbrev S1x1024 : Shape := ⟨2, ![1, 1024]⟩
abbrev S1x1024x1024 : Shape := ⟨3, ![1, 1024, 1024]⟩
abbrev S1x1024x768 : Shape := ⟨3, ![1, 1024, 768]⟩
abbrev S1x1024x256 : Shape := ⟨3, ![1, 1024, 256]⟩
abbrev S1024x768 : Shape := ⟨2, ![1024, 768]⟩
abbrev S768x1024 : Shape := ⟨2, ![768, 1024]⟩
abbrev S1024x256 : Shape := ⟨2, ![1024, 256]⟩
abbrev S256x1024 : Shape := ⟨2, ![256, 1024]⟩
abbrev S1024x1 : Shape := ⟨2, ![1024, 1]⟩

abbrev nBuf : Space → Nat
  | .hbm => 12
  | .vmem => 11
  | .smem => 0
  | _ => 0

abbrev bufTy : (tb : Table) → Fin (tcTables nBuf tb) → BufTy
  | .hbm, ⟨0, _⟩ => ⟨S4x8192x1024, .f32⟩
  | .hbm, ⟨1, _⟩ => ⟨S4x8192x768, .f32⟩
  | .hbm, ⟨2, _⟩ => ⟨S4x8192x256, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S4x8192x768, .bf16⟩
  | .hbm, ⟨7, _⟩ => ⟨S4x8192x256, .bf16⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S4x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x768, .bf16⟩
  | .local _ .vmem, ⟨3, _⟩ => ⟨S1x1024x768, .bf16⟩
  | .local _ .vmem, ⟨4, _⟩ => ⟨S1x1024x256, .bf16⟩
  | .local _ .vmem, ⟨5, _⟩ => ⟨S1x1024x256, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1x1024x1024, .f32⟩
  | .local _ .vmem, ⟨10, _⟩ => ⟨S1x1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S4x8192x1024 : Shape := ⟨3, ![4, 8192, 1024]⟩
abbrev S4x8192x768 : Shape := ⟨3, ![4, 8192, 768]⟩
abbrev S4x8192x256 : Shape := ⟨3, ![4, 8192, 256]⟩
abbrev S1024x1024 : Shape := ⟨2, ![1024, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x768, .f32⟩
  | .hbm, ⟨2, _⟩ => ⟨S4x8192x256, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S4x8192x1024, .f32⟩
  | .hbm, ⟨7, _⟩ => ⟨S4x8192x1024, .f32⟩
  | .hbm, ⟨8, _⟩ => ⟨S_, .f32⟩
  | .hbm, ⟨9, _⟩ => ⟨S4x8192x1024, .f32⟩
  | .hbm, ⟨10, _⟩ => ⟨S4x8192x1024, .f32⟩
  | .hbm, ⟨11, _⟩ => ⟨S4x8192x1024, .f32⟩
  | .hbm, ⟨12, _⟩ => ⟨S_, .f32⟩
  | .hbm, ⟨13, _⟩ => ⟨S4x8192, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S4x8192x1024, .f32⟩
  | .hbm, ⟨19, _⟩ => ⟨S4x8192x1024, .f32⟩
  | .hbm, ⟨20, _⟩ => ⟨S4x8192x1024, .f32⟩
  | .hbm, ⟨21, _⟩ => ⟨S_, .f32⟩
  | .hbm, ⟨22, _⟩ => ⟨S4x8192, .f32⟩
  | .hbm, ⟨23, _⟩ => ⟨S4x8192x1, .f32⟩
  | .hbm, ⟨24, _⟩ => ⟨S_, .f32⟩
  | .hbm, ⟨25, _⟩ => ⟨S4x8192x1, .f32⟩
  | .hbm, ⟨26, _⟩ => ⟨S4x8192x1, .f32⟩
  | .hbm, ⟨27, _⟩ => ⟨S4x8192x1024, .f32⟩
  | .hbm, ⟨28, _⟩ => ⟨S4x8192x1024, .f32⟩
  | .hbm, ⟨29, _⟩ => ⟨S_, .f32⟩
  | .hbm, ⟨30, _⟩ => ⟨S4x8192x1, .f32⟩
  | .hbm, ⟨31, _⟩ => ⟨S4x8192x1, .f32⟩
  | .hbm, ⟨32, _⟩ => ⟨S4x8192x1, .f32⟩
  | .hbm, ⟨33, _⟩ => ⟨S4x8192x1024, .f32⟩
  | .hbm, ⟨34, _⟩ => ⟨S4x8192x1024, .f32⟩
  | .hbm, ⟨35, _⟩ => ⟨S1x1x1024, .f32⟩
  | .hbm, ⟨36, _⟩ => ⟨S4x8192x1024, .f32⟩
  | .hbm, ⟨37, _⟩ => ⟨S4x8192x1024, .f32⟩
  | .hbm, ⟨38, _⟩ => ⟨S1x1x1024, .f32⟩
  | .hbm, ⟨39, _⟩ => ⟨S4x8192x1024, .f32⟩
  | .hbm, ⟨40, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Kernel5.lean ====
abbrev S4x8192x1024 : Shape := ⟨3, ![4, 8192, 1024]⟩
abbrev S4x8192 : Shape := ⟨2, ![4, 8192]⟩
abbrev S1024x1536 : Shape := ⟨2, ![1024, 1536]⟩
abbrev S4x8192x1 : Shape := ⟨3, ![4, 8192, 1]⟩
abbrev S8 : Shape := ⟨1, ![8]⟩
abbrev S_ : Shape := ⟨0, ![]⟩
abbrev S128 : Shape := ⟨1, ![128]⟩
abbrev S128x1 : Shape := ⟨2, ![128, 1]⟩
abbrev S1x128 : Shape := ⟨2, ![1, 128]⟩
abbrev S1024x768 : Shape := ⟨2, ![1024, 768]⟩
abbrev S4x8192x768 : Shape := ⟨3, ![4, 8192, 768]⟩
abbrev S4x32x1x768 : Shape := ⟨4, ![4, 32, 1, 768]⟩
abbrev S1x256x1024 : Shape := ⟨3, ![1, 256, 1024]⟩
abbrev S1x256x1 : Shape := ⟨3, ![1, 256, 1]⟩
abbrev S1x256x768 : Shape := ⟨3, ![1, 256, 768]⟩
abbrev S1x1x1x768 : Shape := ⟨4, ![1, 1, 1, 768]⟩
abbrev S256x1024 : Shape := ⟨2, ![256, 1024]⟩
abbrev S256x768 : Shape := ⟨2, ![256, 768]⟩
abbrev S256x1 : Shape := ⟨2, ![256, 1]⟩
abbrev S256x128 : Shape := ⟨2, ![256, 128]⟩
abbrev S1x768 : Shape := ⟨2, ![1, 768]⟩
abbrev S768 : Shape := ⟨1, ![768]⟩
abbrev S4x32x256x12x64 : Shape := ⟨5, ![4, 32, 256, 12, 64]⟩
abbrev S4x12x32x256x64 : Shape := ⟨5, ![4, 12, 32, 256, 64]⟩
abbrev S4x32x12x64 : Shape := ⟨4, ![4, 32, 12, 64]⟩
abbrev S4x12x32x64 : Shape := ⟨4, ![4, 12, 32, 64]⟩

abbrev nBuf : Space → Nat
  | .hbm => 96
  | .vmem => 13
  | .smem => 0
  | _ => 0

abbrev bufTy : (tb : Table) → Fin (tcTables nBuf tb) → BufTy
  | .hbm, ⟨0, _⟩ => ⟨S4x8192x1024, .f32⟩
  | .hbm, ⟨1, _⟩ => ⟨S4x8192, .i32⟩
  | .hbm, ⟨2, _⟩ => ⟨S1024x1536, .f32⟩
  | .hbm, ⟨3, _⟩ => ⟨S4x8192, .f32⟩
  | .hbm, ⟨4, _⟩ => ⟨S4x8192x1, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S128, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S128, .i32⟩
  | .hbm, ⟨27, _⟩ => ⟨S128, .i32⟩
  | .hbm, ⟨28, _⟩ => ⟨S_, .i32⟩
  | .hbm, ⟨29, _⟩ => ⟨S128, .i32⟩
  | .hbm, ⟨30, _⟩ => ⟨S128, .i1⟩
  | .hbm, ⟨31, _⟩ => ⟨S_, .i32⟩
  | .hbm, ⟨32, _⟩ => ⟨S128, .i32⟩
  | .hbm, ⟨33, _⟩ => ⟨S128, .i1⟩
  | .hbm, ⟨34, _⟩ => ⟨S_, .i32⟩
  | .hbm, ⟨35, _⟩ => ⟨S_, .i1⟩
  | .hbm, ⟨36, _⟩ => ⟨S128, .i1⟩
  | .hbm, ⟨37, _⟩ => ⟨S128, .i1⟩
  | .hbm, ⟨38, _⟩ => ⟨S128, .i1⟩
  | .hbm, ⟨39, _⟩ => ⟨S128, .i32⟩
  | .hbm, ⟨40, _⟩ => ⟨S128, .i32⟩
  | .hbm, ⟨41, _⟩ => ⟨S128, .i32⟩
  | .hbm, ⟨42, _⟩ => ⟨S_, .i32⟩
  | .hbm, ⟨43, _⟩ => ⟨S128, .i32⟩
  | .hbm, ⟨44, _⟩ => ⟨S128, .i1⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i1⟩
  | .hbm, ⟨49, _⟩ => ⟨S_, .i32⟩
  | .hbm, ⟨50, _⟩ => ⟨S_, .i32⟩
  | .hbm, ⟨51, _⟩ => ⟨S128, .i32⟩
  | .hbm, ⟨52, _⟩ => ⟨S128, .i32⟩
  | .hbm, ⟨53, _⟩ => ⟨S_, .i32⟩
  | .hbm, ⟨54, _⟩ => ⟨S128, .i32⟩
  | .hbm, ⟨55, _⟩ => ⟨S128, .i1⟩
  | .hbm, ⟨56, _⟩ => ⟨S_, .i32⟩
  | .hbm, ⟨57, _⟩ => ⟨S128, .i32⟩
  | .hbm, ⟨58, _⟩ => ⟨S128, .i1⟩
  | .hbm, ⟨59, _⟩ => ⟨S_, .i32⟩
  | .hbm, ⟨60, _⟩ => ⟨S_, .i1⟩
  | .hbm, ⟨61, _⟩ => ⟨S128, .i1⟩
  | .hbm, ⟨62, _⟩ => ⟨S128, .i1⟩
  | .hbm, ⟨63, _⟩ => ⟨S128, .i1⟩
  | .hbm, ⟨64, _⟩ => ⟨S128, .i32⟩
  | .hbm, ⟨65, _⟩ => ⟨S128, .i32⟩
  | .hbm, ⟨66, _⟩ => ⟨S128, .i32⟩
  | .hbm, ⟨67, _⟩ => ⟨S_, .i32⟩
  | .hbm, ⟨68, _⟩ => ⟨S128, .i32⟩
  | .hbm, ⟨69, _⟩ => ⟨S128, .i1⟩
  | .hbm, ⟨70, _⟩ => ⟨S_, .i32⟩
  | .hbm, ⟨71, _⟩ => ⟨S128, .i32⟩
  | .hbm, ⟨72, _⟩ => ⟨S128, .i32⟩
  | .hbm, ⟨73, _⟩ => ⟨S128, .i32⟩
  | .hbm, ⟨74, _⟩ => ⟨S128x1, .i32⟩
  | .hbm, ⟨75, _⟩ => ⟨S128, .f32⟩
  | .hbm, ⟨76, _⟩ => ⟨S_, .f32⟩
  | .hbm, ⟨77, _⟩ => ⟨S_, .f32⟩
  | .hbm, ⟨78, _⟩ => ⟨S128, .f32⟩
  | .hbm, ⟨79, _⟩ => ⟨S128, .f32⟩
  | .hbm, ⟨80, _⟩ => ⟨S1x128, .f32⟩
  | .hbm, ⟨81, _⟩ => ⟨S1024x768, .f32⟩
  | .hbm, ⟨82, _⟩ => ⟨S1024x768, .bf16⟩
  | .hbm, ⟨83, _⟩ => ⟨S1024x768, .f32⟩
  | .hbm, ⟨84, _⟩ => ⟨S1024x768, .bf16⟩
  | .hbm, ⟨85, _⟩ => ⟨S4x8192x768, .bf16⟩
  | .hbm, ⟨86, _⟩ => ⟨S4x8192x768, .bf16⟩
  | .hbm, ⟨87, _⟩ => ⟨S4x32x1x768, .f32⟩
  | .hbm, ⟨88, _⟩ => ⟨S4x32x256x12x64, .bf16⟩
  | .hbm, ⟨89, _⟩ => ⟨S4x12x32x256x64, .bf16⟩
  | .hbm, ⟨90, _⟩ => ⟨S4x12x32x256x64, .f32⟩
  | .hbm, ⟨91, _⟩ => ⟨S4x32x256x12x64, .bf16⟩
  | .hbm, ⟨92, _⟩ => ⟨S4x12x32x256x64, .bf16⟩
  | .hbm, ⟨93, _⟩ => ⟨S4x12x32x256x64, .f32⟩
  | .hbm, ⟨94, _⟩ => ⟨S4x32x12x64, .f32⟩
  | .hbm, ⟨95, _⟩ => ⟨S4x12x32x64, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1, .f32⟩
  | .local _ .vmem, ⟨3, _⟩ => ⟨S1x256x1, .f32⟩
  | .local _ .vmem, ⟨4, _⟩ => ⟨S1x128, .f32⟩
  | .local _ .vmem, ⟨5, _⟩ => ⟨S1024x768, .bf16⟩
  | .local _ .vmem, ⟨6, _⟩ => ⟨S1024x768, .bf16⟩
  | .local _ .vmem, ⟨7, _⟩ => ⟨S1x256x768, .bf16⟩
  | .local _ .vmem, ⟨8, _⟩ => ⟨S1x256x768, .bf16⟩
  | .local _ .vmem, ⟨9, _⟩ => ⟨S1x256x768, .bf16⟩
  | .local _ .vmem, ⟨10, _⟩ => ⟨S1x256x768, .bf16⟩
  | .local _ .vmem, ⟨11, _⟩ => ⟨S1x1x1x768, .f32⟩
  | .local _ .vmem, ⟨12, _⟩ => ⟨S1x1x1x768, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_call0_v0 : Ref sig .tc := ⟨.hbm, 21, rfl⟩
abbrev main_call0_c : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_c_1 : Ref sig .tc := ⟨.hbm, 28, rfl⟩
abbrev main_call0_v5 : Ref sig .tc := ⟨.hbm, 29, rfl⟩
abbrev main_call0_v6 : Ref sig .tc := ⟨.hbm, 30, rfl⟩
abbrev main_call0_c_2 : Ref sig .tc := ⟨.hbm, 31, rfl⟩
abbrev main_call0_v7 : Ref sig .tc := ⟨.hbm, 32, rfl⟩
abbrev main_call0_v8 : Ref sig .tc := ⟨.hbm, 33, rfl⟩
abbrev main_call0_c_3 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_v13 : Ref sig .tc := ⟨.hbm, 41, rfl⟩
abbrev main_c_3 : Ref sig .tc := ⟨.hbm, 42, rfl⟩
abbrev main_v14 : Ref sig .tc := ⟨.hbm, 43, rfl⟩
abbrev main_v15 : Ref sig .tc := ⟨.hbm, 44, rfl⟩
abbrev main_c_4 : Ref sig .tc := ⟨.hbm, 45, rfl⟩
abbrev main_call1_v0 : Ref sig .tc := ⟨.hbm, 46, rfl⟩
abbrev main_call1_c : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_c_1 : Ref sig .tc := ⟨.hbm, 53, rfl⟩
abbrev main_call1_v5 : Ref sig .tc := ⟨.hbm, 54, rfl⟩
abbrev main_call1_v6 : Ref sig .tc := ⟨.hbm, 55, rfl⟩
abbrev main_call1_c_2 : Ref sig .tc := ⟨.hbm, 56, rfl⟩
abbrev main_call1_v7 : Ref sig .tc := ⟨.hbm, 57, rfl⟩
abbrev main_call1_v8 : Ref sig .tc := ⟨.hbm, 58, rfl⟩
abbrev main_call1_c_3 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_v16 : Ref sig .tc := ⟨.hbm, 66, rfl⟩
abbrev main_c_5 : Ref sig .tc := ⟨.hbm, 67, rfl⟩
abbrev main_v17 : Ref sig .tc := ⟨.hbm, 68, rfl⟩
abbrev main_v18 : Ref sig .tc := ⟨.hbm, 69, rfl⟩
abbrev main_c_6 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_cst_7 : Ref sig .tc := ⟨.hbm, 76, rfl⟩
abbrev main_call2_v0 : Ref sig .tc := ⟨.hbm, 77, rfl⟩
abbrev main_call2_v1 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_v30_0 : Ref sig .tc := ⟨.hbm, 85, rfl⟩
abbrev main_v30_1 : Ref sig .tc := ⟨.hbm, 86, rfl⟩
abbrev main_v30_2 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference5Ideal.lean ====
abbrev S4x8192x1024 : Shape := ⟨3, ![4, 8192, 1024]⟩
abbrev S4x8192 : Shape := ⟨2, ![4, 8192]⟩
abbrev S1024x1536 : Shape := ⟨2, ![1024, 1536]⟩
abbrev S8 : Shape := ⟨1, ![8]⟩
abbrev S_ : Shape := ⟨0, ![]⟩
abbrev S4x8192x1 : Shape := ⟨3, ![4, 8192, 1]⟩
abbrev S1x1x8 : Shape := ⟨3, ![1, 1, 8]⟩
abbrev S4x8192x8 : Shape := ⟨3, ![4, 8192, 8]⟩
abbrev S4x8192x1x8 : Shape := ⟨4, ![4, 8192, 1, 8]⟩
abbrev S4x8192x1536 : Shape := ⟨3, ![4, 8192, 1536]⟩
abbrev S4x8192x768 : Shape := ⟨3, ![4, 8192, 768]⟩
abbrev S4x8192x12x64 : Shape := ⟨4, ![4, 8192, 12, 64]⟩
abbrev S4x8192x12x8 : Shape := ⟨4, ![4, 8192, 12, 8]⟩
abbrev S4x8192x12x16 : Shape := ⟨4, ![4, 8192, 12, 16]⟩
abbrev S4x8192x12x48 : Shape := ⟨4, ![4, 8192, 12, 48]⟩
abbrev S4x32x256x12x64 : Shape := ⟨5, ![4, 32, 256, 12, 64]⟩
abbrev S4x12x32x256x64 : Shape := ⟨5, ![4, 12, 32, 256, 64]⟩
abbrev S4x12x32x64 : Shape := ⟨4, ![4, 12, 32, 64]⟩

abbrev nBuf : Space → Nat
  | .hbm => 56
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192, .i32⟩
  | .hbm, ⟨2, _⟩ => ⟨S1024x1536, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S4x8192, .f32⟩
  | .hbm, ⟨18, _⟩ => ⟨S4x8192x1, .f32⟩
  | .hbm, ⟨19, _⟩ => ⟨S1x1x8, .f32⟩
  | .hbm, ⟨20, _⟩ => ⟨S4x8192x8, .f32⟩
  | .hbm, ⟨21, _⟩ => ⟨S4x8192x8, .f32⟩
  | .hbm, ⟨22, _⟩ => ⟨S4x8192x8, .f32⟩
  | .hbm, ⟨23, _⟩ => ⟨S4x8192x8, .f32⟩
  | .hbm, ⟨24, _⟩ => ⟨S4x8192x1x8, .f32⟩
  | .hbm, ⟨25, _⟩ => ⟨S4x8192x8, .f32⟩
  | .hbm, ⟨26, _⟩ => ⟨S4x8192x1x8, .f32⟩
  | .hbm, ⟨27, _⟩ => ⟨S4x8192x1536, .f32⟩
  | .hbm, ⟨28, _⟩ => ⟨S4x8192x768, .f32⟩
  | .hbm, ⟨29, _⟩ => ⟨S4x8192x12x64, .f32⟩
  | .hbm, ⟨30, _⟩ => ⟨S4x8192x12x8, .f32⟩
  | .hbm, ⟨31, _⟩ => ⟨S4x8192x12x8, .f32⟩
  | .hbm, ⟨32, _⟩ => ⟨S4x8192x12x8, .f32⟩
  | .hbm, ⟨33, _⟩ => ⟨S4x8192x12x8, .f32⟩
  | .hbm, ⟨34, _⟩ => ⟨S4x8192x12x8, .f32⟩
  | .hbm, ⟨35, _⟩ => ⟨S4x8192x12x8, .f32⟩
  | .hbm, ⟨36, _⟩ => ⟨S4x8192x12x8, .f32⟩
  | .hbm, ⟨37, _⟩ => ⟨S4x8192x12x8, .f32⟩
  | .hbm, ⟨38, _⟩ => ⟨S4x8192x12x8, .f32⟩
  | .hbm, ⟨39, _⟩ => ⟨S4x8192x12x8, .f32⟩
  | .hbm, ⟨40, _⟩ => ⟨S4x8192x12x8, .f32⟩
  | .hbm, ⟨41, _⟩ => ⟨S4x8192x12x8, .f32⟩
  | .hbm, ⟨42, _⟩ => ⟨S4x8192x12x16, .f32⟩
  | .hbm, ⟨43, _⟩ => ⟨S4x8192x12x48, .f32⟩
  | .hbm, ⟨44, _⟩ => ⟨S4x8192x12x64, .f32⟩
  | .hbm, ⟨45, _⟩ => ⟨S4x8192x768, .f32⟩
  | .hbm, ⟨46, _⟩ => ⟨S4x8192x12x64, .f32⟩
  | .hbm, ⟨47, _⟩ => ⟨S4x32x256x12x64, .f32⟩
  | .hbm, ⟨48, _⟩ => ⟨S4x12x32x256x64, .f32⟩
  | .hbm, ⟨49, _⟩ => ⟨S4x32x256x12x64, .f32⟩
  | .hbm, ⟨50, _⟩ => ⟨S4x12x32x256x64, .f32⟩
  | .hbm, ⟨51, _⟩ => ⟨S_, .f32⟩
  | .hbm, ⟨52, _⟩ => ⟨S4x12x32x64, .f32⟩
  | .hbm, ⟨53, _⟩ => ⟨S_, .f32⟩
  | .hbm, ⟨54, _⟩ => ⟨S4x12x32x64, .f32⟩
  | .hbm, ⟨55, _⟩ => ⟨S4x12x32x64, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_cst_3 : Ref sig .tc := ⟨.hbm, 51, rfl⟩
abbrev main_v44 : Ref sig .tc := ⟨.hbm, 52, rfl⟩
abbrev main_cst_4 : Ref sig .tc := ⟨.hbm, 53, rfl⟩
abbrev main_v45 : Ref sig .tc := ⟨.hbm, 54, rfl⟩
abbrev main_v46 : Ref sig .tc := ⟨.hbm, 55, rfl⟩

abbrev nD : Nat := 1
abbrev τ : Topo := Topo.v7x

variable {F : FTy → Type} [FloatOps F]
-- ==== Proof.Finite.lean ====
/- The precondition of the mixer's equation, read: where the predicate's word is one, the activations, the query columns of the
   input weights and the key columns of the memory are real numbers. -/
module

public import proofs.«01_k».proof.Pre_finite_logits
public import proofs.«01_k».proof.Proof.Gen.Pre_finite_logits
public import Idealize.ShloMosaic.Lib.ReduceAll
public import Idealize.ShloMosaic.Lib.Pointwise

@[expose] public section

set_option maxRecDepth 16384

noncomputable section

namespace Cert.Finite

open Idealize.ShloMosaic Cert.Pre_finite_logits

/-- A value whose magnitude is below infinity is a real number. -/
theorem real_of_lt (x : EReal) (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  have hlt : max x (-x) < ⊤ := by
    unfold Ideal.cmp at h
    by_contra hn
    simp [hn] at h
  rw [max_lt_iff] at hlt
  induction x using EReal.rec with
  | bot => exact absurd hlt.2 (by simp)
  | coe r => exact ⟨r, rfl⟩
  | top => exact absurd hlt.1 (by simp)

instance : Subsingleton S_.Idx := ⟨fun a b => funext fun i => i.elim0⟩

theorem split (a b : BitVec 1) (h : IntOp.andi a b = 1#1) : a = 1#1 ∧ b = 1#1 := by
  revert h
  unfold IntOp.andi
  revert a b
  decide

theorem of_pre (x : FVec Ideal S4x8192x1024 .f32) (mem : FVec Ideal S4x256x2048 .f32) (w : FVec Ideal S1024x2560 .f32)
    (cw : FVec Ideal S3x768 .f32) (o : FVec Ideal S1024x1024 .f32) (g b : FVec Ideal S1024 .f32)
    (h : fn (F := Ideal) x mem w cw o g b = fun _ => 1#1) :
    (∀ n s k, ∃ r : ℝ, x (ix3 n s k) = (r : EReal))
      ∧ (∀ k (e : Fin 256), ∃ r : ℝ, w (ix2 k ⟨2304 + e.val, by omega⟩) = (r : EReal))
      ∧ (∀ n p (e : Fin 256), ∃ r : ℝ, mem (ix3 n p ⟨e.val, by omega⟩) = (r : EReal)) := by
  have h0 := congrFun h ix0
  unfold fn at h0
  obtain ⟨h1, hm⟩ := split _ _ h0
  obtain ⟨hx, hw⟩ := split _ _ h1
  refine ⟨fun n s k => ?_, fun k e => ?_, fun n p e => ?_⟩
  · exact real_of_lt _ (Host.reduce_andi_all _ _ _ _ ix0 hx (ix3 n s k))
  · have := Host.reduce_andi_all _ _ _ _ ix0 hw (ix2 k e)
    refine real_of_lt _ (Eq.trans ?_ this)
    pointwise
    rfl
  · have := Host.reduce_andi_all _ _ _ _ ix0 hm (ix3 n p e)
    refine real_of_lt _ (Eq.trans ?_ this)
    pointwise
    rfl

end Cert.Finite

end
-- ==== Proof.ExpPre.lean ====
/- The precondition of the experts' claims, read: no expert has more rows than 65536 and some expert has one. -/
module

public import proofs.«01_k».proof.Pre_counts_in_range
public import proofs.«01_k».proof.Proof.Gen.Pre_counts_in_range
public import Idealize.ShloMosaic.Lib.ReduceAll
public import Idealize.ShloMosaic.Lib.Pointwise
public import Idealize.ShloMosaic.Lib.WordCmp

@[expose] public section

set_option maxRecDepth 16384

noncomputable section

namespace Cert.ExpertsPre

open Idealize.ShloMosaic Cert.Pre_counts_in_range

instance : Subsingleton S_.Idx := ⟨fun a b => funext fun i => i.elim0⟩

theorem split (a b : BitVec 1) (h : IntOp.andi a b = 1#1) : a = 1#1 ∧ b = 1#1 := by
  revert h
  unfold IntOp.andi
  revert a b
  decide

theorem sge_of (a b : BitVec 32) (h : IntOp.cmpi .sge a b = 1#1) : b.toInt ≤ a.toInt := by
  unfold IntOp.cmpi at h
  dsimp only at h
  rw [← BitVec.sle_iff_toInt_le]
  by_contra hn
  have hf : b.sle a = false := by simpa using hn
  rw [hf] at h
  exact absurd h (by decide)

theorem sle_of (a b : BitVec 32) (h : IntOp.cmpi .sle a b = 1#1) : a.toInt ≤ b.toInt := by
  rw [WordCmp.cmpi_sle_eq, WordCmp.ofBool_decide_eq_one_iff] at h
  exact h

theorem or_left (v b : BitVec 1) (hb : ¬ b = 1#1) (h : IntOp.ori v b = 1#1) : v = 1#1 := by
  revert hb h
  unfold IntOp.ori
  revert v b
  decide

/-- A disjunction over an array holds a one only where an entry does. -/
theorem or_fold {ι : Type} (l : List ι) (g : ι → BitVec 1) (v : BitVec 1) (h : l.foldl (fun r a => IntOp.ori r (g a)) v = 1#1) :
    v = 1#1 ∨ ∃ a, g a = 1#1 := by
  induction l generalizing v with
  | nil => exact .inl h
  | cons a l ih =>
    rcases ih _ h with h' | h'
    · by_cases ha : g a = 1#1
      · exact .inr ⟨a, ha⟩
      · refine .inl ?_
        exact or_left v (g a) ha h'
    · exact .inr h'

variable {F : FTy → Type} [FloatOps F]

theorem of_pre (x : FVec F S69632x1024 .f32) (k : IVec S8 32) (w : FVec F S2x8x1024x5632 .f32) (d : FVec F S2x8x2816x1024 .f32)
    (h : fn (F := F) x k w d = fun _ => 1#1) :
    ∃ c : ℕ → ℕ, (∀ i : Fin 8, k (ix1 i) = BitVec.ofNat 32 (c i.val)) ∧ (∀ i, c i ≤ 65536) ∧ ∃ e, e < 8 ∧ 1 ≤ c e := by
  have h0 := congrFun h ix0
  unfold fn at h0
  obtain ⟨h1, h2⟩ := split _ _ h0
  have hr : ∀ i : Fin 8, 0 ≤ (k (ix1 i)).toInt ∧ (k (ix1 i)).toInt ≤ 65536 := by
    intro i
    obtain ⟨ha, hb⟩ := split _ _ (Host.reduce_andi_all _ _ _ _ ix0 h1 (ix1 i))
    have a := sge_of (k (ix1 i)) 0#32 ha
    have b := sle_of (k (ix1 i)) 65536#32 hb
    have e0 : (0#32).toInt = 0 := by decide
    have e1 : (65536#32).toInt = 65536 := by decide
    omega
  have hn : ∀ i : Fin 8, (k (ix1 i)).toNat ≤ 65536 := by
    intro i
    have := hr i
    have hc := BitVec.toInt_eq_toNat_cond (k (ix1 i))
    have hl := (k (ix1 i)).isLt
    split at hc <;> omega
  refine ⟨fun n => if hi : n < 8 then (k (ix1 ⟨n, hi⟩)).toNat else 0, ?_, ?_, ?_⟩
  · intro i
    simp [i.isLt]
  · intro n
    dsimp only
    split
    · exact hn _
    · omega
  · unfold Host.reduce at h2
    rcases or_fold _ _ _ h2 with hv | ⟨i, hi⟩
    · exact absurd hv (by decide)
    · generalize S8.rowMajor.symm i = q at hi
      rw [eq_ix1 q] at hi
      have a := sge_of (k (ix1 (q 0))) 1#32 hi
      have e1 : (1#32).toInt = 1 := by decide
      have := hr (q 0)
      have hc := BitVec.toInt_eq_toNat_cond (k (ix1 (q 0)))
      have hl := (k (ix1 (q 0))).isLt
      refine ⟨(q 0).val, (q 0).isLt, ?_⟩
      refine le_of_le_of_eq ?_ (dif_pos (show (q 0).val < 8 from (q 0).isLt)).symm
      show 1 ≤ (k (ix1 (q 0))).toNat
      split at hc <;> omega

end Cert.ExpertsPre

end
-- ==== Proof.ExpRuns.lean ====
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Pipeline.ValueKit
public import Idealize.ShloMosaic.Lib.VecWindow
public import Idealize.ShloMosaic.Lib.Tactic
public import Idealize.ShloMosaic.Lib.WordCmp

/-! The experts' call at one grid point. A point is a tile of 512 rows and one of two chunks of the hidden width. The word
of the second table is the number of tiles in use. On a tile in use the first chunk casts the rows into one scratch and
leaves its part of the product in another, and the second chunk writes the sum of both parts. On a tile past those in use
the first chunk does nothing and the second writes zeros. -/

@[expose] public section

set_option maxRecDepth 16384

noncomputable section

namespace Cert.Experts

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The tables as the body sees them -/

/-- The table of the experts by tile, whole. -/
abbrev teM : Memref sig .tc .smem S136 .i32 := Memref.whole main_v15
/-- The table with the number of tiles in use, whole. -/
abbrev ntM : Memref sig .tc .smem S1 .i32 := Memref.whole main_v16
/-- The contents of a table's buffer. -/
abbrev TableBuf (c : Dev nD) {S : Shape} {e : EltTy} (M : Memref sig .tc .smem S e) : Type := Buf (Elt F) (M.view.loc (c : Thread nD τ))
/-- Half of a table, at given contents. -/
abbrev tableAt (c : Dev nD) {S : Shape} {e : EltTy} (M : Memref sig .tc .smem S e) (f : TableBuf (F := F) c M) : sProp 𝕄 :=
  M.view.loc (c : Thread nD τ) ↦{fullShare.right} f

/-- The number of tiles in use, as the body's load reads it. -/
abbrev nt (c : Dev nD) (x : TableBuf (F := F) c ntM) : BitVec 32 :=
  ntM.view.readAt (Elt F) (Rect.unit (s := S1) ![0] S1.size inb_S1_S1_0).toLoadRect x (Shape.Idx.first (numel1_S1.symm ▸ Nat.one_pos))

/-! ## The body's conditions -/

/-- The condition of the two branches of the first chunk. -/
abbrev firstChunk (i : grid0.Coords) : Prop :=
  (Scalar.cmpi .ne (Scalar.extui (Scalar.cmpi .eq (BitVec.ofNat 32 (i 1).val) 0#32)) 0#32) = 1#1

theorem firstChunk_iff (t : Fin grid0.N) : firstChunk (grid0.coords t) ↔ t.val % 2 = 0 := by
  have ht : t.val < 272 := Nat.lt_of_lt_of_eq t.isLt N_0
  have e1 : (grid0.coords t 1).val = t.val / 1 % 2 := Pipeline.Grid.coords_val t 1 (by decide) rfl
  simp only [firstChunk, e1]
  word_cmp

theorem secondChunk_iff (t : Fin grid0.N) : k0_cond5 (grid0.coords t) = 1#1 ↔ t.val % 2 = 1 := by
  have ht : t.val < 272 := Nat.lt_of_lt_of_eq t.isLt N_0
  have e1 : (grid0.coords t 1).val = t.val / 1 % 2 := Pipeline.Grid.coords_val t 1 (by decide) rfl
  simp only [k0_cond5, e1]
  word_cmp

/-- The tile of point `n` is in use. -/
def Live (w : BitVec 32) (n : ℕ) : Prop := (BitVec.ofNat 32 (n / 2)).slt w = true
instance (w : BitVec 32) (n : ℕ) : Decidable (Live w n) := by unfold Live; infer_instance

theorem bit_ne (b : Bool) : Iff (Scalar.cmpi .ne (Scalar.extui (BitVec.ofBool b) : BitVec 32) 0#32 = 1#1) (b = true) := by
  cases b <;> decide

theorem bit_only (a b : BitVec 1) : Iff (Scalar.cmpi .ne (Scalar.extui (Scalar.andi (Scalar.xori a 1#1) b) : BitVec 32) 0#32 = 1#1)
    (¬ (Scalar.cmpi .ne (Scalar.extui a : BitVec 32) 0#32 = 1#1) ∧ (Scalar.cmpi .ne (Scalar.extui b : BitVec 32) 0#32 = 1#1)) := by
  revert a b; decide

theorem live_iff (t : Fin grid0.N) (w : BitVec 32) : k0_cond2 (grid0.coords t) w = 1#1 ↔ Live w t.val := by
  have ht : t.val < 272 := Nat.lt_of_lt_of_eq t.isLt N_0
  have e0 : (grid0.coords t 0).val = t.val / 2 % 136 := Pipeline.Grid.coords_val t 0 (by decide) rfl
  simp only [k0_cond2, e0, Nat.mod_eq_of_lt (show t.val / 2 < 136 by omega)]
  exact bit_ne _

theorem zero_iff (t : Fin grid0.N) (w : BitVec 32) : k0_cond1 (grid0.coords t) w = 1#1 ↔ ¬ Live w t.val ∧ t.val % 2 = 1 := by
  rw [← live_iff, ← secondChunk_iff]
  exact bit_only _ _

set_option maxHeartbeats 1600000 in
/-- The first chunk of a tile in use: the rows cast in one scratch, the chunk's part of the product in the other; the output as it was. -/
theorem run_first (c : Dev nD) (i : grid0.Coords) (arg4 : Memref sig .tc .vmem S512x1024 .f32) (harg4 : arg4.IsWhole) (arg5 : Memref sig .tc .vmem S1x1x1024x1408 .bf16) (harg5 : arg5.IsWhole) (arg6 : Memref sig .tc .vmem S1x1x1024x1408 .bf16) (harg6 : arg6.IsWhole) (arg7 : Memref sig .tc .vmem S1x1x1408x1024 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .bf16) (harg10 : arg10.IsWhole)
    (xt0 : TableBuf (F := F) c teM) (xt1 : TableBuf (F := F) c ntM) (hz : ¬ k0_cond1 i (nt c xt1) = 1#1) (hl : k0_cond2 i (nt c xt1) = 1#1) (hf : firstChunk i) (hs : ¬ k0_cond5 i = 1#1)
    (x0 : Vec F S512x1024 .f32) (x1 : Vec F S1x1x1024x1408 .bf16) (x2 : Vec F S1x1x1024x1408 .bf16) (x3 : Vec F S1x1x1408x1024 .bf16) (xi : Vec F S512x1024 .f32)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xi ∗ (∃ d, owns (c : Thread nD τ) arg9 fullShare d) ∗ (∃ d, owns (c : Thread nD τ) arg10 fullShare d) ∗ tableAt c teM xt0 ∗ tableAt c ntM xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xi ∗ owns (c : Thread nD τ) arg9 fullShare (k0_pay3 (k0_pay2 x0) x1 x2 x3) ∗ owns (c : Thread nD τ) arg10 fullShare (k0_pay2 x0) ∗ tableAt c teM xt0 ∗ tableAt c ntM xt1) -∗ K ⟨⟩))
      ⊢ wp frame (wpE (defs₀ (F := F)) Variants.none c none) E (cc0_moe_experts i teM (Memref.isWhole_whole _) ntM (Memref.isWhole_whole _) arg4 harg4 arg5 harg5 arg6 harg6 arg7 harg7 arg8 harg8 arg9 harg9 arg10 harg10) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, HT0, HT1, Hk⟩
  obtain rfl := harg4.eq_unread hf0; obtain rfl := harg5.eq_unread hf1; obtain rfl := harg6.eq_unread hf2; obtain rfl := harg7.eq_unread hf3; obtain rfl := harg8.eq_unread hf4
  sl_exec (disch := first | sl_exact hz | sl_exact hl | sl_exact hf | sl_exact hs)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [HS0]
  · iexists _; isplitr
    swap; · iexact HS0
    ipureintro
    refine (View.read_writes_full _ _ _ _ _).trans ?_
    frame_out
  isplitl [HS1]
  · iexists _; isplitr
    swap; · iexact HS1
    ipureintro
    refine (View.read_writes_full _ _ _ _ _).trans ?_
    try simp (disch := decide) only [View.readCov_unit_lit', View.readAt_eq_ld, View.ld_unit_lit', Memref.IsWhole.read_unread]
  isplitl [HT0]; · iexact HT0
  iexact HT1

set_option maxHeartbeats 1600000 in
/-- The second chunk of a tile in use: the output is the sum of both parts. -/
theorem run_second (c : Dev nD) (i : grid0.Coords) (arg4 : Memref sig .tc .vmem S512x1024 .f32) (harg4 : arg4.IsWhole) (arg5 : Memref sig .tc .vmem S1x1x1024x1408 .bf16) (harg5 : arg5.IsWhole) (arg6 : Memref sig .tc .vmem S1x1x1024x1408 .bf16) (harg6 : arg6.IsWhole) (arg7 : Memref sig .tc .vmem S1x1x1408x1024 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .bf16) (harg10 : arg10.IsWhole)
    (xt0 : TableBuf (F := F) c teM) (xt1 : TableBuf (F := F) c ntM) (hz : ¬ k0_cond1 i (nt c xt1) = 1#1) (hl : k0_cond2 i (nt c xt1) = 1#1) (hf : ¬ firstChunk i) (hs : k0_cond5 i = 1#1)
    (x0 : Vec F S512x1024 .f32) (x1 : Vec F S1x1x1024x1408 .bf16) (x2 : Vec F S1x1x1024x1408 .bf16) (x3 : Vec F S1x1x1408x1024 .bf16) (xs0 : Vec F S512x1024 .f32) (xs1 : Vec F S512x1024 .bf16)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ owns (c : Thread nD τ) arg9 fullShare xs0 ∗ owns (c : Thread nD τ) arg10 fullShare xs1 ∗ tableAt c teM xt0 ∗ tableAt c ntM xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (k0_pay4 xs0 xs1 x1 x2 x3) ∗ owns (c : Thread nD τ) arg9 fullShare xs0 ∗ owns (c : Thread nD τ) arg10 fullShare xs1 ∗ tableAt c teM xt0 ∗ tableAt c ntM xt1) -∗ K ⟨⟩))
      ⊢ wp frame (wpE (defs₀ (F := F)) Variants.none c none) E (cc0_moe_experts i teM (Memref.isWhole_whole _) ntM (Memref.isWhole_whole _) arg4 harg4 arg5 harg5 arg6 harg6 arg7 harg7 arg8 harg8 arg9 harg9 arg10 harg10) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, HT0, HT1, Hk⟩
  obtain rfl := harg4.eq_unread hf0; obtain rfl := harg5.eq_unread hf1; obtain rfl := harg6.eq_unread hf2; obtain rfl := harg7.eq_unread hf3; obtain rfl := harg9.eq_unread hfs0; obtain rfl := harg10.eq_unread hfs1
  sl_exec (disch := first | sl_exact hz | sl_exact hl | sl_exact hf | sl_exact hs)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr
    swap; · iexact H4
    ipureintro
    refine (View.read_writes_full _ _ _ _ _).trans ?_
    try simp (disch := decide) only [View.readCov_unit_lit', View.readAt_eq_ld, View.ld_unit_lit', Memref.IsWhole.read_unread]
  isplitl [HS0]
  · iexists _; isplitr; · ipureintro; exact harg9.read_unread _
    iexact HS0
  isplitl [HS1]
  · iexists _; isplitr; · ipureintro; exact harg10.read_unread _
    iexact HS1
  isplitl [HT0]; · iexact HT0
  iexact HT1

set_option maxHeartbeats 1600000 in
/-- The first chunk of a tile past those in use: nothing is stored. -/
theorem run_idle (c : Dev nD) (i : grid0.Coords) (arg4 : Memref sig .tc .vmem S512x1024 .f32) (harg4 : arg4.IsWhole) (arg5 : Memref sig .tc .vmem S1x1x1024x1408 .bf16) (harg5 : arg5.IsWhole) (arg6 : Memref sig .tc .vmem S1x1x1024x1408 .bf16) (harg6 : arg6.IsWhole) (arg7 : Memref sig .tc .vmem S1x1x1408x1024 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .bf16) (harg10 : arg10.IsWhole)
    (xt0 : TableBuf (F := F) c teM) (xt1 : TableBuf (F := F) c ntM) (hz : ¬ k0_cond1 i (nt c xt1) = 1#1) (hl : ¬ k0_cond2 i (nt c xt1) = 1#1) (hf : firstChunk i) (hs : ¬ k0_cond5 i = 1#1)
    (x0 : Vec F S512x1024 .f32) (x1 : Vec F S1x1x1024x1408 .bf16) (x2 : Vec F S1x1x1024x1408 .bf16) (x3 : Vec F S1x1x1408x1024 .bf16) (xi : Vec F S512x1024 .f32)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xi ∗ (∃ d, owns (c : Thread nD τ) arg9 fullShare d) ∗ (∃ d, owns (c : Thread nD τ) arg10 fullShare d) ∗ tableAt c teM xt0 ∗ tableAt c ntM xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xi ∗ (∃ d, owns (c : Thread nD τ) arg9 fullShare d) ∗ (∃ d, owns (c : Thread nD τ) arg10 fullShare d) ∗ tableAt c teM xt0 ∗ tableAt c ntM xt1) -∗ K ⟨⟩))
      ⊢ wp frame (wpE (defs₀ (F := F)) Variants.none c none) E (cc0_moe_experts i teM (Memref.isWhole_whole _) ntM (Memref.isWhole_whole _) arg4 harg4 arg5 harg5 arg6 harg6 arg7 harg7 arg8 harg8 arg9 harg9 arg10 harg10) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, %hfs0, HS0⟩, ⟨%ds1, %fs1, %hfs1, HS1⟩, HT0, HT1, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hfs0; obtain rfl := harg10.eq_unread hfs1
  sl_exec (disch := first | sl_exact hz | sl_exact hl | sl_exact hf | sl_exact hs)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [HS0]
  · iexists ds0; iexists _; isplitr; · ipureintro; exact harg9.read_unread _
    iexact HS0
  isplitl [HS1]
  · iexists ds1; iexists _; isplitr; · ipureintro; exact harg10.read_unread _
    iexact HS1
  isplitl [HT0]; · iexact HT0
  iexact HT1

set_option maxHeartbeats 1600000 in
/-- The second chunk of a tile past those in use: the output is zero. -/
theorem run_zero (c : Dev nD) (i : grid0.Coords) (arg4 : Memref sig .tc .vmem S512x1024 .f32) (harg4 : arg4.IsWhole) (arg5 : Memref sig .tc .vmem S1x1x1024x1408 .bf16) (harg5 : arg5.IsWhole) (arg6 : Memref sig .tc .vmem S1x1x1024x1408 .bf16) (harg6 : arg6.IsWhole) (arg7 : Memref sig .tc .vmem S1x1x1408x1024 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .bf16) (harg10 : arg10.IsWhole)
    (xt0 : TableBuf (F := F) c teM) (xt1 : TableBuf (F := F) c ntM) (hz : k0_cond1 i (nt c xt1) = 1#1) (hl : ¬ k0_cond2 i (nt c xt1) = 1#1) (hf : ¬ firstChunk i) (hs : k0_cond5 i = 1#1)
    (x0 : Vec F S512x1024 .f32) (x1 : Vec F S1x1x1024x1408 .bf16) (x2 : Vec F S1x1x1024x1408 .bf16) (x3 : Vec F S1x1x1408x1024 .bf16)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ (∃ d, owns (c : Thread nD τ) arg10 fullShare d) ∗ tableAt c teM xt0 ∗ tableAt c ntM xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (k0_pay1 (F := F)) ∗ (∃ d, owns (c : Thread nD τ) arg9 fullShare d) ∗ (∃ d, owns (c : Thread nD τ) arg10 fullShare d) ∗ tableAt c teM xt0 ∗ tableAt c ntM xt1) -∗ K ⟨⟩))
      ⊢ wp frame (wpE (defs₀ (F := F)) Variants.none c none) E (cc0_moe_experts i teM (Memref.isWhole_whole _) ntM (Memref.isWhole_whole _) arg4 harg4 arg5 harg5 arg6 harg6 arg7 harg7 arg8 harg8 arg9 harg9 arg10 harg10) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, %hfs0, HS0⟩, ⟨%ds1, %fs1, %hfs1, HS1⟩, HT0, HT1, Hk⟩
  obtain rfl := harg4.eq_unread hf0; obtain rfl := harg5.eq_unread hf1; obtain rfl := harg6.eq_unread hf2; obtain rfl := harg7.eq_unread hf3; obtain rfl := harg9.eq_unread hfs0; obtain rfl := harg10.eq_unread hfs1
  sl_exec (disch := first | sl_exact hz | sl_exact hl | sl_exact hf | sl_exact hs)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr
    swap; · iexact H4
    ipureintro
    refine (View.read_writes_full _ _ _ _ _).trans ?_
    try simp (disch := decide) only [View.readCov_unit_lit', View.readAt_eq_ld, View.ld_unit_lit', Memref.IsWhole.read_unread]
  isplitl [HS0]
  · iexists ds0; iexists _; isplitr; · ipureintro; exact harg9.read_unread _
    iexact HS0
  isplitl [HS1]
  · iexists ds1; iexists _; isplitr; · ipureintro; exact harg10.read_unread _
    iexact HS1
  isplitl [HT0]; · iexact HT0
  iexact HT1

end Cert.Experts

end
-- ==== Proof.ExpFrame.lean ====
module

public import proofs.«01_k».proof.Proof.ExpRuns
public import Idealize.ShloMosaic.Lib.Claim
public import Idealize.ShloMosaic.Lib.StableHlo.RunRead

/-! The experts' call as a pipeline over its 272 points: what each point leaves, the invariant between points, the launch,
and the frame. Everything is over any contents of the two tables whose blocks lie inside the arrays. -/

@[expose] public section

set_option maxRecDepth 16384

noncomputable section

namespace Cert.Experts

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the call -/

/-- The host's operations before the call: the tiles of each expert, their running sum, the tables and the casts. -/
abbrev hostAll : List (List (HloOp τ sig (Elt F))) := [hostOps0, hostOps0_1, hostOps0_2, hostOps0_3]

/-- A core's buffers when the call is entered. -/
def V (c : Dev nD) (b : Ref sig .tc) : Buf (Elt F) ((c : Thread nD τ).loc b) := StableHlo.after hostAll.flatten (fun b => m (c, b)) b

theorem host_sub : (hostAll : List (List (HloOp τ sig (Elt F)))).Forall fun ops => ops.Forall fun op => op.bufs ⊆ StableHlo.tcRefs τ sig :=
  ⟨hostOps0_sub, hostOps0_1_sub, hostOps0_2_sub, hostOps0_3_sub⟩

theorem host_fresh : (hostAll : List (List (HloOp τ sig (Elt F)))).Forall fun ops => ops.Forall fun op => op.fresh = ∅ := by
  simp only [List.Forall]; repeat' constructor

set_option maxHeartbeats 800000 in
theorem main_prefix (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main hostAll host_sub host_fresh main_chain

/-- What the host's operations write, in order. -/
def written : List (Ref sig .tc) :=
  [main_c, main_v0, main_v1, main_c_0, main_v2, main_v3, main_c_1, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v4, main_call1_call0_c, main_call1_call0_v0, main_v5, main_v6, main_v7, main_v8, main_v9, main_v10, main_v11, main_v12, main_c_2, main_v13, main_c_3, main_v14, main_v15, main_v16, main_v17, main_v18]
theorem writes_eq : (hostAll.flatten : List (HloOp τ sig (Elt F))).map HloOp.writes = written.map fun w => {Proc.devRef (τ := τ) .tc w} := rfl

theorem V_kept (c : Dev nD) (b : Ref sig .tc) (h : b ∉ written) : V m c b = m ((c : Thread nD τ).loc b) :=
  StableHlo.after_unwritten written writes_eq h _
theorem V_arg0 (c : Dev nD) : V m c main_arg0 = m ((c : Thread nD τ).loc main_arg0) := V_kept m c main_arg0 (by decide)
theorem V_arg1 (c : Dev nD) : V m c main_arg1 = m ((c : Thread nD τ).loc main_arg1) := V_kept m c main_arg1 (by decide)
theorem V_arg2 (c : Dev nD) : V m c main_arg2 = m ((c : Thread nD τ).loc main_arg2) := V_kept m c main_arg2 (by decide)
theorem V_arg3 (c : Dev nD) : V m c main_arg3 = m ((c : Thread nD τ).loc main_arg3) := V_kept m c main_arg3 (by decide)

/-! ## The tables -/

/-- The tables' contents when the call is entered (there is one device). -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- Every block the tables select is inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem tables_eq (c : Dev nD) : (Pipeline.ΦT pre0 (tbl m) c : sProp 𝕄) = iprop(tableAt c teM (tbl m 0) ∗ tableAt c ntM (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The number of tiles in use. -/
def ntw : BitVec 32 := nt (F := F) (0 : Dev nD) (tbl m 1)
theorem nt_eq (c : Dev nD) : nt (F := F) c (tbl m 1) = ntw m := by
  obtain rfl : c = 0 := Subsingleton.elim _ _; rfl
theorem atD_eq : Pipeline.Prefetch.Contents.atD (tbl m) 1 ![0] = ntw m := by
  unfold Pipeline.Prefetch.Contents.atD
  rw [dif_pos (by decide)]
  rfl

/-! ## The windows' blocks -/

/-- A window's block at a point, read off its array as the call finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem found_0 (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem found_1 (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem found_2 (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem found_3 (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## Where the output's buffer is stored into, and where it is written back -/

theorem flush_out (hO : Ok m) (t : Fin (cfgM m hO).N) : ((cfgM m hO).win 4).flush t = true ↔ t.val % 2 = 1 :=
  (fun t => Pipeline.Window.flushOf_reads cc0_transform_4 reads0_4 hreads0_4 0 (by decide) (by decide) (Pipeline.Window.sep_of_coord cc0_transform_4 0 0 (fun _ => rfl) (by decide)) (P := 2) (m := 1) (by decide) rfl t : ∀ t : Fin grid0.N, Pipeline.Window.flushOf grid0 true cc0_transform_4 t = true ↔ t.val % 2 = 1) t

theorem no_flush (hO : Ok m) (t : Fin (cfgM m hO).N) (h : t.val % 2 = 0) : ((cfgM m hO).win 4).flush t = false := by
  rw [Bool.eq_false_iff]; intro hf
  have := (flush_out m hO t).mp hf; omega

theorem idle_eq (hO : Ok m) (t : Fin (cfgM m hO).N) : (cfgM m hO).idle 4 (grid0.coords t) =
    (!(k0_cond1 (grid0.coords t) (ntw m) == 1#1) && !(k0_cond2 (grid0.coords t) (ntw m) == 1#1 && k0_cond5 (grid0.coords t) == 1#1)) := by
  rw [← atD_eq m]; rfl

theorem out_idle (hO : Ok m) (t : Fin (cfgM m hO).N) (h : t.val % 2 = 0) : (cfgM m hO).idle 4 (grid0.coords t) = true := by
  rw [idle_eq]
  have h1 := (zero_iff t (ntw m)).not.mpr (by omega)
  have h5 := (secondChunk_iff t).not.mpr (by omega)
  simp only [beq_eq_false_iff_ne.mpr h1, beq_eq_false_iff_ne.mpr h5, Bool.not_false, Bool.and_false, Bool.and_self]

theorem out_live (hO : Ok m) (t : Fin (cfgM m hO).N) (h : t.val % 2 = 1) : (cfgM m hO).idle 4 (grid0.coords t) = false := by
  rw [idle_eq]
  have h5 := (secondChunk_iff t).mpr h
  by_cases hl : Live (ntw m) t.val
  · have h2 := (live_iff t (ntw m)).mpr hl
    simp only [h2, h5, beq_self_eq_true, Bool.and_self, Bool.not_true, Bool.and_false]
  · have h1 := (zero_iff t (ntw m)).mpr ⟨hl, h⟩
    simp only [h1, beq_self_eq_true, Bool.not_true, Bool.false_and]

/-! ## The buffers at a point -/

abbrev stg0 (hO : Ok m) (t : Fin (cfgM m hO).N) : Memref sig .tc .vmem S512x1024 .f32 := spec0_0.stage ((cfgM m hO).slots t 0)
abbrev stg1 (hO : Ok m) (t : Fin (cfgM m hO).N) : Memref sig .tc .vmem S1x1x1024x1408 .bf16 := spec0_1.stage ((cfgM m hO).slots t 1)
abbrev stg2 (hO : Ok m) (t : Fin (cfgM m hO).N) : Memref sig .tc .vmem S1x1x1024x1408 .bf16 := spec0_2.stage ((cfgM m hO).slots t 2)
abbrev stg3 (hO : Ok m) (t : Fin (cfgM m hO).N) : Memref sig .tc .vmem S1x1x1408x1024 .bf16 := spec0_3.stage ((cfgM m hO).slots t 3)
abbrev stg4 (hO : Ok m) (t : Fin (cfgM m hO).N) : Memref sig .tc .vmem S512x1024 .f32 := spec0_4.stage ((cfgM m hO).slots t 4)
/-- The scratch with the first chunk's part. -/
abbrev accM : Memref sig .tc .vmem S512x1024 .f32 := Memref.whole cc0_scratch0
/-- The scratch with the cast rows. -/
abbrev rowsM : Memref sig .tc .vmem S512x1024 .bf16 := Memref.whole cc0_scratch1

/-- The body at a point, on what the pipeline calls it with. -/
abbrev bodyAt (hO : Ok m) (t : Fin (cfgM m hO).N) : Prog (TpuEff nD τ sig (Elt F) Λ₀ .tc) PUnit :=
  cc0_moe_experts (grid0.coords t) teM (Memref.isWhole_whole _) ntM (Memref.isWhole_whole _) (stg0 m hO t) (hstage0_0 (((cfgM m hO).slots t 0).cast nbuf0_0)) (stg1 m hO t) (hstage0_1 (((cfgM m hO).slots t 1).cast nbuf0_1)) (stg2 m hO t) (hstage0_2 (((cfgM m hO).slots t 2).cast nbuf0_2)) (stg3 m hO t) (hstage0_3 (((cfgM m hO).slots t 3).cast nbuf0_3)) (stg4 m hO t) (hstage0_4 (((cfgM m hO).slots t 4).cast nbuf0_4)) accM (Memref.isWhole_whole _) rowsM (Memref.isWhole_whole _)

/-- Both scratches at anything, and the generator register. -/
theorem scratch_eq (c : Dev nD) :
    (Pipeline.ΦA spec0 c : sProp 𝕄)
      = iprop(iprop((∃ d, owns (c : Thread nD τ) accM fullShare d) ∗ (∃ d, owns (c : Thread nD τ) rowsM fullShare d)) ∗ (∃ r, prngReg c r)) := by
  unfold Pipeline.ΦA; rw [scopedRest0_eq]; simp only [accM, rowsM, owns_whole]; try rfl

/-! ## What each point leaves -/

/-- The rows of the point's tile, cast. -/
def rowsOf (hO : Ok m) (c : Dev nD) (t : Fin (cfgM m hO).N) : Vec F S512x1024 .bf16 := k0_pay2 (iblk m hO c 0 t)
/-- The point's part of the product. -/
def partOf (hO : Ok m) (c : Dev nD) (t : Fin (cfgM m hO).N) : Vec F S512x1024 .f32 :=
  k0_pay3 (rowsOf m hO c t) (iblk m hO c 1 t) (iblk m hO c 2 t) (iblk m hO c 3 t)
/-- The point before. -/
def prev {N : ℕ} (t : Fin N) : Fin N := ⟨t.val - 1, Nat.lt_of_le_of_lt (Nat.sub_le _ _) t.isLt⟩
/-- The output's buffer after a second chunk: the sum of both parts on a tile in use, zero on another. -/
def outOf (hO : Ok m) (c : Dev nD) (t : Fin (cfgM m hO).N) : Vec F S512x1024 .f32 :=
  if Live (ntw m) t.val then
    k0_pay4 (partOf m hO c (prev t)) (rowsOf m hO c (prev t)) (iblk m hO c 1 t) (iblk m hO c 2 t) (iblk m hO c 3 t)
  else k0_pay1

/-- The invariant before position `n`: before a second chunk of a tile in use the scratches hold what the first chunk left,
    otherwise anything. -/
def Inv (hO : Ok m) (c : Dev nD) (n : ℕ) (hn : n ≤ (cfgM m hO).N) : sProp 𝕄 :=
  if h : n % 2 = 1 ∧ Live (ntw m) n then
    iprop(iprop(iprop(owns (c : Thread nD τ) accM fullShare (partOf m hO c ⟨n - 1, by omega⟩) ∗ owns (c : Thread nD τ) rowsM fullShare (rowsOf m hO c ⟨n - 1, by omega⟩)) ∗ (∃ r, prngReg c r)) ∗ Pipeline.ΦT pre0 (tbl m) c)
  else iprop(Pipeline.ΦA spec0 c ∗ Pipeline.ΦT pre0 (tbl m) c)

theorem Inv_kept (hO : Ok m) (c : Dev nD) (n : ℕ) (hn : n ≤ (cfgM m hO).N) (h : n % 2 = 1 ∧ Live (ntw m) n) :
    Inv m hO c n hn = iprop(iprop(iprop(owns (c : Thread nD τ) accM fullShare (partOf m hO c ⟨n - 1, by omega⟩) ∗ owns (c : Thread nD τ) rowsM fullShare (rowsOf m hO c ⟨n - 1, by omega⟩)) ∗ (∃ r, prngReg c r)) ∗ Pipeline.ΦT pre0 (tbl m) c) :=
  dif_pos h
theorem Inv_any (hO : Ok m) (c : Dev nD) (n : ℕ) (hn : n ≤ (cfgM m hO).N) (h : ¬ (n % 2 = 1 ∧ Live (ntw m) n)) :
    Inv m hO c n hn = iprop(Pipeline.ΦA spec0 c ∗ Pipeline.ΦT pre0 (tbl m) c) :=
  dif_neg h

theorem live_succ (w : BitVec 32) (n : ℕ) (h : n % 2 = 0) : Live w (n + 1) ↔ Live w n := by
  unfold Live; rw [show (n + 1) / 2 = n / 2 by omega]

/-- The pipeline's data: the arrays as the call finds them; after a point each input's buffer at its block and the
    output's at `outOf`; the invariant; nothing owed; each input its share of its array. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outOf m hO c t
  Φ t := Inv m hO c t.val (Nat.le_of_lt_succ t.isLt)
  q w := Pipeline.shareOf spec0 w
  owed _ := 0

theorem arrays_eq (hO : Ok m) (c : Dev nD) (w : Fin (cfgM m hO).W) : (dats m hO 0 c).A w = V m c (Pipeline.arrRef spec0 w) := by
  dsimp only [dats]

theorem inv_start (hO : Ok m) (c : Dev nD) (t : Fin (cfgM m hO).N) :
    (dats m hO 0 c).Φ t.castSucc = Inv m hO c t.val (Nat.le_of_lt t.isLt) := by
  dsimp only [dats]; exact Pipeline.Dat.Φ_castSucc (Inv m hO c) t

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = outOf m hO c t := by dsimp only [dats]; try rfl
theorem before_0 (hO : Ok m) (c : Dev nD) (t : Fin (cfgM m hO).N) (d) : (dats m hO 0 c).before 0 t d = iblk m hO c 0 t :=
  found_0 m hO (dats m hO 0 c) (arrays_eq m hO c 0) (after_0 m hO c) t d
theorem before_1 (hO : Ok m) (c : Dev nD) (t : Fin (cfgM m hO).N) (d) : (dats m hO 0 c).before 1 t d = iblk m hO c 1 t :=
  found_1 m hO (dats m hO 0 c) (arrays_eq m hO c 1) (after_1 m hO c) t d
theorem before_2 (hO : Ok m) (c : Dev nD) (t : Fin (cfgM m hO).N) (d) : (dats m hO 0 c).before 2 t d = iblk m hO c 2 t :=
  found_2 m hO (dats m hO 0 c) (arrays_eq m hO c 2) (after_2 m hO c) t d
theorem before_3 (hO : Ok m) (c : Dev nD) (t : Fin (cfgM m hO).N) (d) : (dats m hO 0 c).before 3 t d = iblk m hO c 3 t :=
  found_3 m hO (dats m hO 0 c) (arrays_eq m hO c 3) (after_3 m hO c) t d
theorem leaves_0 (hO : Ok m) (c : Dev nD) (t : Fin (cfgM m hO).N) : (dats m hO 0 c).leavesExact 0 t = owns (c : Thread nD τ) (stg0 m hO t) fullShare (iblk m hO c 0 t) := by
  unfold Dat.leavesExact; rw [show (cfgM m hO).idle 0 (grid0.coords t) = false from rfl, after_0]; try rfl
theorem leaves_1 (hO : Ok m) (c : Dev nD) (t : Fin (cfgM m hO).N) : (dats m hO 0 c).leavesExact 1 t = owns (c : Thread nD τ) (stg1 m hO t) fullShare (iblk m hO c 1 t) := by
  unfold Dat.leavesExact; rw [show (cfgM m hO).idle 1 (grid0.coords t) = false from rfl, after_1]; try rfl
theorem leaves_2 (hO : Ok m) (c : Dev nD) (t : Fin (cfgM m hO).N) : (dats m hO 0 c).leavesExact 2 t = owns (c : Thread nD τ) (stg2 m hO t) fullShare (iblk m hO c 2 t) := by
  unfold Dat.leavesExact; rw [show (cfgM m hO).idle 2 (grid0.coords t) = false from rfl, after_2]; try rfl
theorem leaves_3 (hO : Ok m) (c : Dev nD) (t : Fin (cfgM m hO).N) : (dats m hO 0 c).leavesExact 3 t = owns (c : Thread nD τ) (stg3 m hO t) fullShare (iblk m hO c 3 t) := by
  unfold Dat.leavesExact; rw [show (cfgM m hO).idle 3 (grid0.coords t) = false from rfl, after_3]; try rfl
theorem leaves_4 (hO : Ok m) (c : Dev nD) (t : Fin (cfgM m hO).N) (h : t.val % 2 = 1) : (dats m hO 0 c).leavesExact 4 t = owns (c : Thread nD τ) (stg4 m hO t) fullShare (outOf m hO c t) := by
  unfold Dat.leavesExact; rw [out_live m hO t h, after_4]; try rfl

/-! ## The body at any point -/

/-- What the body is called with, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (stg0 m hO t) fullShare ((dats m hO 0 c).before 0 t d))
    ∗ (∃ d, owns (c : Thread nD τ) (stg1 m hO t) fullShare ((dats m hO 0 c).before 1 t d))
    ∗ (∃ d, owns (c : Thread nD τ) (stg2 m hO t) fullShare ((dats m hO 0 c).before 2 t d))
    ∗ (∃ d, owns (c : Thread nD τ) (stg3 m hO t) fullShare ((dats m hO 0 c).before 3 t d))
    ∗ (∃ d, owns (c : Thread nD τ) (stg4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t)

set_option maxHeartbeats 3200000 in
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2, before_3]
  rw [show (dats m hO 0 c).owesAt () t.succ = (dats m hO 0 c).owesAt () t.castSucc from rfl]
  rw [show (dats m hO 0 c).Φ t.succ = Inv m hO c (t.val + 1) t.isLt from rfl, inv_start, leaves_0, leaves_1, leaves_2, leaves_3]
  have hN : t.val < 272 := lt_of_lt_of_eq t.isLt (show (cfgM m hO).N = 272 from N_0)
  by_cases h0 : t.val % 2 = 0
  · have hf := (firstChunk_iff t).mpr h0
    have hs := (secondChunk_iff t).not.mpr (by omega)
    have hz := (zero_iff t (ntw m)).not.mpr (by omega)
    rw [← nt_eq m c] at hz
    rw [Dat.leavesExact_idle (dats m hO 0 c) 4 t (out_idle m hO t h0) (no_flush m hO t h0)]
    rw [Inv_any m hO c t.val _ (by omega), tables_eq, scratch_eq]
    by_cases hL : Live (ntw m) t.val
    · have hl := (live_iff t (ntw m)).mpr hL
      rw [← nt_eq m c] at hl
      rw [Inv_kept m hO c (t.val + 1) _ ⟨by omega, (live_succ _ _ h0).mpr hL⟩, tables_eq]
      iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩⟩
      iapply (run_first c (grid0.coords t) _ _ _ _ _ _ _ _ _ _ _ _ _ _ (tbl m 0) (tbl m 1) hz hl hf hs (iblk m hO c 0 t) (iblk m hO c 1 t) (iblk m hO c 2 t) (iblk m hO c 3 t) _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HT0]; · iexact HT0
      isplitl [HT1]; · iexact HT1
      iintro ⟨H0, H1, H2, H3, H4, HS0, HS1, HT0, HT1⟩
      isplitl [HS0 HS1 Hg HT0 HT1]
      · isplitl [HS0 HS1 Hg]
        · isplitl [HS0 HS1]
          · isplitl [HS0]
            · iexact HS0
            iexact HS1
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexists _; iexact H4
    · have hl := (live_iff t (ntw m)).not.mpr hL
      rw [← nt_eq m c] at hl
      rw [Inv_any m hO c (t.val + 1) _ (fun h => hL ((live_succ _ _ h0).mp h.2)), tables_eq, scratch_eq]
      iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩⟩
      iapply (run_idle c (grid0.coords t) _ _ _ _ _ _ _ _ _ _ _ _ _ _ (tbl m 0) (tbl m 1) hz hl hf hs (iblk m hO c 0 t) (iblk m hO c 1 t) (iblk m hO c 2 t) (iblk m hO c 3 t) _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HT0]; · iexact HT0
      isplitl [HT1]; · iexact HT1
      iintro ⟨H0, H1, H2, H3, H4, HS0, HS1, HT0, HT1⟩
      isplitl [HS0 HS1 Hg HT0 HT1]
      · isplitl [HS0 HS1 Hg]
        · isplitl [HS0 HS1]
          · isplitl [HS0]
            · iexact HS0
            iexact HS1
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexists _; iexact H4
  · have h1 : t.val % 2 = 1 := by omega
    have hf := (firstChunk_iff t).not.mpr h0
    have hs := (secondChunk_iff t).mpr h1
    rw [leaves_4 m hO c t h1, Inv_any m hO c (t.val + 1) _ (by omega), tables_eq, scratch_eq]
    unfold outOf
    by_cases hL : Live (ntw m) t.val
    · have hl := (live_iff t (ntw m)).mpr hL
      have hz := (zero_iff t (ntw m)).not.mpr (fun h => h.1 hL)
      rw [← nt_eq m c] at hl hz
      rw [if_pos hL, Inv_kept m hO c t.val _ ⟨h1, hL⟩, tables_eq]
      iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩⟩
      iapply (run_second c (grid0.coords t) _ _ _ _ _ _ _ _ _ _ _ _ _ _ (tbl m 0) (tbl m 1) hz hl hf hs (iblk m hO c 0 t) (iblk m hO c 1 t) (iblk m hO c 2 t) (iblk m hO c 3 t) _ _ Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HT0]; · iexact HT0
      isplitl [HT1]; · iexact HT1
      iintro ⟨H0, H1, H2, H3, H4, HS0, HS1, HT0, HT1⟩
      isplitl [HS0 HS1 Hg HT0 HT1]
      · isplitl [HS0 HS1 Hg]
        · isplitl [HS0 HS1]
          · isplitl [HS0]
            · iexists _; iexact HS0
            iexists _; iexact HS1
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexact H4
    · have hl := (live_iff t (ntw m)).not.mpr hL
      have hz := (zero_iff t (ntw m)).mpr ⟨hL, h1⟩
      rw [← nt_eq m c] at hl hz
      rw [if_neg hL, Inv_any m hO c t.val _ (fun h => hL h.2), tables_eq, scratch_eq]
      iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩⟩
      iapply (run_zero c (grid0.coords t) _ _ _ _ _ _ _ _ _ _ _ _ _ _ (tbl m 0) (tbl m 1) hz hl hf hs (iblk m hO c 0 t) (iblk m hO c 1 t) (iblk m hO c 2 t) (iblk m hO c 3 t) Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HT0]; · iexact HT0
      isplitl [HT1]; · iexact HT1
      iintro ⟨H0, H1, H2, H3, H4, HS0, HS1, HT0, HT1⟩
      isplitl [HS0 HS1 Hg HT0 HT1]
      · isplitl [HS0 HS1 Hg]
        · isplitl [HS0 HS1]
          · isplitl [HS0]
            · iexact HS0
            iexact HS1
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexact H4

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The launch and the frame -/

theorem entering (hO : Ok m) (c : Dev nD) : iprop(Pipeline.ΦA spec0 c ∗ Pipeline.ΦT pre0 (tbl m) c) ⊢ (dats m hO 0 c).Φ 0 := by
  rw [show (dats m hO 0 c).Φ 0 = Inv m hO c 0 (Nat.zero_le _) from rfl, Inv_any m hO c 0 _ (by omega)]
  try exact Idealize.SL.BI.Entails.refl _

theorem leaving (hO : Ok m) (c : Dev nD) : (dats m hO 0 c).Φ (Fin.last (cfgM m hO).N) ⊢ Pipeline.ΦA spec0 c := by
  have hN : (cfgM m hO).N = 272 := N_0
  rw [show (dats m hO 0 c).Φ (Fin.last (cfgM m hO).N) = Inv m hO c (cfgM m hO).N (Nat.le_refl _) from rfl,
    Inv_any m hO c _ _ (by omega)]
  iintro ⟨H, -⟩
  iexact H

-- the launch theorem's implicit arguments are found by unfolding plain definitions in a type
set_option backward.isDefEq.respectTransparency.types false in
theorem run_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := main_prefix m Variants.none) (hA := arrays_eq m hO) (hpf := V_pre m)
    (hin := entering m hO) (hout := leaving m hO)

/-- From any memory whose tables select blocks inside the arrays: the call ends, with the pipeline's arrays at what its data
    say, every other array as it was, and every counter zero. -/
theorem run_main (hO : Ok m) : θ_run defs (onTc (τ := τ) (main (F := F))) ⟨m, fun _ => 0, ρ⟩ (fun r => (∀ c : Dev nD,
      r.2.mem ((c.tc : Thread nD τ).loc main_v19) = (dats m hO 0 c).arrAt 4 (Fin.last (cfgM m hO).N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c).1 4,
      ((h.1 c).1 0).trans (((dats m hO 0 c).arrAt_in 0 rfl _).trans ((arrays_eq m hO c 0).trans (V_arg0 m c))),
      ((h.1 c).2 main_arg1 (by decide : main_arg1 ∈ Pipeline.restRefs sig spec0)).trans (V_arg1 m c),
      ((h.1 c).2 main_arg2 (by decide : main_arg2 ∈ Pipeline.restRefs sig spec0)).trans (V_arg2 m c),
      ((h.1 c).2 main_arg3 (by decide : main_arg3 ∈ Pipeline.restRefs sig spec0)).trans (V_arg3 m c)⟩, h.2⟩) (run_quiescent m ρ hO)

end Cert.Experts

end
-- ==== Proof.ExpTables.lean ====
module

public import proofs.«01_k».proof.Proof.ExpFrame
public import Idealize.ShloMosaic.Lib.Routing.Words
public import Idealize.ShloMosaic.Lib.Routing.Ops
public import Idealize.ShloMosaic.Lib.PlanTiles.Rows
public import Idealize.ShloMosaic.Lib.WordCmp
public import Idealize.ShloMosaic.Lib.Pointwise

/-! The two tables of the experts' call as the host makes them from the number of rows of each expert: an expert takes as
many tiles of 512 rows as hold its rows, the experts' tiles follow one another, and a tile's expert is the number of
experts whose tiles end at it or before. -/

@[expose] public section

set_option maxRecDepth 16384

noncomputable section

namespace Cert.Experts

open Cert.Kernel3Ideal Cert.Kernel3Ideal.Gen
open Idealize.ShloMosaic Idealize.ShloMosaic.TcCoe
open Idealize.SL.Sem

variable {F : FTy → Type} [FloatOps F]
variable (m : (ℓ : Loc nD τ sig) → Buf (Elt F) ℓ)

/-- The rows of each expert. -/
def cntArr : IVec S8 32 := m (((0 : Dev nD) : Thread nD τ).loc main_arg1)

/-- The tiles of each expert. -/
abbrev tilesV (k : IVec S8 32) : IVec S8 32 :=
  Routing.pyDiv bcast_S_S8 (subi (addi k (broadcastInDim S8 ![] bcast_S_S8 (constantI S_ 32 512#32))) (broadcastInDim S8 ![] bcast_S_S8 (constantI S_ 32 1#32)))
    (constantI S_ 32 512#32)
/-- Where each expert's tiles end. -/
abbrev endsV (k : IVec S8 32) : IVec S8 32 :=
  Host.reduceWindow IntOp.addi ![8] ![1] ![7] ![0] (tilesV k) (broadcastInDim S_ ![] bcast_S_S_ (constantI S_ 32 0#32)) reduceWindows_S8_S8_w8s1p7_0 h_S_
/-- The expert of each tile. -/
abbrev expertsV (k : IVec S8 32) : IVec S136 32 :=
  minsi (Host.reduce IntOp.addi (extui 32 (cmpi .sge
      (broadcastInDim S136x8 ![0, 1] bcast_S136x1_S136x8_0_1 (broadcastInDim S136x1 ![0] bcast_S136_S136x1_0 (iotaInDim S136 32 0)))
      (broadcastInDim S136x8 ![0, 1] bcast_S1x8_S136x8_0_1 (broadcastInDim S1x8 ![1] bcast_S8_S1x8_1 (endsV k)))) natLt_1_32)
      (constantI S_ 32 0#32) reducesTo_S136x8_S136_d1 h_S_)
    (broadcastInDim S136 ![] bcast_S_S136 (constantI S_ 32 7#32))
/-- The number of tiles in use. -/
abbrev usedV (k : IVec S8 32) : IVec S1 32 := extractStridedSlice S1 ![7] (endsV k) slices_S8_S1_7

theorem V_v15 : V m 0 main_v15 = expertsV (cntArr m) := by
  unfold V
  after_reads_simp
  simp -implicitDefEqProofs only [StableHlo.TRef.toBuf, StableHlo.TRef.ofBuf, cast_cast, cast_eq]
  rfl
theorem V_v16 : V m 0 main_v16 = usedV (cntArr m) := by
  unfold V
  after_reads_simp
  simp -implicitDefEqProofs only [StableHlo.TRef.toBuf, StableHlo.TRef.ofBuf, cast_cast, cast_eq]
  rfl
theorem V_v17 (c : Dev nD) : V m c main_v17 = truncf .bf16 (m ((c : Thread nD τ).loc main_arg2) : FVec F S2x8x1024x5632 .f32) bitsLt_bf16_f32 := by
  unfold V
  after_reads_simp
  try rfl
theorem V_v18 (c : Dev nD) : V m c main_v18 = truncf .bf16 (m ((c : Thread nD τ).loc main_arg3) : FVec F S2x8x2816x1024 .f32) bitsLt_bf16_f32 := by
  unfold V
  after_reads_simp
  try rfl

/-! ## What the tables hold -/

/-- The tiles of the experts before the `e`-th, where expert `i` has `c i` rows. -/
def before (c : ℕ → ℕ) (e : ℕ) : ℕ := ((List.range e).map fun i => (c i + 511) / 512).sum

theorem before_zero (c : ℕ → ℕ) : before c 0 = 0 := rfl
theorem before_succ (c : ℕ → ℕ) (e : ℕ) : before c (e + 1) = before c e + (c e + 511) / 512 := by
  unfold before
  rw [List.range_succ, List.map_append, List.sum_append]
  simp

theorem before_le (c : ℕ → ℕ) (hb : ∀ i, c i ≤ 65536) (e : ℕ) : before c e ≤ 128 * e := by
  induction e with
  | zero => exact Nat.le_of_eq (before_zero c)
  | succ e ih => rw [before_succ]; have := hb e; omega

theorem before_mono (c : ℕ → ℕ) {a b : ℕ} (h : a ≤ b) : before c a ≤ before c b := by
  induction b with
  | zero => obtain rfl : a = 0 := by omega
            exact le_rfl
  | succ b ih =>
    rcases Nat.lt_or_ge a (b + 1) with h' | h'
    · exact (ih (by omega)).trans (by rw [before_succ]; omega)
    · obtain rfl : a = b + 1 := by omega
      exact le_rfl

section values

variable (k : IVec S8 32) (c : ℕ → ℕ) (hk : ∀ i : Fin 8, k (ix1 i) = BitVec.ofNat 32 (c i.val)) (hb : ∀ i, c i ≤ 65536)

include hk hb in
theorem tiles_apply (i : Fin 8) : tilesV k (ix1 i) = BitVec.ofNat 32 ((c i.val + 511) / 512) := by
  have hc := hb i.val
  refine Routing.pyDiv_ap bcast_S_S8 _ (constantI S_ 32 512#32) (ix1 i) (a := c i.val + 511) (b := 512) ?_ rfl (by omega) (by decide) (by decide)
  show k (ix1 i) + 512#32 - 1#32 = _
  rw [hk i]
  apply BitVec.eq_of_toNat_eq
  simp only [BitVec.toNat_sub, BitVec.toNat_add, BitVec.toNat_ofNat]
  omega

include hk hb in
theorem ends_apply (i : Fin 8) : endsV k (ix1 i) = BitVec.ofNat 32 (before c (i.val + 1)) :=
  Routing.cumsum1 (N := 8) (Nm1 := 7) rfl (tilesV k) (fun n => (c n + 511) / 512) (tiles_apply k c hk hb) _ rfl reduceWindows_S8_S8_w8s1p7_0 h_S_ i

include hk hb in
theorem used_apply : usedV k (ix1 0) = BitVec.ofNat 32 (before c 8) := by
  refine Eq.trans ?_ (ends_apply k c hk hb 7)
  pointwise [usedV]

include hk hb in
theorem experts_apply (t : Fin 136) : expertsV k (ix1 t) = BitVec.ofNat 32 (min 7 (Nat.count (fun e => before c (e + 1) ≤ t.val) 8)) := by
  have hn : Nat.count (fun e => before c (e + 1) ≤ t.val) 8 ≤ 8 := Nat.count_le _
  show IntOp.minsi _ 7#32 = _
  refine (congrArg (fun w : BitVec 32 => IntOp.minsi w 7#32)
    (Routing.reduce_count (n := 136) (m := 8) (by decide) _ natLt_1_32 reducesTo_S136x8_S136_d1 h_S_ t (fun e => before c (e + 1) ≤ t.val) ?_)).trans ?_
  rotate_left
  · exact PlanTiles.minsi_word (b := 7) (by omega) (by decide)
  · intro q
    have he : endsV k (ix1 q) = _ := ends_apply k c hk hb q
    have hl := before_le c hb (q.val + 1)
    have hq := q.isLt
    have ht := t.isLt
    have : cmpi .sge (broadcastInDim S136x8 ![0, 1] bcast_S136x1_S136x8_0_1 (broadcastInDim S136x1 ![0] bcast_S136_S136x1_0 (iotaInDim S136 32 0)))
        (broadcastInDim S136x8 ![0, 1] bcast_S1x8_S136x8_0_1 (broadcastInDim S1x8 ![1] bcast_S8_S1x8_1 (endsV k))) (ix2 t q)
        = IntOp.cmpi .sge (BitVec.ofNat 32 t.val) (endsV k (ix1 q)) := by
      generalize endsV k = E
      pointwise
    rw [he, WordCmp.cmpi_sge_ofNat (by omega) (by omega)] at this
    exact (iff_of_eq (congrArg (fun w : BitVec 1 => w = 1#1) this)).trans (WordCmp.ofBool_decide_eq_one_iff _)

end values

theorem count_prefix (p : ℕ → Prop) [DecidablePred p] (e : ℕ) (hp : ∀ i, p i ↔ i < e) (n : ℕ) : Nat.count p n = min e n := by
  induction n with
  | zero => simp
  | succ n ih =>
    rw [Nat.count_succ, ih]
    by_cases h : p n
    · rw [if_pos h]; have := (hp n).1 h; omega
    · rw [if_neg h]; have hn : ¬ n < e := fun h' => h ((hp n).2 h')
      omega

/-- A tile among expert `e`'s has that expert. -/
theorem count_of_mem (c : ℕ → ℕ) (e t : ℕ) (he : e < 8) (h1 : before c e ≤ t) (h2 : t < before c (e + 1)) :
    min 7 (Nat.count (fun i => before c (i + 1) ≤ t) 8) = e := by
  rw [count_prefix _ e (fun i => ?_)]
  · omega
  · constructor
    · intro h
      by_contra hn
      have := before_mono c (show e + 1 ≤ i + 1 by omega)
      omega
    · intro h
      exact (before_mono c (show i + 1 ≤ e by omega)).trans h1

/-- A tile in use is among some expert's. -/
theorem exists_mem (c : ℕ → ℕ) (t n : ℕ) (h : t < before c n) : ∃ e, e < n ∧ before c e ≤ t ∧ t < before c (e + 1) := by
  induction n with
  | zero => rw [before_zero] at h; omega
  | succ n ih =>
    by_cases h' : t < before c n
    · obtain ⟨e, h1, h2⟩ := ih h'
      exact ⟨e, by omega, h2⟩
    · exact ⟨n, by omega, by omega, h⟩

theorem before_pos (c : ℕ → ℕ) (e : ℕ) (he : e < 8) (h : 1 ≤ c e) : 1 ≤ before c 8 := by
  have h1 := before_succ c e
  have h2 := before_mono c (show e + 1 ≤ 8 by omega)
  have : 1 ≤ (c e + 511) / 512 := by omega
  omega

theorem tbl_0 : tbl m 0 = expertsV (cntArr m) := V_v15 m
theorem tbl_1 : tbl m 1 = usedV (cntArr m) := V_v16 m

end Cert.Experts

end
-- ==== Proof.Spec.lean ====
/- The row functions both sides are read as: the layer norm of a row of 1024 entries, and the gated feed-forward
   row as a sum over its hidden units. Extended reals throughout. -/
module

public import Idealize.ShloMosaic.Lib.Pointwise

@[expose] public section

set_option maxRecDepth 16384

noncomputable section

namespace Cert.Spec

open Idealize.ShloMosaic

/-- The mean of a row of 1024 entries. -/
def rowMean (y : Fin 1024 → EReal) : EReal := Ideal.div (∑ k, y k) (Ideal.ofBits .f32 1149239296#32)

/-- One entry of the layer norm of a row: centred, divided by the root of the variance plus the small constant,
    scaled by `g` and shifted by `b`. -/
def layerNorm (y : Fin 1024 → EReal) (g b : EReal) (j : Fin 1024) : EReal :=
  (y j - rowMean y) *
      Ideal.rsqrt (Ideal.div (∑ k, (y k - rowMean y) * (y k - rowMean y)) (Ideal.ofBits .f32 1149239296#32)
        + Ideal.ofBits .f32 925353388#32) * g + b

/-- One hidden unit of the gated feed-forward: the gate's projection times its logistic, times the other projection. -/
def hidden (x gate up : Fin 1024 → EReal) : EReal :=
  (∑ k, x k * gate k) * Ideal.logistic (∑ k, x k * gate k) * ∑ k, x k * up k

/-- One entry of the feed-forward row over `n` hidden units. -/
def ffnRow {n : ℕ} (x : Fin 1024 → EReal) (gate up : Fin n → Fin 1024 → EReal) (down : Fin n → EReal) : EReal :=
  ∑ f, hidden x (gate f) (up f) * down f

/-- The feed-forward over 2816 hidden units is the sum of its two halves. -/
theorem ffnRow_halves (x : Fin 1024 → EReal) (gate up : Fin 2816 → Fin 1024 → EReal) (down : Fin 2816 → EReal) :
    ffnRow x gate up down
      = ffnRow (n := 1408) x (fun f => gate ⟨f.val, by omega⟩) (fun f => up ⟨f.val, by omega⟩) (fun f => down ⟨f.val, by omega⟩)
        + ffnRow (n := 1408) x (fun f => gate ⟨1408 + f.val, by omega⟩) (fun f => up ⟨1408 + f.val, by omega⟩)
            (fun f => down ⟨1408 + f.val, by omega⟩) :=
  Fin.sum_univ_add (a := 1408) (b := 1408) fun f => hidden x (gate f) (up f) * down f

end Cert.Spec

end
-- ==== Proof.ExpValue.lean ====
/- What the experts' kernel leaves: on a tile in use, each row's feed-forward through the tile's expert, the hidden units in
   two chunks; on another tile, zero. -/
module

public import proofs.«01_k».proof.Proof.ExpTables
public import Idealize.ShloMosaic.Lib.Pipeline.ValueKit
public import Idealize.ShloMosaic.Lib.Pipeline.ReadBack
public import proofs.«01_k».proof.Proof.Spec

@[expose] public section

set_option maxRecDepth 16384

noncomputable section

namespace Cert.Experts

open Cert.Kernel3Ideal Cert.Kernel3Ideal.Gen Idealize.ShloMosaic Idealize.ShloMosaic.TcCoe Idealize.SL.Sem

attribute [local irreducible] V

section words

variable {F : FTy → Type} [FloatOps F] (m : (ℓ : Loc nD τ sig) → Buf (Elt F) ℓ)

/-- The expert of a tile. -/
noncomputable def te (i : Fin 136) : BitVec 32 := tbl m 0 (ix1 i)

theorem ntw_eq : ntw m = tbl m 1 (ix1 0) := by
  show tbl m 1 _ = tbl m 1 _
  congr 1
  funext a
  apply Fin.ext
  match a with
  | ⟨0, _⟩ => rfl

theorem coord_tile (t : Fin grid0.N) : (grid0.coords t 0).val = t.val / 2 := by
  have ht : t.val < 272 := Nat.lt_of_lt_of_eq t.isLt N_0
  rw [show (grid0.coords t 0).val = t.val / 2 % 136 from Pipeline.Grid.coords_val t 0 (by decide) rfl]
  exact Nat.mod_eq_of_lt (by omega)

theorem coord_chunk (t : Fin grid0.N) : (grid0.coords t 1).val = t.val % 2 := by
  rw [show (grid0.coords t 1).val = t.val / 1 % 2 from Pipeline.Grid.coords_val t 1 (by decide) rfl, Nat.div_one]

theorem tile_at (i : grid0.Coords) :
    Pipeline.Prefetch.Contents.at (tbl m) 0 (Rect.unit (s := S136) ![(Scalar.indexCast (BitVec.ofNat 32 (i 0).val)).toNat] S1.size (k0_off1_inb i)) numel1_S1
      = te m (i 0) := by
  show tbl m 0 _ = tbl m 0 _
  congr 1
  funext a
  apply Fin.ext
  match a with
  | ⟨0, _⟩ =>
    show (BitVec.ofNat 32 (i 0).val).toNat + 1 * 0 = (i 0).val
    have : (i 0).val < 136 := (i 0).isLt
    simp only [BitVec.toNat_ofNat]; omega

theorem index_1 (i : grid0.Coords) : cc0_transform_1 k0_off1_inb numel1_S1 (tbl m) i = ![0, (te m (i 0)).toNat, 0, (i 1).val] := by
  have h1 : (i 1).val < 2 := (i 1).isLt
  unfold cc0_transform_1
  dsimp only
  rw [tile_at]
  simp only [BitVec.toNat_ofNat, Nat.zero_mod, Nat.mod_eq_of_lt (show (i 1).val < 2 ^ 32 by omega)]

theorem index_2 (i : grid0.Coords) : cc0_transform_2 k0_off1_inb numel1_S1 (tbl m) i = ![0, (te m (i 0)).toNat, 0, (i 1).val + 2] := by
  have h1 : (i 1).val < 2 := (i 1).isLt
  unfold cc0_transform_2
  dsimp only
  rw [tile_at]
  have e : (Scalar.addi (BitVec.ofNat 32 (i 1).val) 2#32).toNat = (i 1).val + 2 := by
    show (BitVec.ofNat 32 (i 1).val + 2#32).toNat = _
    rw [BitVec.toNat_add, BitVec.toNat_ofNat, BitVec.toNat_ofNat]; omega
  rw [e]
  rfl

theorem index_3 (i : grid0.Coords) : cc0_transform_3 k0_off1_inb numel1_S1 (tbl m) i = ![0, (te m (i 0)).toNat, (i 1).val, 0] := by
  have h1 : (i 1).val < 2 := (i 1).isLt
  unfold cc0_transform_3
  dsimp only
  rw [tile_at]
  simp only [BitVec.toNat_ofNat, Nat.zero_mod, Nat.mod_eq_of_lt (show (i 1).val < 2 ^ 32 by omega)]

/-- The tile whose rows are fetched: the last in use from there on. -/
noncomputable def rowTile (i : Fin 136) : ℕ := (Scalar.minsi (BitVec.ofNat 32 i.val) (Scalar.subi (ntw m) 1#32)).toNat

theorem index_0 (i : grid0.Coords) : cc0_transform_0 inb_S1_S1_0 numel1_S1 (tbl m) i = ![rowTile m (i 0), 0] := rfl

/-- What is asked of the tables: each tile's expert is one of the eight, and some tile is in use. -/
structure Good : Prop where
  te_lt : ∀ i : Fin 136, (te m i).toNat < 8
  nt_pos : 1 ≤ (ntw m).toInt

variable {m}

theorem sub_one (w : BitVec 32) (h : 1 ≤ w.toInt) : (Scalar.subi w 1#32).toInt = w.toInt - 1 := by
  show (w - 1#32).toInt = _
  rw [BitVec.toInt_sub, Int.bmod_def]
  have := BitVec.toInt_lt (x := w)
  have e : (1#32).toInt = 1 := by decide
  rw [e]; simp at this ⊢; omega

theorem word_toInt (n : ℕ) (h : n < 2 ^ 31) : (BitVec.ofNat 32 n).toInt = n := by
  rw [BitVec.toInt_eq_toNat_of_lt (by rw [BitVec.toNat_ofNat]; omega), BitVec.toNat_ofNat, Nat.mod_eq_of_lt (by omega)]

theorem live_iff_lt (n : ℕ) (h : n < 272) (w : BitVec 32) : Iff (Live w n) (((n / 2 : ℕ) : ℤ) < w.toInt) := by
  unfold Live
  rw [BitVec.slt_iff_toInt_lt, word_toInt _ (by omega)]

theorem rowTile_lt (g : Good m) (i : Fin 136) : rowTile m i < 136 := by
  have hi := i.isLt
  have h1 := sub_one _ g.nt_pos
  have hp := g.nt_pos
  have e := word_toInt i.val (by omega)
  show (if (BitVec.ofNat 32 i.val).slt (Scalar.subi (ntw m) 1#32) then BitVec.ofNat 32 i.val else Scalar.subi (ntw m) 1#32).toNat < 136
  split
  · rw [BitVec.toNat_ofNat]; omega
  · rename_i h
    rw [BitVec.slt_iff_toInt_lt, e, h1] at h
    have := BitVec.toInt_eq_toNat_cond (Scalar.subi (ntw m) 1#32)
    rw [h1] at this
    have hb := (Scalar.subi (ntw m) 1#32).isLt
    split at this <;> omega

theorem rowTile_live (i : Fin 136) (h : ((i.val : ℕ) : ℤ) < (ntw m).toInt) : rowTile m i = i.val := by
  have hi := i.isLt
  have h1 := sub_one (ntw m) (by omega)
  have e := word_toInt i.val (by omega)
  show (if (BitVec.ofNat 32 i.val).slt (Scalar.subi (ntw m) 1#32) then BitVec.ofNat 32 i.val else Scalar.subi (ntw m) 1#32).toNat = _
  split
  · rw [BitVec.toNat_ofNat]; omega
  · rename_i hn
    rw [BitVec.slt_iff_toInt_lt, e, h1] at hn
    have := BitVec.toInt_eq_toNat_cond (Scalar.subi (ntw m) 1#32)
    rw [h1] at this
    have hb := (Scalar.subi (ntw m) 1#32).isLt
    split at this <;> omega

theorem ok_of_good (g : Good m) : Ok m := by
  have k1 : ∀ i : grid0.Coords, (i 1).val < 2 := fun i => (i 1).isLt
  refine ⟨fun i => ⟨?_, .inl rfl⟩, fun i => ?_, fun i => ?_, fun i => ?_⟩
  · rw [index_0]
    have := rowTile_lt g (i 0)
    intro a
    match a with
    | ⟨0, _⟩ => show (rowTile m (i 0) + 1) * 512 ≤ 69632; omega
    | ⟨1, _⟩ => show (0 + 1) * 1024 ≤ 1024; omega
  · have := g.te_lt (i 0)
    have := k1 i
    refine ⟨?_, .inr (.inr ⟨by decide, rfl, ?_, rfl⟩)⟩
    · rw [index_1]
      intro a
      match a with
      | ⟨0, _⟩ => show (0 + 1) * 1 ≤ 2; omega
      | ⟨1, _⟩ => show ((te m (i 0)).toNat + 1) * 1 ≤ 8; omega
      | ⟨2, _⟩ => show (0 + 1) * 1024 ≤ 1024; omega
      | ⟨3, _⟩ => show ((i 1).val + 1) * 1408 ≤ 5632; omega
    · show cc0_transform_1 k0_off1_inb numel1_S1 (tbl m) i 2 * 1024 = 0
      rw [index_1]; rfl
  · have := g.te_lt (i 0)
    have := k1 i
    refine ⟨?_, .inr (.inr ⟨by decide, rfl, ?_, rfl⟩)⟩
    · rw [index_2]
      intro a
      match a with
      | ⟨0, _⟩ => show (0 + 1) * 1 ≤ 2; omega
      | ⟨1, _⟩ => show ((te m (i 0)).toNat + 1) * 1 ≤ 8; omega
      | ⟨2, _⟩ => show (0 + 1) * 1024 ≤ 1024; omega
      | ⟨3, _⟩ => show ((i 1).val + 2 + 1) * 1408 ≤ 5632; omega
    · show cc0_transform_2 k0_off1_inb numel1_S1 (tbl m) i 2 * 1024 = 0
      rw [index_2]; rfl
  · have := g.te_lt (i 0)
    have := k1 i
    refine ⟨?_, .inr (.inl (.inr ⟨by decide, rfl, .inl ⟨?_, ?_⟩⟩))⟩
    · rw [index_3]
      intro a
      match a with
      | ⟨0, _⟩ => show (0 + 1) * 1 ≤ 2; omega
      | ⟨1, _⟩ => show ((te m (i 0)).toNat + 1) * 1 ≤ 8; omega
      | ⟨2, _⟩ => show ((i 1).val + 1) * 1408 ≤ 2816; omega
      | ⟨3, _⟩ => show (0 + 1) * 1024 ≤ 1024; omega
    · show 2 ∣ cc0_transform_3 k0_off1_inb numel1_S1 (tbl m) i 2 * 1408
      exact Dvd.dvd.mul_left (by decide) _
    · show 2 ∣ 1408
      decide

end words

section values

variable (m : (ℓ : Loc nD τ sig) → Buf (Elt Ideal) ℓ) (hO : Ok m)

/-- The argument arrays, -/
noncomputable def xArr (c : Dev nD) : FVec Ideal S69632x1024 .f32 := m ((c : Thread nD τ).loc main_arg0)
noncomputable def wArr (c : Dev nD) : FVec Ideal S2x8x1024x5632 .f32 := m ((c : Thread nD τ).loc main_arg2)
noncomputable def dArr (c : Dev nD) : FVec Ideal S2x8x2816x1024 .f32 := m ((c : Thread nD τ).loc main_arg3)
/-- and a point's blocks of them: rows, gate, up and down weights. -/
noncomputable def xBlk (c : Dev nD) (t : Fin (cfgM m hO).N) : Vec Ideal S512x1024 .f32 := iblk m hO c 0 t
noncomputable def gBlk (c : Dev nD) (t : Fin (cfgM m hO).N) : Vec Ideal S1x1x1024x1408 .bf16 := iblk m hO c 1 t
noncomputable def uBlk (c : Dev nD) (t : Fin (cfgM m hO).N) : Vec Ideal S1x1x1024x1408 .bf16 := iblk m hO c 2 t
noncomputable def dBlk (c : Dev nD) (t : Fin (cfgM m hO).N) : Vec Ideal S1x1x1408x1024 .bf16 := iblk m hO c 3 t

theorem x_block (c : Dev nD) (t : Fin (cfgM m hO).N) (r : Fin 512) (k : Fin 1024) (hl : Live (ntw m) t.val)
    (h : 512 * (t.val / 2) + r.val < 69632) :
    xBlk m hO c t (ix2 r k) = xArr m c (ix2 ⟨512 * (t.val / 2) + r.val, h⟩ k) := by
  have ht : t.val < 272 := Nat.lt_of_lt_of_eq t.isLt N_0
  have hr : rowTile m (grid0.coords t 0) = t.val / 2 := by
    have hc := coord_tile t
    rw [← hc]
    exact rowTile_live _ (by rw [hc]; exact (live_iff_lt _ ht _).1 hl)
  unfold xBlk iblk
  refine (congrFun (V_arg0 m c) _).trans ?_
  show m ((c : Thread nD τ).loc main_arg0) _ = m ((c : Thread nD τ).loc main_arg0) _
  congr 1
  funext a
  apply Fin.ext
  match a with
  | ⟨0, _⟩ =>
    show rowTile m (grid0.coords t 0) * 512 + 1 * r.val = 512 * (t.val / 2) + r.val
    rw [hr]; omega
  | ⟨1, _⟩ =>
    show 0 * 1024 + 1 * k.val = k.val
    omega

theorem gate_block (c : Dev nD) (t : Fin (cfgM m hO).N) (k : Fin 1024) (f : Fin 1408) (e : Fin 8) (he : (te m (grid0.coords t 0)).toNat = e.val)
    (h : 1408 * (t.val % 2) + f.val < 5632) :
    gBlk m hO c t (ix4 0 0 k f) = wArr m c (ix4 0 e k ⟨1408 * (t.val % 2) + f.val, h⟩) := by
  have hc := coord_chunk t
  unfold gBlk iblk
  refine (congrFun (V_v17 m c) _).trans ?_
  show m ((c : Thread nD τ).loc main_arg2) _ = m ((c : Thread nD τ).loc main_arg2) _
  congr 1
  funext a
  apply Fin.ext
  match a with
  | ⟨0, _⟩ => rfl
  | ⟨1, _⟩ =>
    show cc0_transform_1 k0_off1_inb numel1_S1 (tbl m) (grid0.coords t) 1 * 1 + 1 * 0 = e.val
    rw [index_1]
    show (te m (grid0.coords t 0)).toNat * 1 + 1 * 0 = e.val
    omega
  | ⟨2, _⟩ =>
    show cc0_transform_1 k0_off1_inb numel1_S1 (tbl m) (grid0.coords t) 2 * 1024 + 1 * k.val = k.val
    rw [index_1]
    show 0 * 1024 + 1 * k.val = k.val
    omega
  | ⟨3, _⟩ =>
    show cc0_transform_1 k0_off1_inb numel1_S1 (tbl m) (grid0.coords t) 3 * 1408 + 1 * f.val = 1408 * (t.val % 2) + f.val
    rw [index_1]
    show (grid0.coords t 1).val * 1408 + 1 * f.val = 1408 * (t.val % 2) + f.val
    omega

theorem up_block (c : Dev nD) (t : Fin (cfgM m hO).N) (k : Fin 1024) (f : Fin 1408) (e : Fin 8) (he : (te m (grid0.coords t 0)).toNat = e.val)
    (h : 2816 + (1408 * (t.val % 2) + f.val) < 5632) :
    uBlk m hO c t (ix4 0 0 k f) = wArr m c (ix4 0 e k ⟨2816 + (1408 * (t.val % 2) + f.val), h⟩) := by
  have hc := coord_chunk t
  unfold uBlk iblk
  refine (congrFun (V_v17 m c) _).trans ?_
  show m ((c : Thread nD τ).loc main_arg2) _ = m ((c : Thread nD τ).loc main_arg2) _
  congr 1
  funext a
  apply Fin.ext
  match a with
  | ⟨0, _⟩ => rfl
  | ⟨1, _⟩ =>
    show cc0_transform_2 k0_off1_inb numel1_S1 (tbl m) (grid0.coords t) 1 * 1 + 1 * 0 = e.val
    rw [index_2]
    show (te m (grid0.coords t 0)).toNat * 1 + 1 * 0 = e.val
    omega
  | ⟨2, _⟩ =>
    show cc0_transform_2 k0_off1_inb numel1_S1 (tbl m) (grid0.coords t) 2 * 1024 + 1 * k.val = k.val
    rw [index_2]
    show 0 * 1024 + 1 * k.val = k.val
    omega
  | ⟨3, _⟩ =>
    show cc0_transform_2 k0_off1_inb numel1_S1 (tbl m) (grid0.coords t) 3 * 1408 + 1 * f.val = 2816 + (1408 * (t.val % 2) + f.val)
    rw [index_2]
    show ((grid0.coords t 1).val + 2) * 1408 + 1 * f.val = 2816 + (1408 * (t.val % 2) + f.val)
    omega

theorem down_block (c : Dev nD) (t : Fin (cfgM m hO).N) (f : Fin 1408) (j : Fin 1024) (e : Fin 8) (he : (te m (grid0.coords t 0)).toNat = e.val)
    (h : 1408 * (t.val % 2) + f.val < 2816) :
    dBlk m hO c t (ix4 0 0 f j) = dArr m c (ix4 0 e ⟨1408 * (t.val % 2) + f.val, h⟩ j) := by
  have hc := coord_chunk t
  unfold dBlk iblk
  refine (congrFun (V_v18 m c) _).trans ?_
  show m ((c : Thread nD τ).loc main_arg3) _ = m ((c : Thread nD τ).loc main_arg3) _
  congr 1
  funext a
  apply Fin.ext
  match a with
  | ⟨0, _⟩ => rfl
  | ⟨1, _⟩ =>
    show cc0_transform_3 k0_off1_inb numel1_S1 (tbl m) (grid0.coords t) 1 * 1 + 1 * 0 = e.val
    rw [index_3]
    show (te m (grid0.coords t 0)).toNat * 1 + 1 * 0 = e.val
    omega
  | ⟨2, _⟩ =>
    show cc0_transform_3 k0_off1_inb numel1_S1 (tbl m) (grid0.coords t) 2 * 1408 + 1 * f.val = 1408 * (t.val % 2) + f.val
    rw [index_3]
    show (grid0.coords t 1).val * 1408 + 1 * f.val = 1408 * (t.val % 2) + f.val
    omega
  | ⟨3, _⟩ =>
    show cc0_transform_3 k0_off1_inb numel1_S1 (tbl m) (grid0.coords t) 3 * 1024 + 1 * j.val = j.val
    rw [index_3]
    show 0 * 1024 + 1 * j.val = j.val
    omega

theorem pay1_apply (r : Fin 512) (j : Fin 1024) : k0_pay1 (F := Ideal) (ix2 r j) = 0 := by
  pointwise [k0_pay1]

theorem pay2_apply (v : Vec Ideal S512x1024 .f32) (r : Fin 512) (k : Fin 1024) : k0_pay2 v (ix2 r k) = v (ix2 r k) := by
  pointwise [k0_pay2]

theorem pay3_apply (x : Vec Ideal S512x1024 .bf16) (g u : Vec Ideal S1x1x1024x1408 .bf16) (d : Vec Ideal S1x1x1408x1024 .bf16)
    (r : Fin 512) (j : Fin 1024) :
    k0_pay3 x g u d (ix2 r j)
      = Spec.ffnRow (n := 1408) (fun k => x (ix2 r k)) (fun f k => g (ix4 0 0 k f)) (fun f k => u (ix4 0 0 k f)) (fun f => d (ix4 0 0 f j)) := by
  pointwise [k0_pay3]
  rfl

theorem pay4_apply (s : Vec Ideal S512x1024 .f32) (x : Vec Ideal S512x1024 .bf16) (g u : Vec Ideal S1x1x1024x1408 .bf16)
    (d : Vec Ideal S1x1x1408x1024 .bf16) (r : Fin 512) (j : Fin 1024) :
    k0_pay4 s x g u d (ix2 r j)
      = s (ix2 r j) + Spec.ffnRow (n := 1408) (fun k => x (ix2 r k)) (fun f k => g (ix4 0 0 k f)) (fun f k => u (ix4 0 0 k f)) (fun f => d (ix4 0 0 f j)) := by
  pointwise [k0_pay4]
  rfl

/-- A row's feed-forward through expert `e`. -/
noncomputable def expertRow (x : FVec Ideal S69632x1024 .f32) (w : FVec Ideal S2x8x1024x5632 .f32) (d : FVec Ideal S2x8x2816x1024 .f32)
    (e : Fin 8) (r : Fin 69632) (j : Fin 1024) : EReal :=
  Spec.ffnRow (fun k => x (ix2 r k)) (fun (f : Fin 2816) k => w (ix4 0 e k ⟨f.val, by omega⟩))
    (fun f k => w (ix4 0 e k ⟨2816 + f.val, by omega⟩)) (fun f => d (ix4 0 e f j))

/-- A tile in use: its second point leaves each row's feed-forward through the tile's expert. -/
theorem out_row (c : Dev nD) (t : Fin (cfgM m hO).N) (h1 : t.val % 2 = 1) (hl : Live (ntw m) t.val) (r : Fin 512) (j : Fin 1024)
    (hr : 512 * (t.val / 2) + r.val < 69632) (e : Fin 8) (he : (te m (grid0.coords t 0)).toNat = e.val) :
    outOf m hO c t (ix2 r j)
      = expertRow (xArr m c) (wArr m c) (dArr m c)
          e ⟨512 * (t.val / 2) + r.val, hr⟩ j := by
  have ht : t.val < 272 := Nat.lt_of_lt_of_eq t.isLt N_0
  have hpv : (prev t).val = t.val - 1 := rfl
  have hp0 : (prev t).val % 2 = 0 := by omega
  have hpd : (prev t).val / 2 = t.val / 2 := by omega
  have hlp : Live (ntw m) (prev t).val := by
    rw [live_iff_lt _ (by omega)] at hl ⊢
    rwa [hpd]
  have hep : (te m (grid0.coords (prev t) 0)).toNat = e.val := by
    rw [← he]
    congr 2
    apply Fin.ext
    have a := coord_tile (prev t)
    have b := coord_tile t
    omega
  have hx : ∀ k : Fin 1024, k0_pay2 (F := Ideal) (xBlk m hO c (prev t)) (ix2 r k)
      = xArr m c (ix2 ⟨512 * (t.val / 2) + r.val, hr⟩ k) := fun k => by
    rw [pay2_apply, x_block m hO c _ r k hlp (by omega)]
    simp only [hpd]
  have g0 : ∀ (k : Fin 1024) (f : Fin 1408), gBlk m hO c (prev t) (ix4 0 0 k f)
      = wArr m c (ix4 0 e k ⟨f.val, by omega⟩) := fun k f => by
    rw [gate_block m hO c _ k f e hep (by omega)]
    simp only [hp0, Nat.mul_zero, Nat.zero_add]
  have u0 : ∀ (k : Fin 1024) (f : Fin 1408), uBlk m hO c (prev t) (ix4 0 0 k f)
      = wArr m c (ix4 0 e k ⟨2816 + f.val, by omega⟩) := fun k f => by
    rw [up_block m hO c _ k f e hep (by omega)]
    simp only [hp0, Nat.mul_zero, Nat.zero_add]
  have d0 : ∀ f : Fin 1408, dBlk m hO c (prev t) (ix4 0 0 f j)
      = dArr m c (ix4 0 e ⟨f.val, by omega⟩ j) := fun f => by
    rw [down_block m hO c _ f j e hep (by omega)]
    simp only [hp0, Nat.mul_zero, Nat.zero_add]
  have g1 : ∀ (k : Fin 1024) (f : Fin 1408), gBlk m hO c t (ix4 0 0 k f)
      = wArr m c (ix4 0 e k ⟨1408 + f.val, by omega⟩) := fun k f => by
    rw [gate_block m hO c t k f e he (by omega)]
    simp only [h1, Nat.mul_one]
  have u1 : ∀ (k : Fin 1024) (f : Fin 1408), uBlk m hO c t (ix4 0 0 k f)
      = wArr m c (ix4 0 e k ⟨2816 + (1408 + f.val), by omega⟩) := fun k f => by
    rw [up_block m hO c t k f e he (by omega)]
    simp only [h1, Nat.mul_one]
  have d1 : ∀ f : Fin 1408, dBlk m hO c t (ix4 0 0 f j)
      = dArr m c (ix4 0 e ⟨1408 + f.val, by omega⟩ j) := fun f => by
    rw [down_block m hO c t f j e he (by omega)]
    simp only [h1, Nat.mul_one]
  have eo : outOf m hO c t = k0_pay4 (k0_pay3 (k0_pay2 (xBlk m hO c (prev t))) (gBlk m hO c (prev t)) (uBlk m hO c (prev t)) (dBlk m hO c (prev t)))
      (k0_pay2 (xBlk m hO c (prev t))) (gBlk m hO c t) (uBlk m hO c t) (dBlk m hO c t) := by
    unfold outOf
    rw [if_pos hl]
    rfl
  rw [eo, pay4_apply, pay3_apply]
  unfold expertRow
  rw [Spec.ffnRow_halves]
  simp only [hx, g0, u0, d0, g1, u1, d1]

/-- The second point of the tile a row sits in. -/
noncomputable def pointOf (r : Fin 69632) : Fin (cfgM m hO).N := ⟨2 * (r.val / 512) + 1, Nat.lt_of_lt_of_eq (by omega) N_0.symm⟩

/-- The whole result: each row is what its tile's second point leaves. -/
noncomputable def result (c : Dev nD) : FVec Ideal S69632x1024 .f32 := fun i =>
  outOf m hO c (pointOf m hO (i 0)) (ix2 ⟨(i 0).val % 512, Nat.mod_lt _ (by decide)⟩ (i 1))

/-- Where a point's output block sits in the result. -/
noncomputable def place (t : Fin (cfgM m hO).N) (y : S512x1024.Idx) : S69632x1024.Idx := (((cfgM m hO).win 4).blk t).view.emb y

theorem place_0 (t : Fin (cfgM m hO).N) (y : S512x1024.Idx) : (place m hO t y 0).val = t.val / 2 * 512 + (y 0).val := by
  have hc := coord_tile t
  have e : (place m hO t y 0).val = (BitVec.ofNat 32 (grid0.coords t 0).val).toNat * 512 + 1 * (y 0).val := rfl
  have ht : t.val < 272 := Nat.lt_of_lt_of_eq t.isLt N_0
  rw [e, hc, BitVec.toNat_ofNat]
  omega

theorem place_1 (t : Fin (cfgM m hO).N) (y : S512x1024.Idx) : (place m hO t y 1).val = (y 1).val := by
  have e : (place m hO t y 1).val = 0 * 1024 + 1 * (y 1).val := rfl
  omega

theorem result_at (c : Dev nD) (t : Fin (cfgM m hO).N) (h1 : t.val % 2 = 1) (y : S512x1024.Idx) :
    outOf m hO c t y = result m hO c (place m hO t y) := by
  have h0 := place_0 m hO t y
  have h2 := place_1 m hO t y
  have hy0 : (y 0).val < 512 := (y 0).isLt
  have ep : pointOf m hO (place m hO t y 0) = t := Fin.ext (by
    show 2 * ((place m hO t y 0).val / 512) + 1 = t.val
    omega)
  show outOf m hO c t y = outOf m hO c (pointOf m hO (place m hO t y 0)) (ix2 _ _)
  rw [ep]
  congr 1
  funext a
  apply Fin.ext
  match a with
  | ⟨0, _⟩ =>
    show (y 0).val = (place m hO t y 0).val % 512
    omega
  | ⟨1, _⟩ => exact h2.symm

theorem place_cover (i : S69632x1024.Idx) :
    place m hO (pointOf m hO (i 0)) (ix2 ⟨(i 0).val % 512, Nat.mod_lt _ (by decide)⟩ (i 1)) = i := by
  have hv : (pointOf m hO (i 0)).val = 2 * ((i 0).val / 512) + 1 := rfl
  funext a
  apply Fin.ext
  match a with
  | ⟨0, _⟩ =>
    refine (place_0 m hO _ _).trans ?_
    show (pointOf m hO (i 0)).val / 2 * 512 + (i 0).val % 512 = (i 0).val
    omega
  | ⟨1, _⟩ => exact place_1 m hO _ _

theorem place_mem (t : Fin (cfgM m hO).N) (y : S512x1024.Idx) : place m hO t y ∈ (((cfgM m hO).win 4).blk t).view.set :=
  View.emb_mem_set _ _

theorem cover (i : S69632x1024.Idx) : ∃ t : Fin (cfgM m hO).N, ((cfgM m hO).win 4).flush t = true ∧ i ∈ (((cfgM m hO).win 4).blk t).view.set := by
  refine ⟨pointOf m hO (i 0), (flush_out m hO _).2 ?_, ?_⟩
  · have hv : (pointOf m hO (i 0)).val = 2 * ((i 0).val / 512) + 1 := rfl
    omega
  · have h := place_mem m hO (pointOf m hO (i 0)) (ix2 ⟨(i 0).val % 512, Nat.mod_lt _ (by decide)⟩ (i 1))
    rwa [place_cover] at h

theorem final (c : Dev nD) : (dats m hO 0 c).arrAt 4 (Fin.last (cfgM m hO).N) = result m hO c :=
  (dats m hO 0 c).arrAt_eq_of_emb 4 (result m hO c)
    (fun t hf y => by rw [after_4]; exact result_at m hO c t ((flush_out m hO t).1 hf) y) (cover m hO)

/-- A row of a tile in use is its feed-forward through the tile's expert, -/
theorem result_live (c : Dev nD) (r : Fin 69632) (j : Fin 1024) (e : Fin 8) (he : (te m ⟨r.val / 512, by omega⟩).toNat = e.val)
    (hl : ((r.val / 512 : ℕ) : ℤ) < (ntw m).toInt) :
    result m hO c (ix2 r j) = expertRow (xArr m c) (wArr m c) (dArr m c) e r j := by
  have hv : (pointOf m hO r).val = 2 * (r.val / 512) + 1 := rfl
  have hd : (pointOf m hO r).val / 2 = r.val / 512 := by omega
  have hc := coord_tile (pointOf m hO r)
  show outOf m hO c (pointOf m hO r) (ix2 ⟨r.val % 512, Nat.mod_lt _ (by decide)⟩ j) = _
  have ht : te m (grid0.coords (pointOf m hO r) 0) = te m ⟨r.val / 512, by omega⟩ := by
    congr 1
    exact Fin.ext (hc.trans hd)
  rw [out_row m hO c (pointOf m hO r) (by omega) ((live_iff_lt _ (by omega) _).2 (by rw [hd]; exact hl)) _ j (by dsimp only; omega) e (by rw [ht]; exact he)]
  congr 1
  apply Fin.ext
  dsimp only
  omega

/-- and of another tile zero. -/
theorem result_idle (c : Dev nD) (r : Fin 69632) (j : Fin 1024) (hl : ¬ ((r.val / 512 : ℕ) : ℤ) < (ntw m).toInt) :
    result m hO c (ix2 r j) = 0 := by
  have hv : (pointOf m hO r).val = 2 * (r.val / 512) + 1 := rfl
  have hd : (pointOf m hO r).val / 2 = r.val / 512 := by omega
  show outOf m hO c (pointOf m hO r) (ix2 ⟨r.val % 512, Nat.mod_lt _ (by decide)⟩ j) = _
  unfold outOf
  rw [if_neg (fun h => hl (by rw [← hd]; exact (live_iff_lt _ (by omega) _).1 h))]
  exact pay1_apply _ _

end values

end Cert.Experts

end
-- ==== Proof.ExpRef.lean ====
/- The experts' reference at an index: eight terms, each an expert's feed-forward of the row where the row lies in that
   expert's span and zero elsewhere. -/
module

public import proofs.«01_k».proof.Proof.Gen.Reference3Ideal.Run
public import proofs.«01_k».proof.Proof.Spec
public import proofs.«01_k».proof.Proof.ExpTables

@[expose] public section

set_option maxRecDepth 16384

noncomputable section

namespace Cert.ExpertsRef

open Cert.Reference3Ideal Cert.Reference3Ideal.Gen Idealize.ShloMosaic Idealize.ShloMosaic.TcCoe Idealize.SL.Sem

/-- One expert's term over the rows: `M` the expert's rows, `B` the gate's and up's products, `d` the down weights. -/
abbrev termA (M : IVec S69632 1) (B : FVec Ideal S69632x5632 .f32) (d : FVec Ideal S2816x1024 .f32) : FVec Ideal S69632x1024 .f32 :=
  select (broadcastInDim S69632x1024 ![0, 1] bcast_S69632x1_S69632x1024_0_1 (broadcastInDim S69632x1 ![0] bcast_S69632_S69632x1_0 M))
    (Host.dotGeneral dot_S69632x2816_S2816x1024_S69632x1024_1_0_0_1_n_n none
      (mulf (mulf (extractStridedSlice S69632x2816 ![0, 0] B slices_S69632x5632_S69632x2816_0_0)
          (Host.divf (broadcastInDim S69632x2816 ![] bcast_S_S69632x2816 (constant S_ .f32 0x3F800000#32))
            (addf (broadcastInDim S69632x2816 ![] bcast_S_S69632x2816 (constant S_ .f32 0x3F800000#32))
              (Host.exp (Host.negf (extractStridedSlice S69632x2816 ![0, 0] B slices_S69632x5632_S69632x2816_0_0))))))
        (extractStridedSlice S69632x2816 ![0, 2816] B slices_S69632x5632_S69632x2816_0_2816)) d)
    (broadcastInDim S69632x1024 ![] bcast_S_S69632x1024 (id (constant S_ .f32 0x00000000#32)))

theorem select_eq (w : BitVec 1) (p q : EReal) : Scalar.select w p q = if w = 1#1 then p else q := rfl

theorem term_apply (M : IVec S69632 1) (B : FVec Ideal S69632x5632 .f32) (d : FVec Ideal S2816x1024 .f32) (r : Fin 69632) (j : Fin 1024) :
    termA M B d (ix2 r j)
      = if M (ix1 r) = 1#1 then ∑ f : Fin 2816, (B (ix2 r ⟨f.val, by omega⟩) * Ideal.logistic (B (ix2 r ⟨f.val, by omega⟩)) * B (ix2 r ⟨2816 + f.val, by omega⟩)) * d (ix2 f j) else 0 := by
  pointwise [termA]
  rw [select_eq]
  refine if_congr Iff.rfl rfl ?_
  show Ideal.ofBits .f32 0#32 = 0
  exact Ideal.ofBits_zero .f32

/-- One expert's gate and up products, -/
abbrev gateUpA (x : FVec Ideal S69632x1024 .f32) (w : FVec Ideal S2x8x1024x5632 .f32) (e : ℕ)
    (h : S2x8x1024x5632.Slices ![0, e, 0, 0] S1x1x1024x5632) : FVec Ideal S69632x5632 .f32 :=
  Host.dotGeneral dot_S69632x1024_S1024x5632_S69632x5632_1_0_0_1_n_n none x
    (shapeCast _ (extractStridedSlice S1x1x1024x5632 ![0, e, 0, 0] w h) shapeCasts_S1x1x1024x5632_S1024x5632)

/-- and its down weights. -/
abbrev downA (d : FVec Ideal S2x8x2816x1024 .f32) (e : ℕ) (h : S2x8x2816x1024.Slices ![0, e, 0, 0] S1x1x2816x1024) : FVec Ideal S2816x1024 .f32 :=
  shapeCast _ (extractStridedSlice S1x1x2816x1024 ![0, e, 0, 0] d h) shapeCasts_S1x1x2816x1024_S2816x1024

theorem gateUp_apply (x : FVec Ideal S69632x1024 .f32) (w : FVec Ideal S2x8x1024x5632 .f32) (e : Fin 8)
    (h : S2x8x1024x5632.Slices ![0, e.val, 0, 0] S1x1x1024x5632) (r : Fin 69632) (f : Fin 5632) :
    gateUpA x w e.val h (ix2 r f) = ∑ k : Fin 1024, x (ix2 r k) * w (ix4 0 e k f) := by
  pointwise [gateUpA]

theorem down_apply (d : FVec Ideal S2x8x2816x1024 .f32) (e : Fin 8) (h : S2x8x2816x1024.Slices ![0, e.val, 0, 0] S1x1x2816x1024)
    (f : Fin 2816) (j : Fin 1024) : downA d e.val h (ix2 f j) = d (ix4 0 e f j) := by
  pointwise [downA]

/-- A row's feed-forward through expert `e`. -/
def expertRow (x : FVec Ideal S69632x1024 .f32) (w : FVec Ideal S2x8x1024x5632 .f32) (d : FVec Ideal S2x8x2816x1024 .f32)
    (e : Fin 8) (r : Fin 69632) (j : Fin 1024) : EReal :=
  Spec.ffnRow (fun k => x (ix2 r k)) (fun (f : Fin 2816) k => w (ix4 0 e k ⟨f.val, by omega⟩))
    (fun f k => w (ix4 0 e k ⟨2816 + f.val, by omega⟩)) (fun f => d (ix4 0 e f j))

theorem expertTerm (x : FVec Ideal S69632x1024 .f32) (w : FVec Ideal S2x8x1024x5632 .f32) (d : FVec Ideal S2x8x2816x1024 .f32)
    (M : IVec S69632 1) (e : Fin 8) (h : S2x8x1024x5632.Slices ![0, e.val, 0, 0] S1x1x1024x5632)
    (h' : S2x8x2816x1024.Slices ![0, e.val, 0, 0] S1x1x2816x1024) (r : Fin 69632) (j : Fin 1024) :
    termA M (gateUpA x w e.val h) (downA d e.val h') (ix2 r j) = if M (ix1 r) = 1#1 then expertRow x w d e r j else 0 := by
  rw [term_apply]
  simp only [gateUp_apply, down_apply]
  rfl

/-- The rows of each expert, filled up to whole tiles. -/
abbrev sizesA (k : IVec S8 32) : IVec S8 32 :=
  muli (Routing.pyDiv bcast_S_S8 (addi k (broadcastInDim S8 ![] bcast_S_S8 (constantI S_ 32 511#32))) (constantI S_ 32 512#32))
    (broadcastInDim S8 ![] bcast_S_S8 (constantI S_ 32 512#32))

/-- Where each expert's rows start. -/
abbrev start0 (k : IVec S8 32) : IVec S_ 32 := constantI S_ 32 0#32
abbrev start1 (k : IVec S8 32) : IVec S_ 32 := addi (start0 k) (shapeCast S_ (extractStridedSlice S1 ![0] (sizesA k) slices_S8_S1_0) shapeCasts_S1_S_)
abbrev start2 (k : IVec S8 32) : IVec S_ 32 := addi (start1 k) (shapeCast S_ (extractStridedSlice S1 ![1] (sizesA k) slices_S8_S1_1) shapeCasts_S1_S_)
abbrev start3 (k : IVec S8 32) : IVec S_ 32 := addi (start2 k) (shapeCast S_ (extractStridedSlice S1 ![2] (sizesA k) slices_S8_S1_2) shapeCasts_S1_S_)
abbrev start4 (k : IVec S8 32) : IVec S_ 32 := addi (start3 k) (shapeCast S_ (extractStridedSlice S1 ![3] (sizesA k) slices_S8_S1_3) shapeCasts_S1_S_)
abbrev start5 (k : IVec S8 32) : IVec S_ 32 := addi (start4 k) (shapeCast S_ (extractStridedSlice S1 ![4] (sizesA k) slices_S8_S1_4) shapeCasts_S1_S_)
abbrev start6 (k : IVec S8 32) : IVec S_ 32 := addi (start5 k) (shapeCast S_ (extractStridedSlice S1 ![5] (sizesA k) slices_S8_S1_5) shapeCasts_S1_S_)
abbrev start7 (k : IVec S8 32) : IVec S_ 32 := addi (start6 k) (shapeCast S_ (extractStridedSlice S1 ![6] (sizesA k) slices_S8_S1_6) shapeCasts_S1_S_)
abbrev start8 (k : IVec S8 32) : IVec S_ 32 := addi (start7 k) (shapeCast S_ (extractStridedSlice S1 ![7] (sizesA k) slices_S8_S1_7) shapeCasts_S1_S_)

/-- The rows from `lo` on and before `hi`, -/
abbrev spanA (lo hi : IVec S_ 32) : IVec S69632 1 :=
  andi (cmpi .sle (broadcastInDim S69632 ![] bcast_S_S69632 lo) (iotaInDim S69632 32 0)) (cmpi .slt (iotaInDim S69632 32 0) (broadcastInDim S69632 ![] bcast_S_S69632 hi))
/-- the first of them as it is written with the comparison turned round. -/
abbrev spanZ (hi : IVec S_ 32) : IVec S69632 1 :=
  andi (cmpi .sge (iotaInDim S69632 32 0) (broadcastInDim S69632 ![] bcast_S_S69632 (constantI S_ 32 0#32))) (cmpi .slt (iotaInDim S69632 32 0) (broadcastInDim S69632 ![] bcast_S_S69632 hi))

section spans

variable (k : IVec S8 32) (c : ℕ → ℕ) (hk : ∀ i : Fin 8, k (ix1 i) = BitVec.ofNat 32 (c i.val)) (hb : ∀ i, c i ≤ 65536)

open Cert.Experts (before before_succ before_le before_mono)

include hk hb in
theorem sizes_apply (i : Fin 8) : sizesA k (ix1 i) = BitVec.ofNat 32 ((c i.val + 511) / 512 * 512) := by
  have hc := hb i.val
  have h := Routing.pyDiv_ap bcast_S_S8 (addi k (broadcastInDim S8 ![] bcast_S_S8 (constantI S_ 32 511#32))) (constantI S_ 32 512#32) (ix1 i)
    (a := c i.val + 511) (b := 512) (by
      show k (ix1 i) + 511#32 = _
      rw [hk i]
      exact (BitVec.ofNat_add _ _).symm) rfl (by omega) (by decide) (by decide)
  refine (congrArg (fun w : BitVec 32 => w * 512#32) h).trans ?_
  exact (BitVec.ofNat_mul _ _).symm

theorem start_step (s : IVec S_ 32) (a b : ℕ) (hs : s ix0 = BitVec.ofNat 32 a) (t : IVec S_ 32) (ht : t ix0 = BitVec.ofNat 32 b) :
    addi s t ix0 = BitVec.ofNat 32 (a + b) := by
  show s ix0 + t ix0 = _
  rw [hs, ht]
  exact (BitVec.ofNat_add _ _).symm

include hk hb in
theorem size_at (i : Fin 8) (h : S8.Slices ![i.val] S1) :
    (shapeCast S_ (extractStridedSlice S1 ![i.val] (sizesA k) h) shapeCasts_S1_S_) ix0 = BitVec.ofNat 32 ((c i.val + 511) / 512 * 512) := by
  rw [← sizes_apply k c hk hb i]
  generalize sizesA k = Z
  pointwise

theorem step_eq (e : ℕ) : 512 * before c e + (c e + 511) / 512 * 512 = 512 * before c (e + 1) := by rw [before_succ]; omega

theorem start0_at : start0 k ix0 = BitVec.ofNat 32 (512 * before c 0) := rfl
include hk hb in
theorem start1_at : start1 k ix0 = BitVec.ofNat 32 (512 * before c 1) :=
  (start_step (start0 k) _ _ (start0_at k c) _ (size_at k c hk hb 0 slices_S8_S1_0)).trans (congrArg _ (step_eq c 0))
include hk hb in
theorem start2_at : start2 k ix0 = BitVec.ofNat 32 (512 * before c 2) :=
  (start_step (start1 k) _ _ (start1_at k c hk hb) _ (size_at k c hk hb 1 slices_S8_S1_1)).trans (congrArg _ (step_eq c 1))
include hk hb in
theorem start3_at : start3 k ix0 = BitVec.ofNat 32 (512 * before c 3) :=
  (start_step (start2 k) _ _ (start2_at k c hk hb) _ (size_at k c hk hb 2 slices_S8_S1_2)).trans (congrArg _ (step_eq c 2))
include hk hb in
theorem start4_at : start4 k ix0 = BitVec.ofNat 32 (512 * before c 4) :=
  (start_step (start3 k) _ _ (start3_at k c hk hb) _ (size_at k c hk hb 3 slices_S8_S1_3)).trans (congrArg _ (step_eq c 3))
include hk hb in
theorem start5_at : start5 k ix0 = BitVec.ofNat 32 (512 * before c 5) :=
  (start_step (start4 k) _ _ (start4_at k c hk hb) _ (size_at k c hk hb 4 slices_S8_S1_4)).trans (congrArg _ (step_eq c 4))
include hk hb in
theorem start6_at : start6 k ix0 = BitVec.ofNat 32 (512 * before c 6) :=
  (start_step (start5 k) _ _ (start5_at k c hk hb) _ (size_at k c hk hb 5 slices_S8_S1_5)).trans (congrArg _ (step_eq c 5))
include hk hb in
theorem start7_at : start7 k ix0 = BitVec.ofNat 32 (512 * before c 7) :=
  (start_step (start6 k) _ _ (start6_at k c hk hb) _ (size_at k c hk hb 6 slices_S8_S1_6)).trans (congrArg _ (step_eq c 6))
include hk hb in
theorem start8_at : start8 k ix0 = BitVec.ofNat 32 (512 * before c 8) :=
  (start_step (start7 k) _ _ (start7_at k c hk hb) _ (size_at k c hk hb 7 slices_S8_S1_7)).trans (congrArg _ (step_eq c 7))

theorem andi_one (p q : Prop) [Decidable p] [Decidable q] :
    IntOp.andi (BitVec.ofBool (decide p)) (BitVec.ofBool (decide q)) = 1#1 ↔ p ∧ q := by
  by_cases hp : p <;> by_cases hq : q <;> simp [hp, hq, IntOp.andi]

theorem span_iff (lo hi : IVec S_ 32) (a b : ℕ) (ha : a < 2 ^ 31) (hb' : b < 2 ^ 31) (hl : lo ix0 = BitVec.ofNat 32 a) (hh : hi ix0 = BitVec.ofNat 32 b)
    (r : Fin 69632) : spanA lo hi (ix1 r) = 1#1 ↔ a ≤ r.val ∧ r.val < b := by
  have hr := r.isLt
  have e : spanA lo hi (ix1 r) = IntOp.andi (IntOp.cmpi .sle (lo ix0) (BitVec.ofNat 32 r.val)) (IntOp.cmpi .slt (BitVec.ofNat 32 r.val) (hi ix0)) := by
    pointwise [spanA]
  rw [e, hl, hh, WordCmp.cmpi_sle_ofNat (by omega) (by omega), WordCmp.cmpi_slt_ofNat (by omega) (by omega)]
  exact andi_one _ _

theorem spanZ_iff (hi : IVec S_ 32) (b : ℕ) (hb' : b < 2 ^ 31) (hh : hi ix0 = BitVec.ofNat 32 b)
    (r : Fin 69632) : spanZ hi (ix1 r) = 1#1 ↔ 0 ≤ r.val ∧ r.val < b := by
  have hr := r.isLt
  have e : spanZ hi (ix1 r) = IntOp.andi (IntOp.cmpi .sge (BitVec.ofNat 32 r.val) (BitVec.ofNat 32 0)) (IntOp.cmpi .slt (BitVec.ofNat 32 r.val) (hi ix0)) := by
    pointwise [spanZ]
  rw [e, hh, WordCmp.cmpi_sge_ofNat (by omega) (by omega), WordCmp.cmpi_slt_ofNat (by omega) (by omega)]
  exact andi_one _ _

/-- A row is in expert `e`'s span. -/
def In (e : ℕ) (r : Fin 69632) : Prop := 512 * before c e ≤ r.val ∧ r.val < 512 * before c (e + 1)

theorem In_unique {e e' : ℕ} {r : Fin 69632} (h : In c e r) (h' : In c e' r) : e = e' := by
  obtain ⟨h1, h2⟩ := h
  obtain ⟨h3, h4⟩ := h'
  rcases Nat.lt_trichotomy e e' with g | g | g
  · have := before_mono c (show e + 1 ≤ e' by omega); omega
  · exact g
  · have := before_mono c (show e' + 1 ≤ e by omega); omega

include hk hb in
theorem mask0 (r : Fin 69632) : spanZ (start1 k) (ix1 r) = 1#1 ↔ In c 0 r := by
  have h1 := before_le c hb 1
  exact spanZ_iff (start1 k) _ (by omega) (start1_at k c hk hb) r
include hk hb in
theorem mask1 (r : Fin 69632) : spanA (start1 k) (start2 k) (ix1 r) = 1#1 ↔ In c 1 r := by
  have h0 := before_le c hb 1
  have h1 := before_le c hb 2
  exact span_iff (start1 k) (start2 k) _ _ (by omega) (by omega) (start1_at k c hk hb) (start2_at k c hk hb) r
include hk hb in
theorem mask2 (r : Fin 69632) : spanA (start2 k) (start3 k) (ix1 r) = 1#1 ↔ In c 2 r := by
  have h0 := before_le c hb 2
  have h1 := before_le c hb 3
  exact span_iff (start2 k) (start3 k) _ _ (by omega) (by omega) (start2_at k c hk hb) (start3_at k c hk hb) r
include hk hb in
theorem mask3 (r : Fin 69632) : spanA (start3 k) (start4 k) (ix1 r) = 1#1 ↔ In c 3 r := by
  have h0 := before_le c hb 3
  have h1 := before_le c hb 4
  exact span_iff (start3 k) (start4 k) _ _ (by omega) (by omega) (start3_at k c hk hb) (start4_at k c hk hb) r
include hk hb in
theorem mask4 (r : Fin 69632) : spanA (start4 k) (start5 k) (ix1 r) = 1#1 ↔ In c 4 r := by
  have h0 := before_le c hb 4
  have h1 := before_le c hb 5
  exact span_iff (start4 k) (start5 k) _ _ (by omega) (by omega) (start4_at k c hk hb) (start5_at k c hk hb) r
include hk hb in
theorem mask5 (r : Fin 69632) : spanA (start5 k) (start6 k) (ix1 r) = 1#1 ↔ In c 5 r := by
  have h0 := before_le c hb 5
  have h1 := before_le c hb 6
  exact span_iff (start5 k) (start6 k) _ _ (by omega) (by omega) (start5_at k c hk hb) (start6_at k c hk hb) r
include hk hb in
theorem mask6 (r : Fin 69632) : spanA (start6 k) (start7 k) (ix1 r) = 1#1 ↔ In c 6 r := by
  have h0 := before_le c hb 6
  have h1 := before_le c hb 7
  exact span_iff (start6 k) (start7 k) _ _ (by omega) (by omega) (start6_at k c hk hb) (start7_at k c hk hb) r
include hk hb in
theorem mask7 (r : Fin 69632) : spanA (start7 k) (start8 k) (ix1 r) = 1#1 ↔ In c 7 r := by
  have h0 := before_le c hb 7
  have h1 := before_le c hb 8
  exact span_iff (start7 k) (start8 k) _ _ (by omega) (by omega) (start7_at k c hk hb) (start8_at k c hk hb) r

end spans

/-- The eight terms, summed as the layer sums them. -/
abbrev sumA (x : FVec Ideal S69632x1024 .f32) (w : FVec Ideal S2x8x1024x5632 .f32) (d : FVec Ideal S2x8x2816x1024 .f32)
    (k : IVec S8 32) : FVec Ideal S69632x1024 .f32 :=
  (addf (addf (addf (addf (addf (addf (addf (addf (broadcastInDim S69632x1024 ![] bcast_S_S69632x1024 (constant S_ .f32 0x00000000#32))
      (termA (spanZ (start1 k)) (gateUpA x w 0 slices_S2x8x1024x5632_S1x1x1024x5632_0_0_0_0) (downA d 0 slices_S2x8x2816x1024_S1x1x2816x1024_0_0_0_0)))
      (termA (spanA (start1 k) (start2 k)) (gateUpA x w 1 slices_S2x8x1024x5632_S1x1x1024x5632_0_1_0_0) (downA d 1 slices_S2x8x2816x1024_S1x1x2816x1024_0_1_0_0)))
      (termA (spanA (start2 k) (start3 k)) (gateUpA x w 2 slices_S2x8x1024x5632_S1x1x1024x5632_0_2_0_0) (downA d 2 slices_S2x8x2816x1024_S1x1x2816x1024_0_2_0_0)))
      (termA (spanA (start3 k) (start4 k)) (gateUpA x w 3 slices_S2x8x1024x5632_S1x1x1024x5632_0_3_0_0) (downA d 3 slices_S2x8x2816x1024_S1x1x2816x1024_0_3_0_0)))
      (termA (spanA (start4 k) (start5 k)) (gateUpA x w 4 slices_S2x8x1024x5632_S1x1x1024x5632_0_4_0_0) (downA d 4 slices_S2x8x2816x1024_S1x1x2816x1024_0_4_0_0)))
      (termA (spanA (start5 k) (start6 k)) (gateUpA x w 5 slices_S2x8x1024x5632_S1x1x1024x5632_0_5_0_0) (downA d 5 slices_S2x8x2816x1024_S1x1x2816x1024_0_5_0_0)))
      (termA (spanA (start6 k) (start7 k)) (gateUpA x w 6 slices_S2x8x1024x5632_S1x1x1024x5632_0_6_0_0) (downA d 6 slices_S2x8x2816x1024_S1x1x2816x1024_0_6_0_0)))
      (termA (spanA (start7 k) (start8 k)) (gateUpA x w 7 slices_S2x8x1024x5632_S1x1x1024x5632_0_7_0_0) (downA d 7 slices_S2x8x2816x1024_S1x1x2816x1024_0_7_0_0)))

theorem zero_apply (r : Fin 69632) (j : Fin 1024) :
    (broadcastInDim S69632x1024 ![] bcast_S_S69632x1024 (constant (F := Ideal) S_ .f32 0x00000000#32)) (ix2 r j) = (0 : EReal) := by
  pointwise

theorem sum_at (z t0 t1 t2 t3 t4 t5 t6 t7 : FVec Ideal S69632x1024 .f32) (i : S69632x1024.Idx) :
    addf (addf (addf (addf (addf (addf (addf (addf z t0) t1) t2) t3) t4) t5) t6) t7 i
      = ((((((((z i + t0 i) + t1 i) + t2 i) + t3 i) + t4 i) + t5 i) + t6 i) + t7 i : EReal) := rfl

theorem sum_apply (x : FVec Ideal S69632x1024 .f32) (w : FVec Ideal S2x8x1024x5632 .f32) (d : FVec Ideal S2x8x2816x1024 .f32)
    (k : IVec S8 32) (r : Fin 69632) (j : Fin 1024) :
    sumA x w d k (ix2 r j)
      = ((((((((0
          + (if (spanZ (start1 k)) (ix1 r) = 1#1 then expertRow x w d 0 r j else 0))
          + (if (spanA (start1 k) (start2 k)) (ix1 r) = 1#1 then expertRow x w d 1 r j else 0))
          + (if (spanA (start2 k) (start3 k)) (ix1 r) = 1#1 then expertRow x w d 2 r j else 0))
          + (if (spanA (start3 k) (start4 k)) (ix1 r) = 1#1 then expertRow x w d 3 r j else 0))
          + (if (spanA (start4 k) (start5 k)) (ix1 r) = 1#1 then expertRow x w d 4 r j else 0))
          + (if (spanA (start5 k) (start6 k)) (ix1 r) = 1#1 then expertRow x w d 5 r j else 0))
          + (if (spanA (start6 k) (start7 k)) (ix1 r) = 1#1 then expertRow x w d 6 r j else 0))
          + (if (spanA (start7 k) (start8 k)) (ix1 r) = 1#1 then expertRow x w d 7 r j else 0)) := by
  have t0 := expertTerm x w d (spanZ (start1 k)) 0 slices_S2x8x1024x5632_S1x1x1024x5632_0_0_0_0 slices_S2x8x2816x1024_S1x1x2816x1024_0_0_0_0 r j
  have t1 := expertTerm x w d (spanA (start1 k) (start2 k)) 1 slices_S2x8x1024x5632_S1x1x1024x5632_0_1_0_0 slices_S2x8x2816x1024_S1x1x2816x1024_0_1_0_0 r j
  have t2 := expertTerm x w d (spanA (start2 k) (start3 k)) 2 slices_S2x8x1024x5632_S1x1x1024x5632_0_2_0_0 slices_S2x8x2816x1024_S1x1x2816x1024_0_2_0_0 r j
  have t3 := expertTerm x w d (spanA (start3 k) (start4 k)) 3 slices_S2x8x1024x5632_S1x1x1024x5632_0_3_0_0 slices_S2x8x2816x1024_S1x1x2816x1024_0_3_0_0 r j
  have t4 := expertTerm x w d (spanA (start4 k) (start5 k)) 4 slices_S2x8x1024x5632_S1x1x1024x5632_0_4_0_0 slices_S2x8x2816x1024_S1x1x2816x1024_0_4_0_0 r j
  have t5 := expertTerm x w d (spanA (start5 k) (start6 k)) 5 slices_S2x8x1024x5632_S1x1x1024x5632_0_5_0_0 slices_S2x8x2816x1024_S1x1x2816x1024_0_5_0_0 r j
  have t6 := expertTerm x w d (spanA (start6 k) (start7 k)) 6 slices_S2x8x1024x5632_S1x1x1024x5632_0_6_0_0 slices_S2x8x2816x1024_S1x1x2816x1024_0_6_0_0 r j
  have t7 := expertTerm x w d (spanA (start7 k) (start8 k)) 7 slices_S2x8x1024x5632_S1x1x1024x5632_0_7_0_0 slices_S2x8x2816x1024_S1x1x2816x1024_0_7_0_0 r j
  refine (sum_at _ _ _ _ _ _ _ _ _ _).trans ?_
  rw [← t0, ← t1, ← t2, ← t3, ← t4, ← t5, ← t6, ← t7, zero_apply]
  rfl

section sums

open Classical

variable (x : FVec Ideal S69632x1024 .f32) (w : FVec Ideal S2x8x1024x5632 .f32) (d : FVec Ideal S2x8x2816x1024 .f32)
  (k : IVec S8 32) (c : ℕ → ℕ) (hk : ∀ i : Fin 8, k (ix1 i) = BitVec.ofNat 32 (c i.val)) (hb : ∀ i, c i ≤ 65536) (r : Fin 69632) (j : Fin 1024)

include hk hb in
theorem sum_In : sumA x w d k (ix2 r j)
      = ((((((((0
          + (if In c 0 r then expertRow x w d 0 r j else 0))
          + (if In c 1 r then expertRow x w d 1 r j else 0))
          + (if In c 2 r then expertRow x w d 2 r j else 0))
          + (if In c 3 r then expertRow x w d 3 r j else 0))
          + (if In c 4 r then expertRow x w d 4 r j else 0))
          + (if In c 5 r then expertRow x w d 5 r j else 0))
          + (if In c 6 r then expertRow x w d 6 r j else 0))
          + (if In c 7 r then expertRow x w d 7 r j else 0)) := by
  rw [sum_apply]
  simp only [mask0 k c hk hb r, mask1 k c hk hb r, mask2 k c hk hb r, mask3 k c hk hb r, mask4 k c hk hb r, mask5 k c hk hb r, mask6 k c hk hb r, mask7 k c hk hb r]

include hk hb in
/-- Where the row is in expert `e`'s span the sum is that expert's row, -/
theorem sum_some (e : Fin 8) (h : In c e.val r) : sumA x w d k (ix2 r j) = expertRow x w d e r j := by
  rw [sum_In x w d k c hk hb]
  have hn : ∀ i : ℕ, i ≠ e.val → ¬ In c i r := fun i hi h' => hi (In_unique c h' h)
  match e, h, hn with
  | ⟨0, _⟩, h, hn => rw [if_pos h, if_neg (hn 1 (show (1 : ℕ) ≠ 0 by decide)), if_neg (hn 2 (show (2 : ℕ) ≠ 0 by decide)), if_neg (hn 3 (show (3 : ℕ) ≠ 0 by decide)), if_neg (hn 4 (show (4 : ℕ) ≠ 0 by decide)), if_neg (hn 5 (show (5 : ℕ) ≠ 0 by decide)), if_neg (hn 6 (show (6 : ℕ) ≠ 0 by decide)), if_neg (hn 7 (show (7 : ℕ) ≠ 0 by decide))]; simp
  | ⟨1, _⟩, h, hn => rw [if_pos h, if_neg (hn 0 (show (0 : ℕ) ≠ 1 by decide)), if_neg (hn 2 (show (2 : ℕ) ≠ 1 by decide)), if_neg (hn 3 (show (3 : ℕ) ≠ 1 by decide)), if_neg (hn 4 (show (4 : ℕ) ≠ 1 by decide)), if_neg (hn 5 (show (5 : ℕ) ≠ 1 by decide)), if_neg (hn 6 (show (6 : ℕ) ≠ 1 by decide)), if_neg (hn 7 (show (7 : ℕ) ≠ 1 by decide))]; simp
  | ⟨2, _⟩, h, hn => rw [if_pos h, if_neg (hn 0 (show (0 : ℕ) ≠ 2 by decide)), if_neg (hn 1 (show (1 : ℕ) ≠ 2 by decide)), if_neg (hn 3 (show (3 : ℕ) ≠ 2 by decide)), if_neg (hn 4 (show (4 : ℕ) ≠ 2 by decide)), if_neg (hn 5 (show (5 : ℕ) ≠ 2 by decide)), if_neg (hn 6 (show (6 : ℕ) ≠ 2 by decide)), if_neg (hn 7 (show (7 : ℕ) ≠ 2 by decide))]; simp
  | ⟨3, _⟩, h, hn => rw [if_pos h, if_neg (hn 0 (show (0 : ℕ) ≠ 3 by decide)), if_neg (hn 1 (show (1 : ℕ) ≠ 3 by decide)), if_neg (hn 2 (show (2 : ℕ) ≠ 3 by decide)), if_neg (hn 4 (show (4 : ℕ) ≠ 3 by decide)), if_neg (hn 5 (show (5 : ℕ) ≠ 3 by decide)), if_neg (hn 6 (show (6 : ℕ) ≠ 3 by decide)), if_neg (hn 7 (show (7 : ℕ) ≠ 3 by decide))]; simp
  | ⟨4, _⟩, h, hn => rw [if_pos h, if_neg (hn 0 (show (0 : ℕ) ≠ 4 by decide)), if_neg (hn 1 (show (1 : ℕ) ≠ 4 by decide)), if_neg (hn 2 (show (2 : ℕ) ≠ 4 by decide)), if_neg (hn 3 (show (3 : ℕ) ≠ 4 by decide)), if_neg (hn 5 (show (5 : ℕ) ≠ 4 by decide)), if_neg (hn 6 (show (6 : ℕ) ≠ 4 by decide)), if_neg (hn 7 (show (7 : ℕ) ≠ 4 by decide))]; simp
  | ⟨5, _⟩, h, hn => rw [if_pos h, if_neg (hn 0 (show (0 : ℕ) ≠ 5 by decide)), if_neg (hn 1 (show (1 : ℕ) ≠ 5 by decide)), if_neg (hn 2 (show (2 : ℕ) ≠ 5 by decide)), if_neg (hn 3 (show (3 : ℕ) ≠ 5 by decide)), if_neg (hn 4 (show (4 : ℕ) ≠ 5 by decide)), if_neg (hn 6 (show (6 : ℕ) ≠ 5 by decide)), if_neg (hn 7 (show (7 : ℕ) ≠ 5 by decide))]; simp
  | ⟨6, _⟩, h, hn => rw [if_pos h, if_neg (hn 0 (show (0 : ℕ) ≠ 6 by decide)), if_neg (hn 1 (show (1 : ℕ) ≠ 6 by decide)), if_neg (hn 2 (show (2 : ℕ) ≠ 6 by decide)), if_neg (hn 3 (show (3 : ℕ) ≠ 6 by decide)), if_neg (hn 4 (show (4 : ℕ) ≠ 6 by decide)), if_neg (hn 5 (show (5 : ℕ) ≠ 6 by decide)), if_neg (hn 7 (show (7 : ℕ) ≠ 6 by decide))]; simp
  | ⟨7, _⟩, h, hn => rw [if_pos h, if_neg (hn 0 (show (0 : ℕ) ≠ 7 by decide)), if_neg (hn 1 (show (1 : ℕ) ≠ 7 by decide)), if_neg (hn 2 (show (2 : ℕ) ≠ 7 by decide)), if_neg (hn 3 (show (3 : ℕ) ≠ 7 by decide)), if_neg (hn 4 (show (4 : ℕ) ≠ 7 by decide)), if_neg (hn 5 (show (5 : ℕ) ≠ 7 by decide)), if_neg (hn 6 (show (6 : ℕ) ≠ 7 by decide))]; simp

include hk hb in
/-- and where it is in none of the eight, zero. -/
theorem sum_none (h : ∀ e, e < 8 → ¬ In c e r) : sumA x w d k (ix2 r j) = 0 := by
  rw [sum_In x w d k c hk hb, if_neg (h 0 (by decide)), if_neg (h 1 (by decide)), if_neg (h 2 (by decide)), if_neg (h 3 (by decide)), if_neg (h 4 (by decide)), if_neg (h 5 (by decide)), if_neg (h 6 (by decide)), if_neg (h 7 (by decide))]
  simp

end sums

end Cert.ExpertsRef

end
-- ==== Proof.ExpSame.lean ====
module

public import proofs.«01_k».proof.Proof.Gen.Kernel3.Launch
public import proofs.«01_k».proof.Proof.Gen.Kernel3Ideal.Launch
public import Idealize.ShloMosaic.Lib.Claim

/-! The experts' call at the chip's words and at the ideal values has one text: the two body tables are equal, and so are the
host's programs. -/

@[expose] public section

set_option maxRecDepth 16384

namespace Cert.ExpertsSame
open Idealize.ShloMosaic Idealize.SL.Sem Cert
variable {F : FTy → Type} [FloatOps F]

theorem bodies : (Kernel3.defs₀ (F := F)) = Kernel3Ideal.defs₀ := by
  unfold Kernel3.defs₀ Kernel3Ideal.defs₀
  refine congrArg Defs.onTc ?_
  funext l
  match l with
  | 0 =>
    funext a
    obtain ⟨t, s⟩ := a
    rfl
  | ⟨_ + 1, h⟩ => exact absurd h (Nat.not_lt.2 (Nat.le_add_left _ _))
theorem tables : (Kernel3.defs (F := F)) = Kernel3Ideal.defs := by
  unfold Kernel3.defs Kernel3Ideal.defs
  exact congrArg (Pipeline.defs Kernel3.pcfgs) bodies

theorem cons_eq {α : Type _} {a b : α} {l l' : List α} (h : a = b) (h' : l = l') : a :: l = b :: l' := by subst h; subst h'; rfl

theorem ops0 : (Kernel3.Gen.hostOps0 (F := F)) = Kernel3Ideal.Gen.hostOps0 := by
  unfold Kernel3.Gen.hostOps0 Kernel3Ideal.Gen.hostOps0
  repeat' (first | with_reducible rfl | refine cons_eq ?_ ?_)
  all_goals rfl
theorem ops1 : (Kernel3.Gen.hostOps0_1 (F := F)) = Kernel3Ideal.Gen.hostOps0_1 := by
  unfold Kernel3.Gen.hostOps0_1 Kernel3Ideal.Gen.hostOps0_1
  repeat' (first | with_reducible rfl | refine cons_eq ?_ ?_)
  all_goals rfl
theorem ops2 : (Kernel3.Gen.hostOps0_2 (F := F)) = Kernel3Ideal.Gen.hostOps0_2 := by
  unfold Kernel3.Gen.hostOps0_2 Kernel3Ideal.Gen.hostOps0_2
  repeat' (first | with_reducible rfl | refine cons_eq ?_ ?_)
  all_goals rfl
theorem ops3 : (Kernel3.Gen.hostOps0_3 (F := F)) = Kernel3Ideal.Gen.hostOps0_3 := by
  unfold Kernel3.Gen.hostOps0_3 Kernel3Ideal.Gen.hostOps0_3
  repeat' (first | with_reducible rfl | refine cons_eq ?_ ?_)
  all_goals rfl

/-- The host's programs of the two texts. -/
abbrev PA : Type _ := Prog (TpuEff Kernel3.nD Kernel3.τ Kernel3.sig (Elt F) (Pipeline.Sig Kernel3.Λ₀ (Fin 1) fun p => (Kernel3.pcfgs (F := F) p).Adm) .tc) PUnit
abbrev PB : Type _ := Prog (TpuEff Kernel3Ideal.nD Kernel3Ideal.τ Kernel3Ideal.sig (Elt F) (Pipeline.Sig Kernel3Ideal.Λ₀ (Fin 1) fun p => (Kernel3Ideal.pcfgs (F := F) p).Adm) .tc) PUnit
theorem call : (Prog.lift (.customCall (Pipeline.entry 0) ()) : PA (F := F)) = (Prog.lift (.customCall (Pipeline.entry 0) ()) : PB (F := F)) := rfl
theorem s0 : (StableHlo.seq Kernel3.Gen.hostOps0 : PA (F := F)) = (StableHlo.seq Kernel3Ideal.Gen.hostOps0 : PB (F := F)) := by
  rw [ops0]
  rfl
theorem s1 : (StableHlo.seq Kernel3.Gen.hostOps0_1 : PA (F := F)) = (StableHlo.seq Kernel3Ideal.Gen.hostOps0_1 : PB (F := F)) := by
  rw [ops1]
  rfl
theorem s2 : (StableHlo.seq Kernel3.Gen.hostOps0_2 : PA (F := F)) = (StableHlo.seq Kernel3Ideal.Gen.hostOps0_2 : PB (F := F)) := by
  rw [ops2]
  rfl
theorem s3 : (StableHlo.seq Kernel3.Gen.hostOps0_3 : PA (F := F)) = (StableHlo.seq Kernel3Ideal.Gen.hostOps0_3 : PB (F := F)) := by
  rw [ops3]
  rfl
theorem lists : ([StableHlo.seq Kernel3.Gen.hostOps0, StableHlo.seq Kernel3.Gen.hostOps0_1, StableHlo.seq Kernel3.Gen.hostOps0_2, StableHlo.seq Kernel3.Gen.hostOps0_3,
      Prog.lift (.customCall (Pipeline.entry 0) ())] : List (PA (F := F)))
    = ([StableHlo.seq Kernel3Ideal.Gen.hostOps0, StableHlo.seq Kernel3Ideal.Gen.hostOps0_1, StableHlo.seq Kernel3Ideal.Gen.hostOps0_2,
      StableHlo.seq Kernel3Ideal.Gen.hostOps0_3, Prog.lift (.customCall (Pipeline.entry 0) ())] : List (PB (F := F))) :=
  cons_eq s0 (cons_eq s1 (cons_eq s2 (cons_eq s3 (cons_eq call rfl))))
theorem mains (c : Dev Kernel3.nD) : (Kernel3.main (F := F) c : PA (F := F)) = (Kernel3Ideal.main c : PB (F := F)) :=
  (Kernel3.Gen.main_chain c).trans ((congrArg Pipeline.chain lists).trans (Kernel3Ideal.Gen.main_chain c).symm)
theorem onTc_eq : (onTc (τ := Kernel3.τ) (Kernel3.main (F := F))) = onTc (τ := Kernel3Ideal.τ) (Kernel3Ideal.main (F := F)) :=
  congrArg (onTc (τ := Kernel3.τ)) (funext mains)

theorem run_same (m : (ℓ : Loc Kernel3.nD Kernel3.τ Kernel3.sig) → Buf (Elt F) ℓ) (ρ) (P) (h : (θ_run Kernel3Ideal.defs (onTc Kernel3Ideal.main) ⟨m, fun _ => 0, ρ⟩) P) :
  (θ_run Kernel3.defs (onTc Kernel3.main) ⟨m, fun _ => 0, ρ⟩) P := by
  rw [tables, onTc_eq]
  exact h

end Cert.ExpertsSame
end
-- ==== Proof.MixerSpec.lean ====
/- The gated short convolution with memory cross-attention, entry by entry, over functions of the indices. Both sides
   are read as `normed`; they differ only in where the attention divides by the sum of its weights, and `late_eq_early`
   settles that for finite logits. -/
module

public import proofs.«01_k».proof.Proof.Spec

@[expose] public section

set_option maxRecDepth 16384

noncomputable section

namespace Cert.Spec

open Idealize.ShloMosaic

/-- The input's projection. -/
def proj (X : Fin 4 → Fin 8192 → Fin 1024 → EReal) (W : Fin 1024 → Fin 2560 → EReal) (n : Fin 4) (s : Fin 8192) (e : Fin 2560) : EReal :=
  ∑ k, X n s k * W k e

/-- The gated signal the convolution runs over. -/
def gated (X : Fin 4 → Fin 8192 → Fin 1024 → EReal) (W : Fin 1024 → Fin 2560 → EReal) (n : Fin 4) (s : Fin 8192) (f : Fin 768) : EReal :=
  proj X W n s ⟨768 + f.val, by omega⟩ * proj X W n s ⟨1536 + f.val, by omega⟩

/-- The gated signal `d` positions earlier; zero before the sequence begins. -/
def earlier (X : Fin 4 → Fin 8192 → Fin 1024 → EReal) (W : Fin 1024 → Fin 2560 → EReal) (d : ℕ) (n : Fin 4) (s : Fin 8192) (f : Fin 768) : EReal :=
  if d ≤ s.val then gated X W n ⟨s.val - d, by omega⟩ f else 0

/-- The convolution's channel. -/
def conv (X : Fin 4 → Fin 8192 → Fin 1024 → EReal) (W : Fin 1024 → Fin 2560 → EReal) (C : Fin 3 → Fin 768 → EReal)
    (n : Fin 4) (s : Fin 8192) (f : Fin 768) : EReal :=
  proj X W n s ⟨f.val, by omega⟩
    * (earlier X W 2 n s f * C 0 f + earlier X W 1 n s f * C 1 f + gated X W n s f * C 2 f)

/-- The attention's logit of the head that owns channel `e` against a memory slot. -/
def logit (X : Fin 4 → Fin 8192 → Fin 1024 → EReal) (W : Fin 1024 → Fin 2560 → EReal) (M : Fin 4 → Fin 256 → Fin 2048 → EReal)
    (n : Fin 4) (s : Fin 8192) (e : Fin 256) (p : Fin 256) : EReal :=
  (∑ d : Fin 64, proj X W n s ⟨2304 + (e.val / 64 * 64 + d.val), by omega⟩ * M n p ⟨e.val / 64 * 64 + d.val, by omega⟩)
    * Ideal.ofBits .f32 1040187392#32

/-- The largest logit. -/
def top (L : Fin 256 → EReal) : EReal := Finset.fold max (Ideal.ofBits .f32 4286578688#32) L Finset.univ

/-- Attention that divides the weights. -/
def early (L v : Fin 256 → EReal) : EReal :=
  ∑ p, v p * Ideal.div (Ideal.exp (L p - max (Ideal.ofBits .f32 4286578688#32) (top L)))
    (∑ q, Ideal.exp (L q - max (Ideal.ofBits .f32 4286578688#32) (top L)))

/-- Attention that divides the weighted sum. -/
def late (L v : Fin 256 → EReal) : EReal :=
  Ideal.div (∑ p, Ideal.exp (L p - top L) * v p) (∑ q, Ideal.exp (L q - top L))

/-- The row the layer norm is taken of, over an attention `A`. -/
def mixed (A : (Fin 256 → EReal) → (Fin 256 → EReal) → EReal) (X : Fin 4 → Fin 8192 → Fin 1024 → EReal) (W : Fin 1024 → Fin 2560 → EReal)
    (C : Fin 3 → Fin 768 → EReal) (M : Fin 4 → Fin 256 → Fin 2048 → EReal) (O : Fin 1024 → Fin 1024 → EReal)
    (n : Fin 4) (s : Fin 8192) (j : Fin 1024) : EReal :=
  Ideal.ofBits .f32 1071072509#32 * X n s j
    + ((∑ f : Fin 768, conv X W C n s f * O ⟨f.val, by omega⟩ j)
      + ∑ e : Fin 256, A (logit X W M n s e) (fun p => M n p ⟨256 + e.val, by omega⟩) * O ⟨768 + e.val, by omega⟩ j)

/-! ## Where the attention divides -/

theorem bot_word : Ideal.ofBits .f32 4286578688#32 = (⊥ : EReal) := by simp [Ideal.ofBits, Ideal.ieee]

theorem fold_max_coe {ι : Type} (S : Finset ι) (l : ι → ℝ) (h : S.Nonempty) :
    ∃ r : ℝ, Finset.fold max (⊥ : EReal) (fun i => (l i : EReal)) S = r := by
  classical
  induction h using Finset.Nonempty.cons_induction with
  | singleton a => exact ⟨l a, by simp⟩
  | cons a S ha hS ih =>
    obtain ⟨r, hr⟩ := ih
    refine ⟨max (l a) r, ?_⟩
    rw [Finset.fold_cons, hr]
    exact (EReal.coe_strictMono.monotone.map_max).symm

theorem sum_mul_coe {ι : Type} (S : Finset ι) (f : ι → EReal) {c : ℝ} (hc : 0 ≤ c) :
    (∑ i ∈ S, f i) * (c : EReal) = ∑ i ∈ S, f i * c := by
  classical
  induction S using Finset.induction_on with
  | empty => simp
  | insert a S ha ih =>
    rw [Finset.sum_insert ha, Finset.sum_insert ha, ← ih]
    exact EReal.right_distrib_of_nonneg_of_ne_top (EReal.coe_nonneg.2 hc) (EReal.coe_ne_top c) _ _

theorem finite_mul {a b : EReal} : (∃ r : ℝ, a = r) → (∃ r : ℝ, b = r) → ∃ r : ℝ, a * b = r := by
  rintro ⟨r, rfl⟩ ⟨q, rfl⟩
  exact ⟨r * q, (EReal.coe_mul r q).symm⟩

theorem finite_sum {ι : Type} [Fintype ι] {f : ι → EReal} (h : ∀ i, ∃ r : ℝ, f i = r) : ∃ r : ℝ, ∑ i, f i = r := by
  choose r hr using h
  refine ⟨∑ i, r i, ?_⟩
  simp only [hr]
  exact (map_sum (⟨⟨fun x : ℝ => (x : EReal), EReal.coe_zero⟩, EReal.coe_add⟩ : ℝ →+ EReal) r Finset.univ).symm

theorem late_eq_early (L v : Fin 256 → EReal) (h : ∀ p, ∃ r : ℝ, L p = r) : late L v = early L v := by
  choose l hl using h
  obtain rfl : L = fun p => (l p : EReal) := funext hl
  obtain ⟨t, ht⟩ := fold_max_coe Finset.univ l Finset.univ_nonempty
  have hs : ∃ S : ℝ, 0 < S ∧ (∑ q, Ideal.exp ((l q : EReal) - t)) = (S : EReal) := by
    refine ⟨∑ q, Real.exp (l q - t), Finset.sum_pos (fun _ _ => Real.exp_pos _) Finset.univ_nonempty, ?_⟩
    exact (map_sum (⟨⟨fun x : ℝ => (x : EReal), EReal.coe_zero⟩, EReal.coe_add⟩ : ℝ →+ EReal) (fun q => Real.exp (l q - t)) Finset.univ).symm
  obtain ⟨S, hS, hs⟩ := hs
  unfold late early top
  rw [bot_word, ht, max_eq_right bot_le, hs, Ideal.div_coe hS.ne', sum_mul_coe _ _ (by positivity)]
  refine Finset.sum_congr rfl fun p _ => ?_
  rw [Ideal.div_coe hS.ne', mul_comm (v p), mul_right_comm]

/-- With finite logits it does not matter where the attention divides. -/
theorem mixed_late (X : Fin 4 → Fin 8192 → Fin 1024 → EReal) (W : Fin 1024 → Fin 2560 → EReal)
    (C : Fin 3 → Fin 768 → EReal) (M : Fin 4 → Fin 256 → Fin 2048 → EReal) (O : Fin 1024 → Fin 1024 → EReal)
    (hX : ∀ n s k, ∃ r : ℝ, X n s k = r) (hW : ∀ k (e : Fin 256), ∃ r : ℝ, W k ⟨2304 + e.val, by omega⟩ = r)
    (hM : ∀ n p (e : Fin 256), ∃ r : ℝ, M n p ⟨e.val, by omega⟩ = r) (n : Fin 4) (s : Fin 8192) :
    mixed late X W C M O n s = mixed early X W C M O n s := by
  have hL : ∀ e p, ∃ r : ℝ, logit X W M n s e p = r := by
    intro e p
    have hc : ∃ r : ℝ, Ideal.ofBits .f32 1040187392#32 = (r : EReal) := ⟨8388608 * (1 / 67108864), by
      rw [EReal.coe_mul]; simp [Ideal.ofBits, Ideal.ieee]; norm_num⟩
    exact finite_mul (finite_sum fun d => finite_mul (finite_sum fun i => finite_mul (hX n s i) (hW i ⟨_, by omega⟩)) (hM n p ⟨_, by omega⟩)) hc
  funext j
  unfold mixed
  simp only [late_eq_early _ _ (hL _)]

end Cert.Spec

end
-- ==== Proof.MixerRef.lean ====
/- The mixer reference at an index, as the row functions of Spec.lean. -/
module

public import proofs.«01_k».proof.Proof.Gen.ReferenceIdeal.Run
public import proofs.«01_k».proof.Proof.MixerSpec

@[expose] public section

set_option maxRecDepth 16384

noncomputable section

namespace Cert.Mixer

open Cert.ReferenceIdeal Cert.ReferenceIdeal.Gen Idealize.ShloMosaic Idealize.ShloMosaic.TcCoe Idealize.SL.Sem

theorem zero_word : (FloatOps.sitofp FTy.f32 (0#32) : Ideal .f32) = (0 : EReal) := by
  show ((((0#32).toInt : ℝ)) : EReal) = 0
  simp

theorem earlier_two (X : Fin 4 → Fin 8192 → Fin 1024 → EReal) (W : Fin 1024 → Fin 2560 → EReal) (n : Fin 4) (s : Fin 8192) (f : Fin 768) :
    (if h : 2 ≤ s.val ∧ s.val - 2 < 8192 then
        (∑ x, X n ⟨s.val - 2, h.2⟩ x * W x ⟨768 + f.val, by omega⟩) * ∑ x, X n ⟨s.val - 2, h.2⟩ x * W x ⟨1536 + f.val, by omega⟩
      else (FloatOps.sitofp FTy.f32 0#32 : Ideal .f32))
    = Spec.earlier X W 2 n s f := by
  unfold Spec.earlier
  split_ifs with h h' h'
  · rfl
  · omega
  · omega
  · exact zero_word

theorem earlier_one (X : Fin 4 → Fin 8192 → Fin 1024 → EReal) (W : Fin 1024 → Fin 2560 → EReal) (n : Fin 4) (s : Fin 8192) (f : Fin 768) :
    (if h : 2 ≤ 1 + s.val ∧ 1 + s.val - 2 < 8192 then
        (∑ x, X n ⟨1 + s.val - 2, h.2⟩ x * W x ⟨768 + f.val, by omega⟩) * ∑ x, X n ⟨1 + s.val - 2, h.2⟩ x * W x ⟨1536 + f.val, by omega⟩
      else (FloatOps.sitofp FTy.f32 0#32 : Ideal .f32))
    = Spec.earlier X W 1 n s f := by
  unfold Spec.earlier
  split_ifs with h h' h'
  · have e : (⟨1 + s.val - 2, h.2⟩ : Fin 8192) = ⟨s.val - 1, by omega⟩ := Fin.ext (by dsimp only; omega)
    rw [e]
    rfl
  · omega
  · omega
  · exact zero_word

/-! ## The reference's arrays, one step of the layer each -/

abbrev projA (x : FVec Ideal S4x8192x1024 .f32) (w : FVec Ideal S1024x2560 .f32) : FVec Ideal S4x8192x2560 .f32 :=
  Host.dotGeneral dot_S4x8192x1024_S1024x2560_S4x8192x2560_2_0_01_1_n_n none x w

abbrev tapA (w : FVec Ideal S1x768 .f32) : FVec Ideal S4x8192x768 .f32 :=
  broadcastInDim S4x8192x768 ![0, 1, 2] bcast_S1x1x768_S4x8192x768_0_1_2 (broadcastInDim S1x1x768 ![2] bcast_S768_S1x1x768_2
    (shapeCast _ w shapeCasts_S1x768_S768))

abbrev paddedA (P : FVec Ideal S4x8192x2560 .f32) : FVec Ideal S4x8194x768 .f32 :=
  pad S4x8194x768 ![0, 2, 0] ![0, 0, 0] ![0, 0, 0]
    (mulf (extractStridedSlice S4x8192x768 ![0, 0, 768] P slices_S4x8192x2560_S4x8192x768_0_0_768)
      (extractStridedSlice S4x8192x768 ![0, 0, 1536] P slices_S4x8192x2560_S4x8192x768_0_0_1536))
    (sitofp .f32 (constantI S_ 32 0#32)) pads_S4x8192x768_S4x8194x768_000_200_000 h_S_

abbrev convA (P : FVec Ideal S4x8192x2560 .f32) (cw : FVec Ideal S3x768 .f32) : FVec Ideal S4x8192x768 .f32 :=
  mulf (extractStridedSlice S4x8192x768 ![0, 0, 0] P slices_S4x8192x2560_S4x8192x768_0_0_0)
    (addf (addf
        (mulf (extractStridedSlice S4x8192x768 ![0, 0, 0] (paddedA P) slices_S4x8194x768_S4x8192x768_0_0_0)
          (tapA (extractStridedSlice S1x768 ![0, 0] cw slices_S3x768_S1x768_0_0)))
        (mulf (extractStridedSlice S4x8192x768 ![0, 1, 0] (paddedA P) slices_S4x8194x768_S4x8192x768_0_1_0)
          (tapA (extractStridedSlice S1x768 ![1, 0] cw slices_S3x768_S1x768_1_0))))
      (mulf (extractStridedSlice S4x8192x768 ![0, 2, 0] (paddedA P) slices_S4x8194x768_S4x8192x768_0_2_0)
        (tapA (extractStridedSlice S1x768 ![2, 0] cw slices_S3x768_S1x768_2_0))))

abbrev logitA (P : FVec Ideal S4x8192x2560 .f32) (kv : FVec Ideal S4x256x2048 .f32) : FVec Ideal S4x4x8192x256 .f32 :=
  mulf (Host.dotGeneral dot_S4x8192x4x64_S4x256x4x64_S4x4x8192x256_3_3_1_1_02_02 none
      (shapeCast _ (extractStridedSlice S4x8192x256 ![0, 0, 2304] P slices_S4x8192x2560_S4x8192x256_0_0_2304) shapeCasts_S4x8192x256_S4x8192x4x64)
      (shapeCast _ (extractStridedSlice S4x256x256 ![0, 0, 0] kv slices_S4x256x2048_S4x256x256_0_0_0) shapeCasts_S4x256x256_S4x256x4x64))
    (broadcastInDim S4x4x8192x256 ![] bcast_S_S4x4x8192x256 (constant S_ .f32 0x3E000000#32))

def maxA (L : FVec Ideal S4x4x8192x256 .f32) : FVec Ideal S4x4x8192 .f32 :=
  Host.reduce FloatOps.maximumf L (constant S_ .f32 0xFF800000#32) reducesTo_S4x4x8192x256_S4x4x8192_d3 h_S_

def floorA (L : FVec Ideal S4x4x8192x256 .f32) : FVec Ideal S4x4x8192 .f32 :=
  maximumf (broadcastInDim S4x4x8192 ![] bcast_S_S4x4x8192 (constant S_ .f32 0xFF800000#32)) (maxA L)

abbrev expA (L : FVec Ideal S4x4x8192x256 .f32) : FVec Ideal S4x4x8192x256 .f32 :=
  Host.exp (subf L (broadcastInDim S4x4x8192x256 ![0, 1, 2, 3] bcast_S4x4x8192x1_S4x4x8192x256_0_1_2_3
    (broadcastInDim S4x4x8192x1 ![0, 1, 2] bcast_S4x4x8192_S4x4x8192x1_0_1_2 (floorA L))))

abbrev probA (E : FVec Ideal S4x4x8192x256 .f32) : FVec Ideal S4x4x8192x256 .f32 :=
  Host.divf E (broadcastInDim S4x4x8192x256 ![0, 1, 2, 3] bcast_S4x4x8192x1_S4x4x8192x256_0_1_2_3
    (broadcastInDim S4x4x8192x1 ![0, 1, 2] bcast_S4x4x8192_S4x4x8192x1_0_1_2
      (Host.reduceAdd E (constant S_ .f32 0x00000000#32) reducesTo_S4x4x8192x256_S4x4x8192_d3 h_S_)))

abbrev readA (p : FVec Ideal S4x4x8192x256 .f32) (kv : FVec Ideal S4x256x2048 .f32) : FVec Ideal S4x8192x256 .f32 :=
  shapeCast _ (transpose S4x8192x4x64 [0, 3, 1, 2]
    (Host.dotGeneral dot_S4x256x4x64_S4x4x8192x256_S4x4x64x8192_1_3_3_2_02_01 none
      (shapeCast _ (extractStridedSlice S4x256x256 ![0, 0, 256] kv slices_S4x256x2048_S4x256x256_0_0_256) shapeCasts_S4x256x256_S4x256x4x64) p)
    transposes_S4x4x64x8192_S4x8192x4x64_0_3_1_2) shapeCasts_S4x8192x4x64_S4x8192x256

abbrev mixA (x : FVec Ideal S4x8192x1024 .f32) (a : FVec Ideal S4x8192x768 .f32) (b : FVec Ideal S4x8192x256 .f32)
    (wo : FVec Ideal S1024x1024 .f32) : FVec Ideal S4x8192x1024 .f32 :=
  addf (mulf (broadcastInDim S4x8192x1024 ![] bcast_S_S4x8192x1024 (constant S_ .f32 0x3FD744FD#32)) x)
    (Host.dotGeneral dot_S4x8192x1024_S1024x1024_S4x8192x1024_2_0_01_1_n_n none
      (concatenate S4x8192x1024 2 [⟨S4x8192x768, a⟩, ⟨S4x8192x256, b⟩] concatenates_S4x8192x768_S4x8192x256_S4x8192x1024_d2) wo)

abbrev meanA (y : FVec Ideal S4x8192x1024 .f32) : FVec Ideal S4x8192x1 .f32 :=
  Host.divf (broadcastInDim S4x8192x1 ![0, 1] bcast_S4x8192_S4x8192x1_0_1
      (Host.reduceAdd y (constant S_ .f32 0x00000000#32) reducesTo_S4x8192x1024_S4x8192_d2 h_S_))
    (broadcastInDim S4x8192x1 ![] bcast_S_S4x8192x1 (constant S_ .f32 0x44800000#32))

abbrev centredA (y : FVec Ideal S4x8192x1024 .f32) : FVec Ideal S4x8192x1024 .f32 :=
  subf y (broadcastInDim S4x8192x1024 ![0, 1, 2] bcast_S4x8192x1_S4x8192x1024_0_1_2 (meanA y))

abbrev normA (y : FVec Ideal S4x8192x1024 .f32) (g b : FVec Ideal S1024 .f32) : FVec Ideal S4x8192x1024 .f32 :=
  addf (mulf (mulf (centredA y) (broadcastInDim S4x8192x1024 ![0, 1, 2] bcast_S4x8192x1_S4x8192x1024_0_1_2
        (Host.rsqrt (addf (meanA (mulf (centredA y) (centredA y))) (broadcastInDim S4x8192x1 ![] bcast_S_S4x8192x1 (constant S_ .f32 0x3727C5AC#32))))))
      (broadcastInDim S4x8192x1024 ![0, 1, 2] bcast_S1x1x1024_S4x8192x1024_0_1_2 (broadcastInDim S1x1x1024 ![2] bcast_S1024_S1x1x1024_2 g)))
    (broadcastInDim S4x8192x1024 ![0, 1, 2] bcast_S1x1x1024_S4x8192x1024_0_1_2 (broadcastInDim S1x1x1024 ![2] bcast_S1024_S1x1x1024_2 b))

theorem ref_steps (m : (ℓ : Loc nD τ sig) → Buf (Elt Ideal) ℓ) (c : Dev nD) :
    Value.res_main_v78 m c
      = normA (mixA (m (c.tc.loc main_arg0)) (convA (projA (m (c.tc.loc main_arg0)) (m (c.tc.loc main_arg2))) (m (c.tc.loc main_arg3)))
            (readA (probA (expA (logitA (projA (m (c.tc.loc main_arg0)) (m (c.tc.loc main_arg2))) (m (c.tc.loc main_arg1))))) (m (c.tc.loc main_arg1)))
            (m (c.tc.loc main_arg4)))
          (m (c.tc.loc main_arg5)) (m (c.tc.loc main_arg6)) := rfl

/-! ## Each at an index -/

theorem proj_apply (x : FVec Ideal S4x8192x1024 .f32) (w : FVec Ideal S1024x2560 .f32) (n : Fin 4) (s : Fin 8192) (e : Fin 2560) :
    projA x w (ix3 n s e) = Spec.proj (fun n s k => x (ix3 n s k)) (fun k e => w (ix2 k e)) n s e := by
  pointwise [projA]
  rfl

theorem conv_apply (x : FVec Ideal S4x8192x1024 .f32) (w : FVec Ideal S1024x2560 .f32) (P : FVec Ideal S4x8192x2560 .f32)
    (hP : ∀ n s e, P (ix3 n s e) = Spec.proj (fun n s k => x (ix3 n s k)) (fun k e => w (ix2 k e)) n s e)
    (cw : FVec Ideal S3x768 .f32) (n : Fin 4) (s : Fin 8192) (f : Fin 768) :
    convA P cw (ix3 n s f) = Spec.conv (fun n s k => x (ix3 n s k)) (fun k e => w (ix2 k e)) (fun i f => cw (ix2 i f)) n s f := by
  have h2 := earlier_two (fun n s k => x (ix3 n s k)) (fun k e => w (ix2 k e)) n s f
  have h1 := earlier_one (fun n s k => x (ix3 n s k)) (fun k e => w (ix2 k e)) n s f
  unfold Spec.proj at hP
  pointwise [convA, paddedA, tapA]
  simp only [hP]
  rw [h2, h1]
  rfl

theorem logit_apply (x : FVec Ideal S4x8192x1024 .f32) (w : FVec Ideal S1024x2560 .f32) (P : FVec Ideal S4x8192x2560 .f32)
    (hP : ∀ n s e, P (ix3 n s e) = Spec.proj (fun n s k => x (ix3 n s k)) (fun k e => w (ix2 k e)) n s e)
    (kv : FVec Ideal S4x256x2048 .f32) (n : Fin 4) (s : Fin 8192) (e p : Fin 256) :
    logitA P kv (ix4 n ⟨e.val / 64, by omega⟩ s p)
      = Spec.logit (fun n s k => x (ix3 n s k)) (fun k e => w (ix2 k e)) (fun n p e => kv (ix3 n p e)) n s e p := by
  pointwise [logitA]
  simp only [hP]
  rfl

theorem max_apply (L : FVec Ideal S4x4x8192x256 .f32) (n h : Fin 4) (s : Fin 8192) :
    maxA L (ix3 n h s) = Spec.top fun q => L (ix4 n h s q) := by
  pointwise [maxA]
  unfold Spec.top
  rfl

theorem larger_apply (z : FVec Ideal S_ .f32) (v : FVec Ideal S4x4x8192 .f32) (n h : Fin 4) (s : Fin 8192) :
    maximumf (broadcastInDim S4x4x8192 ![] bcast_S_S4x4x8192 z) v (ix3 n h s) = max (z ix0) (v (ix3 n h s)) := by
  pointwise

theorem floor_apply (L : FVec Ideal S4x4x8192x256 .f32) (n h : Fin 4) (s : Fin 8192) :
    floorA L (ix3 n h s) = max (Ideal.ofBits .f32 4286578688#32) (Spec.top fun q => L (ix4 n h s q)) :=
  (larger_apply _ (maxA L) n h s).trans (congrArg (max _) (max_apply L n h s))

theorem exp_apply (L : FVec Ideal S4x4x8192x256 .f32) (n h : Fin 4) (s : Fin 8192) (p : Fin 256) :
    expA L (ix4 n h s p)
      = Ideal.exp (L (ix4 n h s p) - max (Ideal.ofBits .f32 4286578688#32) (Spec.top fun q => L (ix4 n h s q))) := by
  rw [← floor_apply]
  pointwise [expA]

theorem prob_apply (E : FVec Ideal S4x4x8192x256 .f32) (n h : Fin 4) (s : Fin 8192) (p : Fin 256) :
    probA E (ix4 n h s p) = Ideal.div (E (ix4 n h s p)) (∑ q, E (ix4 n h s q)) := by
  pointwise [probA]

theorem read_apply (p : FVec Ideal S4x4x8192x256 .f32) (kv : FVec Ideal S4x256x2048 .f32) (n : Fin 4) (s : Fin 8192) (e : Fin 256) :
    readA p kv (ix3 n s e) = ∑ q : Fin 256, kv (ix3 n q ⟨256 + e.val, by omega⟩) * p (ix4 n ⟨e.val / 64, by omega⟩ s q) := by
  have hv : ∀ (h : 256 + (e.val / 64 * 64 + e.val % 64) < 2048), (⟨256 + (e.val / 64 * 64 + e.val % 64), h⟩ : Fin 2048) = ⟨256 + e.val, by omega⟩ :=
    fun _ => Fin.ext (by dsimp only; omega)
  pointwise [readA]

theorem mix_apply (x : FVec Ideal S4x8192x1024 .f32) (a : FVec Ideal S4x8192x768 .f32) (b : FVec Ideal S4x8192x256 .f32)
    (wo : FVec Ideal S1024x1024 .f32) (n : Fin 4) (s : Fin 8192) (j : Fin 1024) :
    mixA x a b wo (ix3 n s j)
      = Ideal.ofBits .f32 1071072509#32 * x (ix3 n s j)
        + ((∑ f : Fin 768, a (ix3 n s f) * wo (ix2 ⟨f.val, by omega⟩ j)) + ∑ e : Fin 256, b (ix3 n s e) * wo (ix2 ⟨768 + e.val, by omega⟩ j)) := by
  pointwise [mixA]

theorem norm_apply (y : FVec Ideal S4x8192x1024 .f32) (g b : FVec Ideal S1024 .f32) (n : Fin 4) (s : Fin 8192) (j : Fin 1024) :
    normA y g b (ix3 n s j) = Spec.layerNorm (fun k => y (ix3 n s k)) (g (ix1 j)) (b (ix1 j)) j := by
  pointwise [normA, centredA, meanA]
  rfl

/-- The reference's result at an index. -/
theorem ref_apply (m : (ℓ : Loc nD τ sig) → Buf (Elt Ideal) ℓ) (c : Dev nD) (n : Fin 4) (s : Fin 8192) (j : Fin 1024) :
    Value.res_main_v78 m c (ix3 n s j)
      = Spec.layerNorm (Spec.mixed Spec.early (fun n s k => m (c.tc.loc main_arg0) (ix3 n s k)) (fun k e => m (c.tc.loc main_arg2) (ix2 k e))
            (fun i f => m (c.tc.loc main_arg3) (ix2 i f)) (fun n p e => m (c.tc.loc main_arg1) (ix3 n p e))
            (fun f j => m (c.tc.loc main_arg4) (ix2 f j)) n s)
          (m (c.tc.loc main_arg5) (ix1 j)) (m (c.tc.loc main_arg6) (ix1 j)) j := by
  rw [ref_steps, norm_apply]
  refine congrArg (fun y => Spec.layerNorm y _ _ j) (funext fun k => ?_)
  rw [mix_apply]
  unfold Spec.mixed Spec.early
  simp only [conv_apply _ _ _ (proj_apply _ _), read_apply, prob_apply, exp_apply, logit_apply _ _ _ (proj_apply _ _)]

end Cert.Mixer

end
-- ==== Proof.MixerValue.lean ====
/- What the mixer kernel leaves: each point normalizes 512 positions of one sequence and keeps the last rows of its gated
   signal for the next point's convolution. -/
module

public import proofs.«01_k».proof.Proof.Gen.KernelIdeal.Value
public import Idealize.ShloMosaic.Lib.Pipeline.ValueKit
public import Idealize.ShloMosaic.Lib.Pipeline.ReadBack
public import proofs.«01_k».proof.Proof.MixerSpec

@[expose] public section

set_option maxRecDepth 16384

noncomputable section

namespace Cert.Mixer

open Cert.KernelIdeal Cert.KernelIdeal.Gen Idealize.ShloMosaic Idealize.ShloMosaic.TcCoe Idealize.SL.Sem

variable (m : (ℓ : Loc nD τ sig) → Buf (Elt Ideal) ℓ)

/-! ## The attention of a block -/

/-- Whether a channel lies between two bounds, as the kernel computes it. -/
def mask (lo hi : BitVec 32) (x : ℕ) : BitVec 1 :=
  IntOp.andi (IntOp.cmpi .sge (BitVec.ofNat 32 x) lo) (IntOp.cmpi .slt (BitVec.ofNat 32 x) hi)

/-- The logit of the head whose channels are marked. -/
def maskedLogit (lo hi : BitVec 32) (q : Fin 256 → EReal) (K : Fin 256 → Fin 256 → EReal) (p : Fin 256) : EReal :=
  ∑ x : Fin 256, Scalar.select (mask lo hi x.val) (q x * Ideal.ofBits .f32 1040187392#32) 0 * K p x

/-- The kernel's attention: the four heads, each kept on its own channels. -/
def attn (q : Fin 256 → EReal) (K V : Fin 256 → Fin 256 → EReal) (e : Fin 256) : EReal :=
  Scalar.select (mask 192#32 256#32 e.val) (Spec.late (maskedLogit 192#32 256#32 q K) fun p => V p e)
    (Scalar.select (mask 128#32 192#32 e.val) (Spec.late (maskedLogit 128#32 192#32 q K) fun p => V p e)
      (Scalar.select (mask 64#32 128#32 e.val) (Spec.late (maskedLogit 64#32 128#32 q K) fun p => V p e)
        (Scalar.select (mask 0#32 64#32 e.val) (Spec.late (maskedLogit 0#32 64#32 q K) fun p => V p e) 0)))

/-- The kernel's arrays, one step of a head each: the channels' mask, -/
def maskB (lo hi : BitVec 32) : IVec S1x256 1 :=
  andi (cmpi .sge (iota .tc S1x256 32 [1] iota_S1x256_d1_w32) (broadcast S1x256 lo))
    (cmpi .slt (iota .tc S1x256 32 [1] iota_S1x256_d1_w32) (broadcast S1x256 hi))

/-- a choice by it, -/
def keepB (mk : IVec S1x256 1) (a b : FVec Ideal S512x256 .f32) : FVec Ideal S512x256 .f32 :=
  select (broadcastTo S512x256 (shapeCast S1x256 mk shapeCasts_S1x256_S1x256) broadcasts_S1x256_S512x256) a b

/-- the logits, -/
def logitB (mk : IVec S1x256 1) (q : FVec Ideal S512x256 .f32) (k : FVec Ideal S256x256 .bf16) : FVec Ideal S512x256 .f32 :=
  matmul dot_S512x256_S256x256_S512x256_1_1_0_0_n_n none
    (truncf .bf16 (keepB mk (mulf q (broadcast S512x256 (Scalar.ofBits .f32 0x3E000000#32))) (broadcast S512x256 (Scalar.ofBits .f32 0x00000000#32)))
      bitsLt_bf16_f32) k (constant S512x256 .f32 0x00000000#32)

/-- the weights, -/
def weightB (s : FVec Ideal S512x256 .f32) : FVec Ideal S512x256 .f32 :=
  exp (subf s (broadcastTo S512x256 (shapeCast S512x1 (multiReduction .maximumf [1] S512 s 0xFF800000#32 reduces_S512x256_S512 (.inl rfl) rfl)
    shapeCasts_S512_S512x1) broadcasts_S512x1_S512x256))

/-- and what they read. -/
def readB (p : FVec Ideal S512x256 .f32) (v : FVec Ideal S256x256 .bf16) : FVec Ideal S512x256 .f32 :=
  divf (matmul dot_S512x256_S256x256_S512x256_1_0_0_1_n_n none (truncf .bf16 p bitsLt_bf16_f32) v (constant S512x256 .f32 0x00000000#32))
    (broadcastTo S512x256 (shapeCast S512x1 (multiReduction .add [1] S512 p 0x00000000#32 reduces_S512x256_S512 (.inl rfl) rfl)
      shapeCasts_S512_S512x1) broadcasts_S512x1_S512x256)

theorem attn_steps (q : FVec Ideal S512x256 .f32) (k v : Vec Ideal S1x256x256 .bf16) :
    k0_pay25 q (k0_pay14 k) (k0_pay15 v) (k0_pay21 q (k0_pay14 k) (k0_pay15 v) k0_pay16 k0_pay17 (k0_pay19 q k v) (k0_pay20 q k))
        k0_pay22 (k0_pay23 q (k0_pay14 k))
      = truncf .bf16 (keepB (maskB 192#32 256#32) (readB (weightB (logitB (maskB 192#32 256#32) q (k0_pay14 k))) (k0_pay15 v))
          (keepB (maskB 128#32 192#32) (readB (weightB (logitB (maskB 128#32 192#32) q (k0_pay14 k))) (k0_pay15 v))
            (keepB (maskB 64#32 128#32) (readB (weightB (logitB (maskB 64#32 128#32) q (k0_pay14 k))) (k0_pay15 v))
              (keepB (maskB 0#32 64#32) (readB (weightB (logitB (maskB 0#32 64#32) q (k0_pay14 k))) (k0_pay15 v))
                (k0_pay16 (F := Ideal)))))) bitsLt_bf16_f32 := rfl

theorem mask_apply (lo hi : BitVec 32) (x : Fin 256) : maskB lo hi (ix2 0 x) = mask lo hi x.val := by
  pointwise [maskB]
  rfl

theorem keep_apply (mk : IVec S1x256 1) (a b : FVec Ideal S512x256 .f32) (r : Fin 512) (x : Fin 256) :
    keepB mk a b (ix2 r x) = Scalar.select (mk (ix2 0 x)) (a (ix2 r x)) (b (ix2 r x)) := by
  pointwise [keepB]

theorem logit_block (lo hi : BitVec 32) (q : FVec Ideal S512x256 .f32) (k : Vec Ideal S1x256x256 .bf16) (r : Fin 512) (p : Fin 256) :
    logitB (maskB lo hi) q (k0_pay14 k) (ix2 r p) = maskedLogit lo hi (fun x => q (ix2 r x)) (fun p x => k (ix3 0 p x)) p := by
  pointwise [logitB, k0_pay14]
  simp only [keep_apply, mask_apply]
  rfl

theorem weight_apply (s : FVec Ideal S512x256 .f32) (r : Fin 512) (p : Fin 256) :
    weightB s (ix2 r p) = Ideal.exp (s (ix2 r p) - Spec.top fun q => s (ix2 r q)) := by
  pointwise [weightB]
  rfl

theorem read_block (p : FVec Ideal S512x256 .f32) (v : Vec Ideal S1x256x256 .bf16) (r : Fin 512) (e : Fin 256) :
    readB p (k0_pay15 v) (ix2 r e) = Ideal.div (∑ x : Fin 256, p (ix2 r x) * v (ix3 0 x e)) (∑ x : Fin 256, p (ix2 r x)) := by
  pointwise [readB, k0_pay15]

theorem zero_apply (r : Fin 512) (e : Fin 256) : k0_pay16 (F := Ideal) (ix2 r e) = (0 : EReal) := by
  pointwise [k0_pay16]

theorem attn_apply (q : FVec Ideal S512x256 .f32) (k v : Vec Ideal S1x256x256 .bf16) (r : Fin 512) (e : Fin 256) :
    k0_pay25 q (k0_pay14 k) (k0_pay15 v) (k0_pay21 q (k0_pay14 k) (k0_pay15 v) k0_pay16 k0_pay17 (k0_pay19 q k v) (k0_pay20 q k))
        k0_pay22 (k0_pay23 q (k0_pay14 k)) (ix2 r e)
      = attn (fun x => q (ix2 r x)) (fun p x => k (ix3 0 p x)) (fun p x => v (ix3 0 p x)) e := by
  rw [attn_steps]
  show keepB _ _ _ _ = _
  simp only [keep_apply, read_block, weight_apply, logit_block, mask_apply, zero_apply]
  rfl

theorem mask0 : ∀ x : Fin 256, mask 0#32 64#32 x.val = if x.val / 64 = 0 then 1#1 else 0#1 := by decide +kernel
theorem mask1 : ∀ x : Fin 256, mask 64#32 128#32 x.val = if x.val / 64 = 1 then 1#1 else 0#1 := by decide +kernel
theorem mask2 : ∀ x : Fin 256, mask 128#32 192#32 x.val = if x.val / 64 = 2 then 1#1 else 0#1 := by decide +kernel
theorem mask3 : ∀ x : Fin 256, mask 192#32 256#32 x.val = if x.val / 64 = 3 then 1#1 else 0#1 := by decide +kernel

theorem select_ite {P : Prop} [Decidable P] (a b : EReal) : Scalar.select (if P then 1#1 else 0#1) a b = if P then a else b := by
  by_cases h : P
  · rw [if_pos h, if_pos h]; rfl
  · rw [if_neg h, if_neg h]; rfl

/-- The marked channels' sum is the head's own sum, scaled at the end. -/
theorem maskedLogit_eq (lo hi : BitVec 32) (h : Fin 4) (hm : ∀ x : Fin 256, mask lo hi x.val = if x.val / 64 = h.val then 1#1 else 0#1)
    (q : Fin 256 → EReal) (K : Fin 256 → Fin 256 → EReal) (p : Fin 256) :
    maskedLogit lo hi q K p
      = (∑ d : Fin 64, q ⟨h.val * 64 + d.val, by omega⟩ * K p ⟨h.val * 64 + d.val, by omega⟩) * Ideal.ofBits .f32 1040187392#32 := by
  have hc : ∃ c : ℝ, 0 ≤ c ∧ Ideal.ofBits .f32 1040187392#32 = (c : EReal) := ⟨8388608 * (1 / 67108864), by norm_num, by
    rw [EReal.coe_mul]; simp [Ideal.ofBits, Ideal.ieee]; norm_num⟩
  obtain ⟨c, h0, hc⟩ := hc
  unfold maskedLogit
  simp only [hm, select_ite, hc]
  rw [Spec.sum_mul_coe _ _ h0, ← Fin.sum_mul_add_fin 4 64, Finset.sum_eq_single h]
  · refine Finset.sum_congr rfl fun d _ => ?_
    rw [if_pos (by dsimp only; omega), mul_right_comm]
  · intro a _ ha
    refine Finset.sum_eq_zero fun d _ => ?_
    have : a.val ≠ h.val := fun e => ha (Fin.ext e)
    rw [if_neg (by dsimp only; omega), zero_mul]
  · intro hn
    exact absurd (Finset.mem_univ h) hn

/-- The kernel's attention at a channel is the owning head's. -/
theorem attn_eq (q : Fin 256 → EReal) (K V : Fin 256 → Fin 256 → EReal) (e : Fin 256) :
    attn q K V e
      = Spec.late (fun p => (∑ d : Fin 64, q ⟨e.val / 64 * 64 + d.val, by omega⟩ * K p ⟨e.val / 64 * 64 + d.val, by omega⟩) * Ideal.ofBits .f32 1040187392#32)
          (fun p => V p e) := by
  have key : ∀ (lo hi : BitVec 32) (h : Fin 4) (hm : ∀ x : Fin 256, mask lo hi x.val = if x.val / 64 = h.val then 1#1 else 0#1), e.val / 64 = h.val →
      maskedLogit lo hi q K = fun p => (∑ d : Fin 64, q ⟨e.val / 64 * 64 + d.val, by omega⟩ * K p ⟨e.val / 64 * 64 + d.val, by omega⟩) * Ideal.ofBits .f32 1040187392#32 := by
    intro lo hi h hm he
    funext p
    rw [maskedLogit_eq lo hi h hm]
    simp only [he]
  unfold attn
  simp only [mask0, mask1, mask2, mask3, select_ite]
  split_ifs with h3 h2 h1 h0
  · rw [key _ _ 3 mask3 h3]
  · rw [key _ _ 2 mask2 h2]
  · rw [key _ _ 1 mask1 h1]
  · rw [key _ _ 0 mask0 h0]
  · omega

/-! ## The convolution of a block -/

/-- The block's projection. -/
def bproj (x : Vec Ideal S1x512x1024 .f32) (w : Vec Ideal S1024x2560 .bf16) (r : Fin 512) (e : Fin 2560) : EReal :=
  ∑ k : Fin 1024, x (ix3 0 r k) * w (ix2 k e)

theorem proj_block (x : Vec Ideal S1x512x1024 .f32) (w : Vec Ideal S1024x2560 .bf16) (r : Fin 512) (e : Fin 2560) :
    k0_pay4 x w (ix2 r e) = bproj x w r e := by
  pointwise [k0_pay4, k0_pay3]
  rfl

/-- The block's gated signal. -/
def bgated (x : Vec Ideal S1x512x1024 .f32) (w : Vec Ideal S1024x2560 .bf16) (r : Fin 512) (f : Fin 768) : EReal :=
  bproj x w r ⟨768 + f.val, by omega⟩ * bproj x w r ⟨1536 + f.val, by omega⟩

theorem query_apply (x : Vec Ideal S1x512x1024 .f32) (w : Vec Ideal S1024x2560 .bf16) (r : Fin 512) (e : Fin 256) :
    k0_pay6 x w (ix2 r e) = bproj x w r ⟨2304 + e.val, by omega⟩ := by
  pointwise [k0_pay6]
  rw [proj_block]

theorem gated_apply (x : Vec Ideal S1x512x1024 .f32) (w : Vec Ideal S1024x2560 .bf16) (r : Fin 512) (f : Fin 768) :
    k0_pay7 x w (ix2 r f) = bgated x w r f := by
  pointwise [k0_pay7]
  rw [proj_block, proj_block]
  rfl

theorem tail_apply (x : Vec Ideal S1x512x1024 .f32) (w : Vec Ideal S1024x2560 .bf16) (r : Fin 8) (f : Fin 768) :
    k0_pay8 x w (ix2 r f) = bgated x w ⟨504 + r.val, by omega⟩ f := by
  pointwise [k0_pay8]
  rw [gated_apply]

theorem first_row : ∀ r : Fin 512, IntOp.cmpi CmpIPredicate.eq (BitVec.ofNat 32 r.val) 0#32 = if r.val = 0 then 1#1 else 0#1 := by decide +kernel
theorem second_row : ∀ r : Fin 512, IntOp.cmpi CmpIPredicate.eq (BitVec.ofNat 32 r.val) 1#32 = if r.val = 1 then 1#1 else 0#1 := by decide +kernel

/-- The block's convolution, the rows before it taken from what the scratch keeps. -/
theorem conv_block (x : Vec Ideal S1x512x1024 .f32) (w : Vec Ideal S1024x2560 .bf16) (T : Vec Ideal S8x768 .f32) (cw : Vec Ideal S3x768 .f32)
    (r : Fin 512) (f : Fin 768) :
    k0_pay13 (k0_pay5 x w) (k0_pay7 x w) (k0_pay9 x w T) k0_pay10 (k0_pay11 x w T) (k0_pay12 T) cw (ix2 r f)
      = bproj x w r ⟨f.val, by omega⟩
        * (cw (ix2 0 f) * (if r.val = 0 then T (ix2 6 f) else if r.val = 1 then T (ix2 7 f) else bgated x w ⟨(r.val + 512 - 2) % 512, by omega⟩ f)
          + cw (ix2 1 f) * (if r.val = 0 then T (ix2 7 f) else bgated x w ⟨(r.val + 512 - 1) % 512, by omega⟩ f)
          + cw (ix2 2 f) * bgated x w r f) := by
  pointwise [k0_pay13, k0_pay5, k0_pay9, k0_pay10, k0_pay11, k0_pay12]
  simp only [first_row, second_row, select_ite, gated_apply, proj_block]

/-! ## The block -/

theorem norm_block (v4 : FVec Ideal S512x1024 .f32) (v173 : FVec Ideal S512x1024 .f32) (v174 : FVec Ideal S512x256 .bf16)
    (v175 : Vec Ideal S256x1024 .bf16) (g b : Vec Ideal S1x1024 .f32) (r : Fin 512) (j : Fin 1024) :
    k0_pay1 v4 v173 v174 v175 g b (ix3 0 r j)
      = Spec.layerNorm (fun j => Ideal.ofBits .f32 1071072509#32 * v4 (ix2 r j)
            + (v173 (ix2 r j) + ∑ e : Fin 256, v174 (ix2 r e) * v175 (ix2 e j)))
          (g (ix2 0 j)) (b (ix2 0 j)) j := by
  pointwise [k0_pay1]
  rfl

theorem conv_out (v52 : FVec Ideal S512x768 .f32) (o : Vec Ideal S1024x1024 .bf16) (r : Fin 512) (j : Fin 1024) :
    k0_pay24 v52 (View.ld o (Rect.unit ![0, 0] ![768, 1024] inb_S1024x1024_S768x1024_0_0)) (ix2 r j)
      = ∑ f : Fin 768, v52 (ix2 r f) * o (ix2 ⟨f.val, by omega⟩ j) := by
  pointwise [k0_pay24]

theorem ld_low (o : Vec Ideal S1024x1024 .bf16) (e : Fin 256) (j : Fin 1024) :
    View.ld o (Rect.unit ![768, 0] ![256, 1024] inb_S1024x1024_S256x1024_768_0) (ix2 e j) = o (ix2 ⟨768 + e.val, by omega⟩ j) := by
  pointwise

/-- The output block of a point, from its input blocks and the rows the scratch keeps. -/
def blockOf (x : Vec Ideal S1x512x1024 .f32) (w : Vec Ideal S1024x2560 .bf16) (T : Vec Ideal S8x768 .f32) (cw : Vec Ideal S3x768 .f32)
    (k v : Vec Ideal S1x256x256 .bf16) (o : Vec Ideal S1024x1024 .bf16) (g b : Vec Ideal S1x1024 .f32) : FVec Ideal S1x512x1024 .f32 :=
  k0_pay1 (k0_pay3 x)
    (k0_pay24 (k0_pay13 (k0_pay5 x w) (k0_pay7 x w) (k0_pay9 x w T) k0_pay10 (k0_pay11 x w T) (k0_pay12 T) cw)
      (View.ld o (Rect.unit ![0, 0] ![768, 1024] inb_S1024x1024_S768x1024_0_0)))
    (k0_pay25 (k0_pay6 x w) (k0_pay14 k) (k0_pay15 v)
      (k0_pay21 (k0_pay6 x w) (k0_pay14 k) (k0_pay15 v) k0_pay16 k0_pay17 (k0_pay19 (k0_pay6 x w) k v) (k0_pay20 (k0_pay6 x w) k))
      k0_pay22 (k0_pay23 (k0_pay6 x w) (k0_pay14 k)))
    (View.ld o (Rect.unit ![768, 0] ![256, 1024] inb_S1024x1024_S256x1024_768_0)) g b

theorem first_point (c : Dev nD) (t : Fin cfg0.N) (h : t.val % 16 = 0) :
    (outsAt0 (F := Ideal) m c t.val t.isLt).1
      = blockOf (iblk m c 0 t) (iblk m c 1 t) (k0_pay2 (F := Ideal)) (iblk m c 2 t) (iblk m c 3 t) (iblk m c 4 t) (iblk m c 5 t) (iblk m c 6 t) (iblk m c 7 t) := by
  rw [outsAt0_A m c t h]
  dsimp only
  frame_out
  rfl

theorem later_point (c : Dev nD) (t : Fin cfg0.N) (h : ¬t.val % 16 = 0) :
    (outsAt0 (F := Ideal) m c t.val t.isLt).1
      = blockOf (iblk m c 0 t) (iblk m c 1 t) (outsAt0 (F := Ideal) m c (t.val - 1) (Nat.lt_of_le_of_lt (Nat.sub_le _ _) t.isLt)).2
          (iblk m c 2 t) (iblk m c 3 t) (iblk m c 4 t) (iblk m c 5 t) (iblk m c 6 t) (iblk m c 7 t) := by
  rw [outsAt0_B m c t h]
  dsimp only
  frame_out
  simp only [read_unread_whole]
  rfl

/-- What every point keeps: the last rows of its gated signal. -/
theorem kept_rows (c : Dev nD) (t : Fin cfg0.N) :
    (outsAt0 (F := Ideal) m c t.val t.isLt).2 = k0_pay8 (iblk m c 0 t) (iblk m c 1 t) := by
  by_cases h : t.val % 16 = 0
  · rw [outsAt0_A m c t h]
    dsimp only
    frame_out
  · rw [outsAt0_B m c t h]
    dsimp only
    frame_out

/-! ## The blocks' places in the arrays -/

theorem idx : ∀ t : Fin cfg0.N, win0_0.index t = ![t.val / 16, t.val % 16, 0] ∧ win0_1.index t = ![0, 0]
    ∧ win0_2.index t = ![0, 0] ∧ win0_3.index t = ![t.val / 16, 0, 0] ∧ win0_4.index t = ![t.val / 16, 0, 1] ∧ win0_5.index t = ![0, 0]
    ∧ win0_6.index t = ![0, 0] ∧ win0_7.index t = ![0, 0] :=
  (by decide +kernel : ∀ t : Fin grid0.N, _)

theorem x_block (c : Dev nD) (t : Fin cfg0.N) (r : Fin 512) (k : Fin 1024) (hn : t.val / 16 < 4) (h : t.val % 16 * 512 + r.val < 8192) :
    iblk m c 0 t (ix3 0 r k) = m ((c : Thread nD τ).loc main_arg0) (ix3 ⟨t.val / 16, hn⟩ ⟨t.val % 16 * 512 + r.val, h⟩ k) := by
  blk_ext [iblk, V, idx t]

theorem w_block (c : Dev nD) (t : Fin cfg0.N) (k : Fin 1024) (e : Fin 2560) :
    iblk m c 1 t (ix2 k e) = m ((c : Thread nD τ).loc main_arg2) (ix2 k e) := by
  blk_ext! [iblk, V, idx t]

theorem cw_block (c : Dev nD) (t : Fin cfg0.N) (i : Fin 3) (f : Fin 768) :
    iblk m c 2 t (ix2 i f) = m ((c : Thread nD τ).loc main_arg3) (ix2 i f) := by
  blk_ext [iblk, V, idx t]

theorem k_block (c : Dev nD) (t : Fin cfg0.N) (p e : Fin 256) (hn : t.val / 16 < 4) :
    iblk m c 3 t (ix3 0 p e) = m ((c : Thread nD τ).loc main_arg1) (ix3 ⟨t.val / 16, hn⟩ p ⟨e.val, by omega⟩) := by
  blk_ext! [iblk, V, idx t]

theorem v_block (c : Dev nD) (t : Fin cfg0.N) (p e : Fin 256) (hn : t.val / 16 < 4) :
    iblk m c 4 t (ix3 0 p e) = m ((c : Thread nD τ).loc main_arg1) (ix3 ⟨t.val / 16, hn⟩ p ⟨256 + e.val, by omega⟩) := by
  blk_ext! [iblk, V, idx t]

theorem o_block (c : Dev nD) (t : Fin cfg0.N) (f j : Fin 1024) :
    iblk m c 5 t (ix2 f j) = m ((c : Thread nD τ).loc main_arg4) (ix2 f j) := by
  blk_ext! [iblk, V, idx t]

theorem g_block (c : Dev nD) (t : Fin cfg0.N) (j : Fin 1024) :
    iblk m c 6 t (ix2 0 j) = m ((c : Thread nD τ).loc main_arg5) (ix1 j) := by
  blk_ext! [iblk, V, idx t]

theorem b_block (c : Dev nD) (t : Fin cfg0.N) (j : Fin 1024) :
    iblk m c 7 t (ix2 0 j) = m ((c : Thread nD τ).loc main_arg6) (ix1 j) := by
  blk_ext! [iblk, V, idx t]

/-! ## The block over the arrays -/

/-- A block's entries as the arrays' entries: the arithmetic of a point, given what its blocks and its scratch hold. -/
theorem blockOf_apply (X : Fin 4 → Fin 8192 → Fin 1024 → EReal) (W : Fin 1024 → Fin 2560 → EReal)
    (C : Fin 3 → Fin 768 → EReal) (M : Fin 4 → Fin 256 → Fin 2048 → EReal) (O : Fin 1024 → Fin 1024 → EReal) (G B : Fin 1024 → EReal)
    (n : Fin 4) (q : ℕ) (hq : q < 16)
    (x : Vec Ideal S1x512x1024 .f32) (w : Vec Ideal S1024x2560 .bf16) (T : Vec Ideal S8x768 .f32) (cw : Vec Ideal S3x768 .f32)
    (k v : Vec Ideal S1x256x256 .bf16) (o : Vec Ideal S1024x1024 .bf16) (g b : Vec Ideal S1x1024 .f32)
    (hx : ∀ (r : Fin 512) (i : Fin 1024), x (ix3 0 r i) = X n ⟨q * 512 + r.val, by omega⟩ i)
    (hw : ∀ (i : Fin 1024) (e : Fin 2560), w (ix2 i e) = W i e)
    (h6 : ∀ f : Fin 768, T (ix2 6 f) = Spec.earlier X W 2 n ⟨q * 512, by omega⟩ f)
    (h7 : ∀ f : Fin 768, T (ix2 7 f) = Spec.earlier X W 1 n ⟨q * 512, by omega⟩ f)
    (hc : ∀ (i : Fin 3) (f : Fin 768), cw (ix2 i f) = C i f)
    (hk : ∀ (p e : Fin 256), k (ix3 0 p e) = M n p ⟨e.val, by omega⟩)
    (hv : ∀ (p e : Fin 256), v (ix3 0 p e) = M n p ⟨256 + e.val, by omega⟩)
    (ho : ∀ (f j : Fin 1024), o (ix2 f j) = O f j)
    (hg : ∀ j : Fin 1024, g (ix2 0 j) = G j) (hb : ∀ j : Fin 1024, b (ix2 0 j) = B j) (r : Fin 512) (j : Fin 1024) :
    blockOf x w T cw k v o g b (ix3 0 r j)
      = Spec.layerNorm (Spec.mixed Spec.late X W C M O n ⟨q * 512 + r.val, by omega⟩) (G j) (B j) j := by
  have hp : ∀ (r : Fin 512) (e : Fin 2560), bproj x w r e = Spec.proj X W n ⟨q * 512 + r.val, by omega⟩ e := fun r e => by
    unfold bproj Spec.proj
    simp only [hx, hw]
  have hz : ∀ (r : Fin 512) (f : Fin 768), bgated x w r f = Spec.gated X W n ⟨q * 512 + r.val, by omega⟩ f := fun r f => by
    unfold bgated Spec.gated
    simp only [hp]
  have z1 : ∀ f : Fin 768, (if r.val = 0 then T (ix2 7 f) else bgated x w ⟨(r.val + 512 - 1) % 512, by omega⟩ f)
      = Spec.earlier X W 1 n ⟨q * 512 + r.val, by omega⟩ f := fun f => by
    by_cases h0 : r.val = 0
    · rw [if_pos h0, h7]
      simp only [h0, Nat.add_zero]
    · rw [if_neg h0, hz]
      unfold Spec.earlier
      rw [if_pos (by dsimp only; omega)]
      refine congrArg (fun s => Spec.gated X W n s f) (Fin.ext ?_)
      dsimp only
      omega
  have z2 : ∀ f : Fin 768, (if r.val = 0 then T (ix2 6 f) else if r.val = 1 then T (ix2 7 f) else bgated x w ⟨(r.val + 512 - 2) % 512, by omega⟩ f)
      = Spec.earlier X W 2 n ⟨q * 512 + r.val, by omega⟩ f := fun f => by
    by_cases h0 : r.val = 0
    · rw [if_pos h0, h6]
      simp only [h0, Nat.add_zero]
    · rw [if_neg h0]
      by_cases h1 : r.val = 1
      · rw [if_pos h1, h7]
        unfold Spec.earlier
        by_cases hq0 : 1 ≤ q * 512
        · rw [if_pos hq0, if_pos (by dsimp only; omega)]
          refine congrArg (fun s => Spec.gated X W n s f) (Fin.ext ?_)
          dsimp only
          omega
        · rw [if_neg hq0, if_neg (by dsimp only; omega)]
      · rw [if_neg h1, hz]
        unfold Spec.earlier
        rw [if_pos (by dsimp only; omega)]
        refine congrArg (fun s => Spec.gated X W n s f) (Fin.ext ?_)
        dsimp only
        omega
  have hx' : ∀ (r : Fin 512) (i : Fin 1024), k0_pay3 x (ix2 r i) = X n ⟨q * 512 + r.val, by omega⟩ i := fun r i => by
    pointwise [k0_pay3]
    exact hx r i
  unfold blockOf
  rw [norm_block, hg, hb]
  refine congrArg (fun y => Spec.layerNorm y (G j) (B j) j) (funext fun j' => ?_)
  simp only [hx', conv_out, attn_apply, attn_eq, conv_block, query_apply, ho, hk, hv, hc, z1, z2]
  simp only [hp, hz]
  unfold Spec.mixed Spec.conv Spec.logit
  refine congrArg₂ (· + ·) rfl (congrArg₂ (· + ·) (Finset.sum_congr rfl fun f _ => ?_) (Finset.sum_congr rfl fun e _ => ?_))
  · rw [mul_comm (C 0 f), mul_comm (C 1 f), mul_comm (C 2 f)]
  · refine congrArg₂ (· * ·) rfl ?_
    exact (ld_low o e j').trans (ho _ _)

/-- The rows kept by a point, over the arrays: the gated signal of the last eight positions of its tile. -/
theorem kept_apply (c : Dev nD) (t : Fin cfg0.N) (r : Fin 8) (f : Fin 768) (hn : t.val / 16 < 4) :
    (outsAt0 (F := Ideal) m c t.val t.isLt).2 (ix2 r f)
      = Spec.gated (fun n s k => m ((c : Thread nD τ).loc main_arg0) (ix3 n s k)) (fun k e => m ((c : Thread nD τ).loc main_arg2) (ix2 k e))
          ⟨t.val / 16, hn⟩ ⟨t.val % 16 * 512 + (504 + r.val), by omega⟩ f := by
  rw [kept_rows m c t, tail_apply]
  unfold bgated Spec.gated bproj Spec.proj
  have hx : ∀ (r : Fin 512) (k : Fin 1024), iblk m c 0 t (ix3 0 r k)
      = m ((c : Thread nD τ).loc main_arg0) (ix3 ⟨t.val / 16, hn⟩ ⟨t.val % 16 * 512 + r.val, by omega⟩ k) :=
    fun r k => x_block m c t r k hn (by omega)
  simp only [hx, w_block m c t]

/-- Before the first position of an array there is nothing: what the first point of an array reads is zero. -/
theorem earlier_start (X : Fin 4 → Fin 8192 → Fin 1024 → EReal) (W : Fin 1024 → Fin 2560 → EReal) (d : ℕ) (hd : 0 < d) (n : Fin 4)
    (s : Fin 8192) (hs : s.val = 0) (f : Fin 768) : Spec.earlier X W d n s f = 0 := by
  unfold Spec.earlier
  rw [if_neg (by omega)]

theorem zeros_apply (r : Fin 8) (f : Fin 768) : k0_pay2 (F := Ideal) (ix2 r f) = 0 := by
  pointwise [k0_pay2]

theorem block_eq (c : Dev nD) (t : Fin cfg0.N) (r : Fin 512) (j : Fin 1024) (hn : t.val / 16 < 4) :
    (outsAt0 (F := Ideal) m c t.val t.isLt).1 (ix3 0 r j)
      = Spec.layerNorm (Spec.mixed Spec.late (fun n s k => m ((c : Thread nD τ).loc main_arg0) (ix3 n s k))
          (fun k e => m ((c : Thread nD τ).loc main_arg2) (ix2 k e)) (fun i f => m ((c : Thread nD τ).loc main_arg3) (ix2 i f))
          (fun n p e => m ((c : Thread nD τ).loc main_arg1) (ix3 n p e)) (fun f j => m ((c : Thread nD τ).loc main_arg4) (ix2 f j))
          ⟨t.val / 16, hn⟩ ⟨t.val % 16 * 512 + r.val, by omega⟩)
          (m ((c : Thread nD τ).loc main_arg5) (ix1 j)) (m ((c : Thread nD τ).loc main_arg6) (ix1 j)) j := by
  have hq : t.val % 16 < 16 := Nat.mod_lt _ (by decide)
  by_cases h : t.val % 16 = 0
  · rw [first_point m c t h]
    refine blockOf_apply _ _ _ _ _ (fun j => m ((c : Thread nD τ).loc main_arg5) (ix1 j)) (fun j => m ((c : Thread nD τ).loc main_arg6) (ix1 j))
      _ _ hq _ _ _ _ _ _ _ _ _
      (fun r i => x_block m c t r i hn (by omega)) (w_block m c t) (fun f => ?_) (fun f => ?_)
      (cw_block m c t) (fun p e => k_block m c t p e hn) (fun p e => v_block m c t p e hn) (o_block m c t) (g_block m c t) (b_block m c t) r j
    · rw [zeros_apply, earlier_start _ _ _ (by decide) _ _ (by dsimp only; omega)]
    · rw [zeros_apply, earlier_start _ _ _ (by decide) _ _ (by dsimp only; omega)]
  · rw [later_point m c t h]
    have hp : t.val - 1 < cfg0.N := by have := t.isLt; omega
    have hn' : (t.val - 1) / 16 < 4 := by omega
    have hT : ∀ (r : Fin 8) (d : ℕ) (f : Fin 768), r.val + d = 8 → 0 < d →
        (outsAt0 (F := Ideal) m c (t.val - 1) (Nat.lt_of_le_of_lt (Nat.sub_le _ _) t.isLt)).2 (ix2 r f)
          = Spec.earlier (fun n s k => m ((c : Thread nD τ).loc main_arg0) (ix3 n s k)) (fun k e => m ((c : Thread nD τ).loc main_arg2) (ix2 k e))
              d ⟨t.val / 16, hn⟩ ⟨t.val % 16 * 512, by omega⟩ f := fun r d f hd hd' => by
      refine (kept_apply m c ⟨t.val - 1, hp⟩ r f hn').trans ?_
      unfold Spec.earlier
      rw [if_pos (by dsimp only; omega)]
      refine congrArg₂ (fun n s => Spec.gated _ _ n s f) (Fin.ext ?_) (Fin.ext ?_)
      · dsimp only
        omega
      · dsimp only
        omega
    exact blockOf_apply _ _ _ _ _ (fun j => m ((c : Thread nD τ).loc main_arg5) (ix1 j)) (fun j => m ((c : Thread nD τ).loc main_arg6) (ix1 j))
      _ _ hq _ _ _ _ _ _ _ _ _
      (fun r i => x_block m c t r i hn (by omega)) (w_block m c t) (fun f => hT 6 2 f rfl (by decide)) (fun f => hT 7 1 f rfl (by decide))
      (cw_block m c t) (fun p e => k_block m c t p e hn) (fun p e => v_block m c t p e hn) (o_block m c t) (g_block m c t) (b_block m c t) r j

/-- What the kernel's result array ends holding. -/
theorem result (c : Dev nD) (n : Fin 4) (s : Fin 8192) (j : Fin 1024) :
    Value.G8 m c (ix3 n s j)
      = Spec.layerNorm (Spec.mixed Spec.late (fun n s k => m ((c : Thread nD τ).loc main_arg0) (ix3 n s k))
          (fun k e => m ((c : Thread nD τ).loc main_arg2) (ix2 k e)) (fun i f => m ((c : Thread nD τ).loc main_arg3) (ix2 i f))
          (fun n p e => m ((c : Thread nD τ).loc main_arg1) (ix3 n p e)) (fun f j => m ((c : Thread nD τ).loc main_arg4) (ix2 f j)) n s)
          (m ((c : Thread nD τ).loc main_arg5) (ix1 j)) (m ((c : Thread nD τ).loc main_arg6) (ix1 j)) j := by
  have hn := n.isLt
  have hs := s.isLt
  have hj := j.isLt
  have hN : cfg0.N = 64 := N_0
  have e : Value.pt8Of (ix3 n s j) = 16 * n.val + s.val / 512 := by
    show 16 * (n.val / 1 - 0) + 1 * (s.val / 512 - 0) + 1 * (j.val / 1024 - 0) = _
    omega
  have hlt : 16 * n.val + s.val / 512 < cfg0.N := by omega
  have e' : Value.loc8Of (ix3 n s j) = ix3 0 ⟨s.val % 512, Nat.mod_lt _ (by decide)⟩ j := by
    funext a; apply Fin.ext
    match a with
    | ⟨0, _⟩ => exact Nat.mod_one _
    | ⟨1, _⟩ => rfl
    | ⟨2, _⟩ => exact Nat.mod_eq_of_lt hj
  unfold Value.G8
  rw [dif_pos (by omega), ← Value.outsAt0_sweep m c (Value.pt8Of (ix3 n s j)) (by omega), e']
  simp only [e]
  refine (block_eq m c ⟨16 * n.val + s.val / 512, hlt⟩ ⟨s.val % 512, Nat.mod_lt _ (by decide)⟩ j (by dsimp only; omega)).trans ?_
  congr 2
  · apply Fin.ext
    dsimp only
    omega
  · apply Fin.ext
    dsimp only
    omega

end Cert.Mixer

end
-- ==== Proof.FfnRef.lean ====
/- The feed-forward reference at an index, as the row functions of Spec.lean. -/
module

public import proofs.«01_k».proof.Proof.Gen.Reference2Ideal.Run
public import proofs.«01_k».proof.Proof.Spec

@[expose] public section

set_option maxRecDepth 16384

noncomputable section

namespace Cert.Ffn

open Cert.Reference2Ideal Cert.Reference2Ideal.Gen Idealize.ShloMosaic Idealize.ShloMosaic.TcCoe Idealize.SL.Sem

/-- The row the layer norm is taken of, from the argument arrays. -/
def preNorm (x : FVec Ideal S32768x1024 .f32) (w : FVec Ideal S2x1024x5632 .f32) (d : FVec Ideal S2x2816x1024 .f32)
    (r : Fin 32768) (j : Fin 1024) : EReal :=
  Ideal.ofBits .f32 1071072509#32 * x (ix2 r j)
    + Spec.ffnRow (fun k => x (ix2 r k)) (fun (f : Fin 2816) k => w (ix3 0 k ⟨f.val, by omega⟩))
        (fun f k => w (ix3 0 k ⟨2816 + f.val, by omega⟩)) (fun f => d (ix3 0 f j))

theorem ref_apply (m : (ℓ : Loc nD τ sig) → Buf (Elt Ideal) ℓ) (c : Dev nD) (r : Fin 32768) (j : Fin 1024) :
    Value.res_main_v36 m c (ix2 r j)
      = Spec.layerNorm (preNorm (m (c.tc.loc main_arg0)) (m (c.tc.loc main_arg1)) (m (c.tc.loc main_arg2)) r)
          (m (c.tc.loc main_arg3) (ix1 j)) (m (c.tc.loc main_arg4) (ix1 j)) j := by
  pointwise [Value.res_main_v36]
  rfl

end Cert.Ffn

end
-- ==== Proof.FfnValue.lean ====
/- What the feed-forward kernel leaves: a point of even number keeps the first half of the hidden units' sum in the
   scratch, the point after it adds the second half and takes the layer norm of the rows. -/
module

public import proofs.«01_k».proof.Proof.Gen.Kernel2Ideal.Value
public import Idealize.ShloMosaic.Lib.Pipeline.ValueKit
public import Idealize.ShloMosaic.Lib.Pipeline.ReadBack
public import proofs.«01_k».proof.Proof.Spec

@[expose] public section

set_option maxRecDepth 16384

noncomputable section

namespace Cert.Ffn

open Cert.Kernel2Ideal Cert.Kernel2Ideal.Gen Idealize.ShloMosaic Idealize.ShloMosaic.TcCoe Idealize.SL.Sem

variable (m : (ℓ : Loc nD τ sig) → Buf (Elt Ideal) ℓ)

theorem pay1_apply (v : Vec Ideal S1024x1024 .f32) (r j : Fin 1024) : k0_pay1 v (ix2 r j) = v (ix2 r j) := by
  pointwise [k0_pay1]

/-- One half of the hidden units, at an entry. -/
theorem pay2_apply (v9 : Vec Ideal S1024x1024 .bf16) (v10 v12 : Vec Ideal S1x1024x1408 .bf16) (v14 : Vec Ideal S1x1408x1024 .bf16)
    (r j : Fin 1024) :
    k0_pay2 v9 v10 v12 v14 (ix2 r j)
      = Spec.ffnRow (n := 1408) (fun k => v9 (ix2 r k)) (fun f k => v10 (ix3 0 k f)) (fun f k => v12 (ix3 0 k f)) (fun f => v14 (ix3 0 f j)) := by
  pointwise [k0_pay2]
  rfl

/-- The row before the norm, from what the scratch keeps (`s`) and the second half of the hidden units. -/
def blockRow (s : Vec Ideal S1024x1024 .f32) (v10 : Vec Ideal S1024x1024 .bf16) (v11 v13 : Vec Ideal S1x1024x1408 .bf16)
    (v15 : Vec Ideal S1x1408x1024 .bf16) (v25 : Vec Ideal S1024x1024 .f32) (r j : Fin 1024) : EReal :=
  Ideal.ofBits .f32 1071072509#32 * v25 (ix2 r j)
    + (s (ix2 r j) + Spec.ffnRow (n := 1408) (fun k => v10 (ix2 r k)) (fun f k => v11 (ix3 0 k f)) (fun f k => v13 (ix3 0 k f)) (fun f => v15 (ix3 0 f j)))

theorem pay6_apply (s : Vec Ideal S1024x1024 .f32) (v10 : Vec Ideal S1024x1024 .bf16) (v11 v13 : Vec Ideal S1x1024x1408 .bf16)
    (v15 : Vec Ideal S1x1408x1024 .bf16) (v25 : Vec Ideal S1024x1024 .f32) (r j : Fin 1024) :
    k0_pay6 s v10 v11 v13 v15 v25 (ix2 r j)
      = blockRow s v10 v11 v13 v15 v25 r j - Spec.rowMean (blockRow s v10 v11 v13 v15 v25 r) := by
  pointwise [k0_pay6]
  rfl

theorem pay7_apply (s : Vec Ideal S1024x1024 .f32) (v10 : Vec Ideal S1024x1024 .bf16) (v11 v13 : Vec Ideal S1x1024x1408 .bf16)
    (v15 : Vec Ideal S1x1408x1024 .bf16) (v25 : Vec Ideal S1024x1024 .f32) (r : Fin 1024) :
    k0_pay7 s v10 v11 v13 v15 v25 (ix2 r 0)
      = ∑ k, k0_pay6 s v10 v11 v13 v15 v25 (ix2 r k) * k0_pay6 s v10 v11 v13 v15 v25 (ix2 r k) := by
  pointwise [k0_pay7]

theorem pay3_apply (v30 v32 : FVec Ideal S1x1024 .f32) (v38 : FVec Ideal S1024x1024 .f32) (v41 : FVec Ideal S1024x1 .f32)
    (w : Ideal .f32) (r j : Fin 1024) :
    k0_pay3 v30 v32 v38 v41 w (ix2 r j)
      = v38 (ix2 r j) * Ideal.rsqrt (Ideal.div (v41 (ix2 r 0)) w + Ideal.ofBits FTy.f32 925353388#32) * v30 (ix2 0 j) + v32 (ix2 0 j) := by
  pointwise [k0_pay3]

theorem pay4_eq (v : Vec Ideal S1x1024 .f32) (j : Fin 1024) : k0_pay4 v (ix2 0 j) = v (ix2 0 j) := by
  pointwise [k0_pay4]

theorem pay5_eq (v : Vec Ideal S1x1024 .f32) (j : Fin 1024) : k0_pay5 v (ix2 0 j) = v (ix2 0 j) := by
  pointwise [k0_pay5]

/-- What an even point leaves in the two scratches. -/
theorem scratch_even (c : Dev nD) (t : Fin cfg0.N) (h : t.val % 2 = 0) :
    (outsAt0 (F := Ideal) m c t.val t.isLt).2
      = (k0_pay2 (k0_pay1 (iblk m c 0 t)) (iblk m c 1 t) (iblk m c 2 t) (iblk m c 3 t), k0_pay1 (iblk m c 0 t)) := by
  rw [outsAt0_A m c t h h (by omega)]
  refine Prod.ext ?_ ?_
  · frame_out
  · frame_out

/-- What an odd point leaves in the output block. -/
theorem block_odd (c : Dev nD) (t : Fin cfg0.N) (h : t.val % 2 = 1) (r j : Fin 1024) (s : Vec Ideal S1024x1024 .f32) (xb : Vec Ideal S1024x1024 .bf16)
    (hs : (outsAt0 (F := Ideal) m c (t.val - 1) (Nat.lt_of_le_of_lt (Nat.sub_le _ _) t.isLt)).2 = (s, xb)) :
    (outsAt0 (F := Ideal) m c t.val t.isLt).1 (ix2 r j)
      = Spec.layerNorm (blockRow s xb (iblk m c 1 t) (iblk m c 2 t) (iblk m c 3 t) (iblk m c 0 t) r)
          (iblk m c 4 t (ix2 0 j)) (iblk m c 5 t (ix2 0 j)) j := by
  rw [outsAt0_B m c t (by omega) (by omega) h]
  dsimp only
  rw [hs]
  frame_out
  simp only [read_unread_whole]
  rw [pay3_apply, pay7_apply, pay4_eq, pay5_eq]
  simp only [pay6_apply]
  rfl

/-- The blocks' places in the arrays. -/
theorem idx : ∀ t : Fin cfg0.N, win0_0.index t = ![t.val / 2, 0] ∧ win0_1.index t = ![0, 0, t.val % 2]
    ∧ win0_2.index t = ![0, 0, 2 + t.val % 2] ∧ win0_3.index t = ![0, t.val % 2, 0] ∧ win0_4.index t = ![0, 0] ∧ win0_5.index t = ![0, 0] :=
  (by decide +kernel : ∀ t : Fin grid0.N, _)

theorem x_block (c : Dev nD) (t : Fin cfg0.N) (r k : Fin 1024) (h : 1024 * (t.val / 2) + r.val < 32768) :
    iblk m c 0 t (ix2 r k) = m ((c : Thread nD τ).loc main_arg0) (ix2 ⟨1024 * (t.val / 2) + r.val, h⟩ k) := by
  blk_ext [iblk, V, idx t]

theorem gate_block (c : Dev nD) (t : Fin cfg0.N) (k : Fin 1024) (f : Fin 1408) (h : 1408 * (t.val % 2) + f.val < 5632) :
    iblk m c 1 t (ix3 0 k f) = m ((c : Thread nD τ).loc main_arg1) (ix3 0 k ⟨1408 * (t.val % 2) + f.val, h⟩) := by
  blk_ext! [iblk, V, idx t]

theorem up_block (c : Dev nD) (t : Fin cfg0.N) (k : Fin 1024) (f : Fin 1408) (h : 2816 + (1408 * (t.val % 2) + f.val) < 5632) :
    iblk m c 2 t (ix3 0 k f) = m ((c : Thread nD τ).loc main_arg1) (ix3 0 k ⟨2816 + (1408 * (t.val % 2) + f.val), h⟩) := by
  blk_ext! [iblk, V, idx t]

theorem down_block (c : Dev nD) (t : Fin cfg0.N) (f : Fin 1408) (j : Fin 1024) (h : 1408 * (t.val % 2) + f.val < 2816) :
    iblk m c 3 t (ix3 0 f j) = m ((c : Thread nD τ).loc main_arg2) (ix3 0 ⟨1408 * (t.val % 2) + f.val, h⟩ j) := by
  blk_ext! [iblk, V, idx t]

theorem g_block (c : Dev nD) (t : Fin cfg0.N) (j : Fin 1024) :
    iblk m c 4 t (ix2 0 j) = m ((c : Thread nD τ).loc main_arg3) (ix1 j) := by
  blk_ext! [iblk, V, idx t]

theorem b_block (c : Dev nD) (t : Fin cfg0.N) (j : Fin 1024) :
    iblk m c 5 t (ix2 0 j) = m ((c : Thread nD τ).loc main_arg4) (ix1 j) := by
  blk_ext! [iblk, V, idx t]

/-- The row before the norm, from the argument arrays: the same arithmetic as the reference's row. -/
def row (x : FVec Ideal S32768x1024 .f32) (w : FVec Ideal S2x1024x5632 .f32) (d : FVec Ideal S2x2816x1024 .f32)
    (r : Fin 32768) (j : Fin 1024) : EReal :=
  Ideal.ofBits .f32 1071072509#32 * x (ix2 r j)
    + Spec.ffnRow (fun k => x (ix2 r k)) (fun (f : Fin 2816) k => w (ix3 0 k ⟨f.val, by omega⟩))
        (fun f k => w (ix3 0 k ⟨2816 + f.val, by omega⟩)) (fun f => d (ix3 0 f j))

/-- The row that an odd point `t` normalizes, its first half kept by the point `p` before it, is the array's row. -/
theorem row_eq (c : Dev nD) (p t : Fin cfg0.N) (hp : p.val % 2 = 0) (h : t.val % 2 = 1) (hpt : p.val / 2 = t.val / 2) (r j : Fin 1024)
    (hr : 1024 * (t.val / 2) + r.val < 32768) :
    blockRow (k0_pay2 (k0_pay1 (iblk m c 0 p)) (iblk m c 1 p) (iblk m c 2 p) (iblk m c 3 p)) (k0_pay1 (iblk m c 0 p))
        (iblk m c 1 t) (iblk m c 2 t) (iblk m c 3 t) (iblk m c 0 t) r j
      = row (m ((c : Thread nD τ).loc main_arg0)) (m ((c : Thread nD τ).loc main_arg1)) (m ((c : Thread nD τ).loc main_arg2))
            ⟨1024 * (t.val / 2) + r.val, hr⟩ j := by
  have hx : ∀ k : Fin 1024, k0_pay1 (iblk m c 0 p) (ix2 r k)
      = m ((c : Thread nD τ).loc main_arg0) (ix2 ⟨1024 * (t.val / 2) + r.val, hr⟩ k) := fun k => by
    rw [pay1_apply, x_block m c p r k (by omega)]
    simp only [hpt]
  have g0 : ∀ (k : Fin 1024) (f : Fin 1408), iblk m c 1 p (ix3 0 k f) = m ((c : Thread nD τ).loc main_arg1) (ix3 0 k ⟨f.val, by omega⟩) := fun k f => by
    rw [gate_block m c p k f (by omega)]
    simp only [hp, Nat.mul_zero, Nat.zero_add]
  have u0 : ∀ (k : Fin 1024) (f : Fin 1408), iblk m c 2 p (ix3 0 k f) = m ((c : Thread nD τ).loc main_arg1) (ix3 0 k ⟨2816 + f.val, by omega⟩) := fun k f => by
    rw [up_block m c p k f (by omega)]
    simp only [hp, Nat.mul_zero, Nat.zero_add]
  have d0 : ∀ (f : Fin 1408), iblk m c 3 p (ix3 0 f j) = m ((c : Thread nD τ).loc main_arg2) (ix3 0 ⟨f.val, by omega⟩ j) := fun f => by
    rw [down_block m c p f j (by omega)]
    simp only [hp, Nat.mul_zero, Nat.zero_add]
  have g1 : ∀ (k : Fin 1024) (f : Fin 1408), iblk m c 1 t (ix3 0 k f) = m ((c : Thread nD τ).loc main_arg1) (ix3 0 k ⟨1408 + f.val, by omega⟩) := fun k f => by
    rw [gate_block m c t k f (by omega)]
    simp only [h, Nat.mul_one]
  have u1 : ∀ (k : Fin 1024) (f : Fin 1408), iblk m c 2 t (ix3 0 k f) = m ((c : Thread nD τ).loc main_arg1) (ix3 0 k ⟨2816 + (1408 + f.val), by omega⟩) := fun k f => by
    rw [up_block m c t k f (by omega)]
    simp only [h, Nat.mul_one]
  have d1 : ∀ (f : Fin 1408), iblk m c 3 t (ix3 0 f j) = m ((c : Thread nD τ).loc main_arg2) (ix3 0 ⟨1408 + f.val, by omega⟩ j) := fun f => by
    rw [down_block m c t f j (by omega)]
    simp only [h, Nat.mul_one]
  unfold blockRow row
  rw [pay2_apply, x_block m c t r j hr, Spec.ffnRow_halves]
  simp only [hx, g0, u0, d0, g1, u1, d1]

/-- An odd point's output block at an entry: the layer norm of the row that sits there. -/
theorem block_eq (c : Dev nD) (t : Fin cfg0.N) (h : t.val % 2 = 1) (r j : Fin 1024) (hr : 1024 * (t.val / 2) + r.val < 32768) :
    (outsAt0 (F := Ideal) m c t.val t.isLt).1 (ix2 r j)
      = Spec.layerNorm (row (m ((c : Thread nD τ).loc main_arg0)) (m ((c : Thread nD τ).loc main_arg1)) (m ((c : Thread nD τ).loc main_arg2))
            ⟨1024 * (t.val / 2) + r.val, hr⟩)
          (m ((c : Thread nD τ).loc main_arg3) (ix1 j)) (m ((c : Thread nD τ).loc main_arg4) (ix1 j)) j := by
  have hp : t.val - 1 < cfg0.N := Nat.lt_of_le_of_lt (Nat.sub_le _ _) t.isLt
  have hm : (t.val - 1) % 2 = 0 := by omega
  have hd : (t.val - 1) / 2 = t.val / 2 := by omega
  rw [block_odd m c t h r j _ _ (scratch_even m c ⟨t.val - 1, hp⟩ hm), g_block, b_block,
    funext fun j' => row_eq m c ⟨t.val - 1, hp⟩ t hm h hd r j' hr]

theorem result (c : Dev nD) (r : Fin 32768) (j : Fin 1024) :
    Value.G6 m c (ix2 r j)
      = Spec.layerNorm (row (m ((c : Thread nD τ).loc main_arg0)) (m ((c : Thread nD τ).loc main_arg1)) (m ((c : Thread nD τ).loc main_arg2)) r)
          (m ((c : Thread nD τ).loc main_arg3) (ix1 j)) (m ((c : Thread nD τ).loc main_arg4) (ix1 j)) j := by
  have hr := r.isLt
  have hj := j.isLt
  have hN : cfg0.N = 64 := N_0
  have e : Value.pt6Of (ix2 r j) = 2 * (r.val / 1024) + 1 := by
    show 2 * (1 * (r.val / 1024 - 0) + 1 * (j.val / 1024 - 0)) + 1 = _
    omega
  have hlt : 2 * (r.val / 1024) + 1 < cfg0.N := by omega
  have e' : Value.loc6Of (ix2 r j) = ix2 ⟨r.val % 1024, Nat.mod_lt _ (by decide)⟩ j := by
    funext a; apply Fin.ext
    match a with
    | ⟨0, _⟩ => rfl
    | ⟨1, _⟩ => exact Nat.mod_eq_of_lt hj
  unfold Value.G6
  rw [dif_pos (by omega), ← Value.outsAt0_sweep m c (Value.pt6Of (ix2 r j)) (by omega), e']
  simp only [e]
  have hb := block_eq m c ⟨2 * (r.val / 1024) + 1, hlt⟩ (by dsimp only; omega) ⟨r.val % 1024, Nat.mod_lt _ (by decide)⟩ j (by dsimp only; omega)
  refine hb.trans ?_
  congr 2
  apply Fin.ext
  dsimp only
  omega

end Cert.Ffn

end
-- ==== Proof.OutRef.lean ====
/- The mixers' output reference at an index, as the row functions of Spec.lean. -/
module

public import proofs.«01_k».proof.Proof.Gen.Reference4Ideal.Run
public import proofs.«01_k».proof.Proof.Spec

@[expose] public section

set_option maxRecDepth 16384

noncomputable section

namespace Cert.Out

open Cert.Reference4Ideal Cert.Reference4Ideal.Gen Idealize.ShloMosaic Idealize.ShloMosaic.TcCoe Idealize.SL.Sem

/-- The row the layer norm is taken of, from the argument arrays: the joined mixers' outputs through the weights, the
    sum over the joined axis in its two parts. -/
def refRow (x : FVec Ideal S4x8192x1024 .f32) (main : FVec Ideal S4x8192x768 .f32) (mem : FVec Ideal S4x8192x256 .f32)
    (w : FVec Ideal S1024x1024 .f32) (b : Fin 4) (r : Fin 8192) (j : Fin 1024) : EReal :=
  Ideal.ofBits .f32 1071072509#32 * x (ix3 b r j)
    + ((∑ e : Fin 768, main (ix3 b r e) * w (ix2 ⟨e.val, by omega⟩ j)) + ∑ e : Fin 256, mem (ix3 b r e) * w (ix2 ⟨768 + e.val, by omega⟩ j))

theorem ref_apply (m : (ℓ : Loc nD τ sig) → Buf (Elt Ideal) ℓ) (c : Dev nD) (b : Fin 4) (r : Fin 8192) (j : Fin 1024) :
    Value.res_main_v28 m c (ix3 b r j)
      = Spec.layerNorm (refRow (m (c.tc.loc main_arg0)) (m (c.tc.loc main_arg1)) (m (c.tc.loc main_arg2)) (m (c.tc.loc main_arg3)) b r)
          (m (c.tc.loc main_arg4) (ix1 j)) (m (c.tc.loc main_arg5) (ix1 j)) j := by
  pointwise [Value.res_main_v28]
  rfl

end Cert.Out

end
-- ==== Proof.OutValue.lean ====
/- What the mixers' output kernel leaves: each point takes the layer norm of its 1024 rows, the two mixers' outputs going
   through the weights' first 768 and last 256 rows. -/
module

public import proofs.«01_k».proof.Proof.Gen.Kernel4Ideal.Value
public import Idealize.ShloMosaic.Lib.Pipeline.ValueKit
public import Idealize.ShloMosaic.Lib.Pipeline.ReadBack
public import proofs.«01_k».proof.Proof.Spec

@[expose] public section

set_option maxRecDepth 16384

noncomputable section

namespace Cert.Out

open Cert.Kernel4Ideal Cert.Kernel4Ideal.Gen Idealize.ShloMosaic Idealize.ShloMosaic.TcCoe Idealize.SL.Sem

/-- The row before the norm, from a point's blocks; the weights in their two parts. -/
def blockRow (v0 : Vec Ideal S1x1024x768 .bf16) (v2 : Vec Ideal S768x1024 .bf16) (v5 : Vec Ideal S1x1024x256 .bf16)
    (v7 : Vec Ideal S256x1024 .bf16) (v11 : Vec Ideal S1x1024x1024 .f32) (r j : Fin 1024) : EReal :=
  Ideal.ofBits .f32 1071072509#32 * v11 (ix3 0 r j)
    + ((∑ e : Fin 768, v0 (ix3 0 r e) * v2 (ix2 e j)) + ∑ e : Fin 256, v5 (ix3 0 r e) * v7 (ix2 e j))

theorem pay4_apply (v0 : Vec Ideal S1x1024x768 .bf16) (v2 : Vec Ideal S768x1024 .bf16) (v5 : Vec Ideal S1x1024x256 .bf16)
    (v7 : Vec Ideal S256x1024 .bf16) (v11 : Vec Ideal S1x1024x1024 .f32) (r j : Fin 1024) :
    k0_pay4 v0 v2 v5 v7 v11 (ix2 r j) = blockRow v0 v2 v5 v7 v11 r j - Spec.rowMean (blockRow v0 v2 v5 v7 v11 r) := by
  pointwise [k0_pay4]
  rfl

theorem pay5_apply (v0 : Vec Ideal S1x1024x768 .bf16) (v2 : Vec Ideal S768x1024 .bf16) (v5 : Vec Ideal S1x1024x256 .bf16)
    (v7 : Vec Ideal S256x1024 .bf16) (v11 : Vec Ideal S1x1024x1024 .f32) (r : Fin 1024) :
    k0_pay5 v0 v2 v5 v7 v11 (ix2 r 0)
      = Ideal.div (∑ k, k0_pay4 v0 v2 v5 v7 v11 (ix2 r k) * k0_pay4 v0 v2 v5 v7 v11 (ix2 r k)) (Ideal.ofBits .f32 1149239296#32)
        + Ideal.ofBits .f32 925353388#32 := by
  pointwise [k0_pay5]

theorem pay1_apply (v17 v19 : FVec Ideal S1x1024 .f32) (v25 : FVec Ideal S1024x1024 .f32) (v32 : FVec Ideal S1024x1 .f32) (r j : Fin 1024) :
    k0_pay1 v17 v19 v25 v32 (ix3 0 r j) = v25 (ix2 r j) * Ideal.rsqrt (v32 (ix2 r 0)) * v17 (ix2 0 j) + v19 (ix2 0 j) := by
  pointwise [k0_pay1]

theorem pay2_eq (v : Vec Ideal S1x1024 .f32) (j : Fin 1024) : k0_pay2 v (ix2 0 j) = v (ix2 0 j) := by
  pointwise [k0_pay2]

theorem pay3_eq (v : Vec Ideal S1x1024 .f32) (j : Fin 1024) : k0_pay3 v (ix2 0 j) = v (ix2 0 j) := by
  pointwise [k0_pay3]

/-- What a point leaves in its output block, at an entry. -/
theorem out_apply (x0 : Vec Ideal S1x1024x1024 .f32) (x1 : Vec Ideal S1x1024x768 .bf16) (x2 : Vec Ideal S1x1024x256 .bf16)
    (x3 : Vec Ideal S1024x1024 .bf16) (x4 x5 : Vec Ideal S1x1024 .f32) (r j : Fin 1024) :
    out0_6 x0 x1 x2 x3 x4 x5 (ix3 0 r j)
      = Spec.layerNorm (blockRow x1 (View.ld x3 r0_1) x2 (View.ld x3 r0_3) x0 r) (x4 (ix2 0 j)) (x5 (ix2 0 j)) j := by
  unfold out0_6
  frame_out
  rw [pay1_apply, pay5_apply, pay2_eq, pay3_eq]
  simp only [pay4_apply]
  rfl

/-- The weights' two parts at an entry. -/
theorem upper (x3 : Vec Ideal S1024x1024 .bf16) (e : Fin 768) (j : Fin 1024) :
    View.ld x3 r0_1 (ix2 e j) = x3 (ix2 ⟨e.val, by omega⟩ j) := by
  refine congrArg x3 (funext fun a => Fin.ext ?_)
  match a with
  | ⟨0, _⟩ => show 0 + 1 * e.val = e.val; omega
  | ⟨1, _⟩ => show 0 + 1 * j.val = j.val; omega

theorem lower (x3 : Vec Ideal S1024x1024 .bf16) (e : Fin 256) (j : Fin 1024) :
    View.ld x3 r0_3 (ix2 e j) = x3 (ix2 ⟨768 + e.val, by omega⟩ j) := by
  refine congrArg x3 (funext fun a => Fin.ext ?_)
  match a with
  | ⟨0, _⟩ => show 768 + 1 * e.val = 768 + e.val; omega
  | ⟨1, _⟩ => show 0 + 1 * j.val = j.val; omega

variable (m : (ℓ : Loc nD τ sig) → Buf (Elt Ideal) ℓ)

/-- The blocks' places in the arrays. -/
theorem idx : ∀ t : Fin cfg0.N, win0_0.index t = ![t.val / 8, t.val % 8, 0] ∧ win0_1.index t = ![t.val / 8, t.val % 8, 0]
    ∧ win0_2.index t = ![t.val / 8, t.val % 8, 0] ∧ win0_3.index t = ![0, 0] ∧ win0_4.index t = ![0, 0] ∧ win0_5.index t = ![0, 0]
    ∧ win0_6.index t = ![t.val / 8, t.val % 8, 0] :=
  (by decide +kernel : ∀ t : Fin grid0.N, _)

theorem x_block (c : Dev nD) (t : Fin cfg0.N) (r j : Fin 1024) (h : t.val / 8 < 4) (h' : 1024 * (t.val % 8) + r.val < 8192) :
    iblk m c 0 t (ix3 0 r j) = m ((c : Thread nD τ).loc main_arg0) (ix3 ⟨t.val / 8, h⟩ ⟨1024 * (t.val % 8) + r.val, h'⟩ j) := by
  blk_ext [iblk, V, idx t]

theorem main_block (c : Dev nD) (t : Fin cfg0.N) (r : Fin 1024) (e : Fin 768) (h : t.val / 8 < 4) (h' : 1024 * (t.val % 8) + r.val < 8192) :
    iblk m c 1 t (ix3 0 r e) = m ((c : Thread nD τ).loc main_arg1) (ix3 ⟨t.val / 8, h⟩ ⟨1024 * (t.val % 8) + r.val, h'⟩ e) := by
  blk_ext! [iblk, V, idx t]

theorem mem_block (c : Dev nD) (t : Fin cfg0.N) (r : Fin 1024) (e : Fin 256) (h : t.val / 8 < 4) (h' : 1024 * (t.val % 8) + r.val < 8192) :
    iblk m c 2 t (ix3 0 r e) = m ((c : Thread nD τ).loc main_arg2) (ix3 ⟨t.val / 8, h⟩ ⟨1024 * (t.val % 8) + r.val, h'⟩ e) := by
  blk_ext! [iblk, V, idx t]

theorem w_block (c : Dev nD) (t : Fin cfg0.N) (e j : Fin 1024) :
    iblk m c 3 t (ix2 e j) = m ((c : Thread nD τ).loc main_arg3) (ix2 e j) := by
  blk_ext! [iblk, V, idx t]

theorem g_block (c : Dev nD) (t : Fin cfg0.N) (j : Fin 1024) :
    iblk m c 4 t (ix2 0 j) = m ((c : Thread nD τ).loc main_arg4) (ix1 j) := by
  blk_ext! [iblk, V, idx t]

theorem b_block (c : Dev nD) (t : Fin cfg0.N) (j : Fin 1024) :
    iblk m c 5 t (ix2 0 j) = m ((c : Thread nD τ).loc main_arg5) (ix1 j) := by
  blk_ext! [iblk, V, idx t]

/-- The row before the norm, from the argument arrays. -/
def row (x : FVec Ideal S4x8192x1024 .f32) (main : FVec Ideal S4x8192x768 .f32) (mem : FVec Ideal S4x8192x256 .f32)
    (w : FVec Ideal S1024x1024 .f32) (b : Fin 4) (r : Fin 8192) (j : Fin 1024) : EReal :=
  Ideal.ofBits .f32 1071072509#32 * x (ix3 b r j)
    + ((∑ e : Fin 768, main (ix3 b r e) * w (ix2 ⟨e.val, by omega⟩ j)) + ∑ e : Fin 256, mem (ix3 b r e) * w (ix2 ⟨768 + e.val, by omega⟩ j))

/-- The whole result at an entry. -/
def result (c : Dev nD) : FVec Ideal S4x8192x1024 .f32 := fun i =>
  Spec.layerNorm (row (m ((c : Thread nD τ).loc main_arg0)) (m ((c : Thread nD τ).loc main_arg1)) (m ((c : Thread nD τ).loc main_arg2))
      (m ((c : Thread nD τ).loc main_arg3)) (i 0) (i 1))
    (m ((c : Thread nD τ).loc main_arg4) (ix1 (i 2))) (m ((c : Thread nD τ).loc main_arg5) (ix1 (i 2))) (i 2)

/-- A point's arithmetic, given what its blocks hold. -/
theorem out_of_blocks (c : Dev nD) (b : Fin 4) (s : Fin 8192) (r j : Fin 1024) (x0 : Vec Ideal S1x1024x1024 .f32) (x1 : Vec Ideal S1x1024x768 .bf16)
    (x2 : Vec Ideal S1x1024x256 .bf16) (x3 : Vec Ideal S1024x1024 .bf16) (x4 x5 : Vec Ideal S1x1024 .f32)
    (h0 : ∀ k : Fin 1024, x0 (ix3 0 r k) = m ((c : Thread nD τ).loc main_arg0) (ix3 b s k))
    (h1 : ∀ e : Fin 768, x1 (ix3 0 r e) = m ((c : Thread nD τ).loc main_arg1) (ix3 b s e))
    (h2 : ∀ e : Fin 256, x2 (ix3 0 r e) = m ((c : Thread nD τ).loc main_arg2) (ix3 b s e))
    (h3 : ∀ e k : Fin 1024, x3 (ix2 e k) = m ((c : Thread nD τ).loc main_arg3) (ix2 e k))
    (h4 : x4 (ix2 0 j) = m ((c : Thread nD τ).loc main_arg4) (ix1 j)) (h5 : x5 (ix2 0 j) = m ((c : Thread nD τ).loc main_arg5) (ix1 j)) :
    out0_6 x0 x1 x2 x3 x4 x5 (ix3 0 r j) = result m c (ix3 b s j) := by
  refine (out_apply _ _ _ _ _ _ r j).trans ?_
  have e : blockRow x1 (View.ld x3 r0_1) x2 (View.ld x3 r0_3) x0 r
      = row (m ((c : Thread nD τ).loc main_arg0)) (m ((c : Thread nD τ).loc main_arg1)) (m ((c : Thread nD τ).loc main_arg2))
          (m ((c : Thread nD τ).loc main_arg3)) b s := by
    funext k
    unfold blockRow row
    refine congrArg₂ (· + ·) (congrArg _ (h0 k)) (congrArg₂ (· + ·) (Finset.sum_congr rfl fun e _ => ?_) (Finset.sum_congr rfl fun e _ => ?_))
    · exact congrArg₂ (· * ·) (h1 e) ((upper x3 e k).trans (h3 _ k))
    · exact congrArg₂ (· * ·) (h2 e) ((lower x3 e k).trans (h3 _ k))
  rw [e, h4, h5]
  rfl

theorem block_eq (c : Dev nD) (t : Fin cfg0.N) (r j : Fin 1024) (h : t.val / 8 < 4) (h' : 1024 * (t.val % 8) + r.val < 8192) :
    out0_6 (iblk m c 0 t) (iblk m c 1 t) (iblk m c 2 t) (iblk m c 3 t) (iblk m c 4 t) (iblk m c 5 t) (ix3 0 r j)
      = result m c (ix3 ⟨t.val / 8, h⟩ ⟨1024 * (t.val % 8) + r.val, h'⟩ j) :=
  out_of_blocks m c _ _ r j _ _ _ _ _ _ (fun k => x_block m c t r k h h') (fun e => main_block m c t r e h h') (fun e => mem_block m c t r e h h')
    (w_block m c t) (g_block m c t j) (b_block m c t j)

/-- Where a point's output block sits in the result. -/
theorem place (t : Fin cfg0.N) (r j : Fin 1024) (h : t.val / 8 < 4) (h' : 1024 * (t.val % 8) + r.val < 8192) :
    (win0_6.blk t).view.emb (ix3 0 r j : S1x1024x1024.Idx) = (ix3 ⟨t.val / 8, h⟩ ⟨1024 * (t.val % 8) + r.val, h'⟩ j : S4x8192x1024.Idx) := by
  obtain ⟨-, -, -, -, -, -, e⟩ := idx t
  funext a
  apply Fin.ext
  match a with
  | ⟨0, _⟩ =>
    show win0_6.index t 0 * 1 + 1 * 0 = t.val / 8
    rw [e]
    show t.val / 8 * 1 + 1 * 0 = t.val / 8
    omega
  | ⟨1, _⟩ =>
    show win0_6.index t 1 * 1024 + 1 * r.val = 1024 * (t.val % 8) + r.val
    rw [e]
    show t.val % 8 * 1024 + 1 * r.val = 1024 * (t.val % 8) + r.val
    omega
  | ⟨2, _⟩ =>
    show win0_6.index t 2 * 1024 + 1 * j.val = j.val
    rw [e]
    show 0 * 1024 + 1 * j.val = j.val
    omega

/-- What the kernel's result array ends holding. -/
theorem final (c : Dev nD) : (dats m 0 c).arrAt 6 cfg0.N = result m c := by
  refine (dats m 0 c).arrAt_eq_of_covers 6 (result m c) (by decide +kernel) fun t hf y => ?_
  have hN : cfg0.N = 32 := N_0
  have ht : t.val < cfg0.N := t.isLt
  blk_simp
  rw [after0_6]
  obtain ⟨r, j, rfl⟩ : ∃ r j : Fin 1024, y = (ix3 0 r j : S1x1024x1024.Idx) := ⟨y 1, y 2, by
    refine (eq_ix3 y).trans (congrArg (fun a => ix3 a (y 1) (y 2)) (Subsingleton.elim (α := Fin 1) _ _))⟩
  rw [place t r j (by omega) (by omega)]
  exact block_eq m c t r j (by omega) (by omega)

end Cert.Out

end
-- ==== Proof.KvSpec.lean ====
/- The shared keys and values as functions of the argument arrays. -/
module

public import proofs.«01_k».proof.Kernel5Ideal
public import proofs.«01_k».proof.Proof.Spec

@[expose] public section

set_option maxRecDepth 16384

noncomputable section

namespace Cert.Kv

open Cert.Kernel5Ideal Idealize.ShloMosaic

/-- A row of the layer's input through a column of the weights. -/
def lane (x : FVec Ideal S4x8192x1024 .f32) (w : FVec Ideal S1024x1536 .f32) (b : Fin 4) (s : Fin 8192) (e : Fin 1536) : EReal :=
  ∑ k : Fin 1024, x (ix3 b s k) * w (ix2 k e)

/-- The rotary frequencies: the base to the power of minus twice the lane over 16. -/
def freq (i : ℕ) : EReal :=
  Ideal.pow (Ideal.ofBits .f32 1223959552#32)
    (Ideal.div (-(Ideal.ofBits .f32 1073741824#32 * FloatOps.sitofp (F := Ideal) .f32 (BitVec.ofNat 32 i))) (Ideal.ofBits .f32 1098907648#32))

/-- A position's angle at a rotary lane. -/
def angle (p : IVec S4x8192 32) (b : Fin 4) (s : Fin 8192) (i : ℕ) : EReal :=
  FloatOps.sitofp (F := Ideal) .f32 (p (ix2 b s)) * freq i

/-- A row's keys after the rotary embedding, at a head and a dimension: the head's first 16 dimensions turn in pairs 8 apart. -/
def rotated (x : FVec Ideal S4x8192x1024 .f32) (p : IVec S4x8192 32) (w : FVec Ideal S1024x1536 .f32) (b : Fin 4) (s : Fin 8192)
    (g : Fin 12) (d : Fin 64) : EReal :=
  if h : d.val < 16 then
    if h' : d.val < 8 then
      lane x w b s ⟨g.val * 64 + d.val, by omega⟩ * Ideal.cos (angle p b s d.val)
        - lane x w b s ⟨g.val * 64 + (8 + d.val), by omega⟩ * Ideal.sin (angle p b s d.val)
    else
      lane x w b s ⟨g.val * 64 + d.val, by omega⟩ * Ideal.cos (angle p b s (d.val - 8))
        + lane x w b s ⟨g.val * 64 + (d.val - 8), by omega⟩ * Ideal.sin (angle p b s (d.val - 8))
  else lane x w b s ⟨g.val * 64 + d.val, by omega⟩

theorem lane_congr (x : FVec Ideal S4x8192x1024 .f32) (w : FVec Ideal S1024x1536 .f32) (b : Fin 4) (s : Fin 8192) {e e' : Fin 1536}
    (h : e.val = e'.val) : lane x w b s e = lane x w b s e' := by rw [Fin.ext h]

end Cert.Kv

end
-- ==== Proof.KvRef.lean ====
/- The shared keys' and values' reference at an index. -/
module

public import proofs.«01_k».proof.Proof.Gen.Reference5Ideal.Run
public import proofs.«01_k».proof.Proof.KvSpec

@[expose] public section

set_option maxRecDepth 16384

noncomputable section

namespace Cert.Kv

open Cert.Reference5Ideal Cert.Reference5Ideal.Gen Idealize.ShloMosaic Idealize.ShloMosaic.TcCoe Idealize.SL.Sem

/-- The keys by head before the turn. -/
def headsOf (x : FVec Ideal S4x8192x1024 .f32) (w : FVec Ideal S1024x1536 .f32) : FVec Ideal S4x8192x12x64 .f32 :=
  shapeCast _ (extractStridedSlice S4x8192x768 ![0, 0, 0] (Host.dotGeneral dot_S4x8192x1024_S1024x1536_S4x8192x1536_2_0_01_1_n_n none x w)
    slices_S4x8192x1536_S4x8192x768_0_0_0) shapeCasts_S4x8192x768_S4x8192x12x64

/-- The angles. -/
def anglesOf (p : IVec S4x8192 32) : FVec Ideal S4x8192x8 .f32 :=
  mulf (broadcastInDim S4x8192x8 ![0, 1, 2] bcast_S4x8192x1_S4x8192x8_0_1_2 (broadcastInDim S4x8192x1 ![0, 1] bcast_S4x8192_S4x8192x1_0_1 (sitofp .f32 p)))
    (broadcastInDim S4x8192x8 ![0, 1, 2] bcast_S1x1x8_S4x8192x8_0_1_2 (broadcastInDim S1x1x8 ![2] bcast_S8_S1x1x8_2
      (Host.powf (broadcastInDim S8 ![] bcast_S_S8 (constant S_ .f32 0x48F42400#32))
        (Host.divf (Host.negf (addf (broadcastInDim S8 ![] bcast_S_S8 (constant S_ .f32 0x00000000#32))
            (mulf (broadcastInDim S8 ![] bcast_S_S8 (constant S_ .f32 0x40000000#32)) (sitofp .f32 (iotaInDim S8 32 0)))))
          (broadcastInDim S8 ![] bcast_S_S8 (constant S_ .f32 0x41800000#32))))))

/-- A table by row and rotary lane for every head. -/
def perHead (a : FVec Ideal S4x8192x8 .f32) : FVec Ideal S4x8192x12x8 .f32 :=
  broadcastInDim S4x8192x12x8 ![0, 1, 2, 3] bcast_S4x8192x1x8_S4x8192x12x8_0_1_2_3 (broadcastInDim S4x8192x1x8 ![0, 1, 3] bcast_S4x8192x8_S4x8192x1x8_0_1_3 a)

/-- The turned keys by head. -/
def turnOf (t : FVec Ideal S4x8192x12x64 .f32) (co si : FVec Ideal S4x8192x12x8 .f32) : FVec Ideal S4x8192x12x64 .f32 :=
  Value.fn_main_v37 (Value.fn_main_v35
      (subf (mulf (extractStridedSlice S4x8192x12x8 ![0, 0, 0, 0] t slices_S4x8192x12x64_S4x8192x12x8_0_0_0_0) co)
        (mulf (extractStridedSlice S4x8192x12x8 ![0, 0, 0, 8] t slices_S4x8192x12x64_S4x8192x12x8_0_0_0_8) si))
      (addf (mulf (extractStridedSlice S4x8192x12x8 ![0, 0, 0, 8] t slices_S4x8192x12x64_S4x8192x12x8_0_0_0_8) co)
        (mulf (extractStridedSlice S4x8192x12x8 ![0, 0, 0, 0] t slices_S4x8192x12x64_S4x8192x12x8_0_0_0_0) si)))
    (extractStridedSlice S4x8192x12x48 ![0, 0, 0, 16] t slices_S4x8192x12x64_S4x8192x12x48_0_0_0_16)

/-- Rows by head to blocks of rows by head. -/
def blocksOf (t : FVec Ideal S4x8192x12x64 .f32) : FVec Ideal S4x12x32x256x64 .f32 :=
  transpose S4x12x32x256x64 [0, 3, 1, 2, 4] (shapeCast _ t shapeCasts_S4x8192x12x64_S4x32x256x12x64) transposes_S4x32x256x12x64_S4x12x32x256x64_0_3_1_2_4

theorem heads_apply (x : FVec Ideal S4x8192x1024 .f32) (w : FVec Ideal S1024x1536 .f32) (b : Fin 4) (s : Fin 8192) (g : Fin 12) (d : Fin 64) :
    headsOf x w (ix4 b s g d) = lane x w b s ⟨g.val * 64 + d.val, by omega⟩ := by
  pointwise [headsOf]
  rfl

theorem angles_apply (p : IVec S4x8192 32) (b : Fin 4) (s : Fin 8192) (i : Fin 8) : anglesOf p (ix3 b s i) = angle p b s i.val := by
  pointwise [anglesOf]
  rfl

theorem cos_apply (a : FVec Ideal S4x8192x8 .f32) (b : Fin 4) (s : Fin 8192) (g : Fin 12) (i : Fin 8) :
    perHead (Host.cos a) (ix4 b s g i) = Ideal.cos (a (ix3 b s i)) := by
  pointwise [perHead]

theorem sin_apply (a : FVec Ideal S4x8192x8 .f32) (b : Fin 4) (s : Fin 8192) (g : Fin 12) (i : Fin 8) :
    perHead (Host.sin a) (ix4 b s g i) = Ideal.sin (a (ix3 b s i)) := by
  pointwise [perHead]

theorem blocks_apply (t : FVec Ideal S4x8192x12x64 .f32) (b : Fin 4) (g : Fin 12) (k : Fin 32) (r : Fin 256) (d : Fin 64) :
    blocksOf t (ix5 b g k r d) = t (ix4 b ⟨k.val * 256 + r.val, by omega⟩ g d) := by
  pointwise [blocksOf]

theorem turn_apply (t : FVec Ideal S4x8192x12x64 .f32) (co si : FVec Ideal S4x8192x12x8 .f32) (b : Fin 4) (s : Fin 8192) (g : Fin 12) (d : Fin 64) :
    turnOf t co si (ix4 b s g d)
      = if h : d.val < 16 then
          if h' : d.val < 8 then
            t (ix4 b s g d) * co (ix4 b s g ⟨d.val, h'⟩) - t (ix4 b s g ⟨8 + d.val, by omega⟩) * si (ix4 b s g ⟨d.val, h'⟩)
          else t (ix4 b s g d) * co (ix4 b s g ⟨d.val - 8, by omega⟩) + t (ix4 b s g ⟨d.val - 8, by omega⟩) * si (ix4 b s g ⟨d.val - 8, by omega⟩)
        else t (ix4 b s g d) := by
  pointwise [turnOf, Value.fn_main_v37, Value.fn_main_v35]
  by_cases h : d.val < 16
  · rw [dif_pos h, dif_pos h]
    by_cases h' : d.val < 8
    · rw [dif_pos h', dif_pos h']
    · rw [dif_neg h', dif_neg h']
      refine congrArg₂ (· + ·) (congrArg₂ (· * ·) (congrArg t ?_) rfl) rfl
      exact congrArg (ix4 b s g) (Fin.ext (by dsimp only; omega))
  · rw [dif_neg h, dif_neg h]
    refine congrArg t (congrArg (ix4 b s g) (Fin.ext (by dsimp only; omega)))

theorem kref_eq (m : (ℓ : Loc nD τ sig) → Buf (Elt Ideal) ℓ) (c : Dev nD) :
    Value.res_main_v41 m c = blocksOf (turnOf (headsOf (m (c.tc.loc main_arg0)) (m (c.tc.loc main_arg2)))
      (perHead (Host.cos (anglesOf (m (c.tc.loc main_arg1))))) (perHead (Host.sin (anglesOf (m (c.tc.loc main_arg1)))))) := rfl

/-- The reference's keys. -/
theorem kref_apply (m : (ℓ : Loc nD τ sig) → Buf (Elt Ideal) ℓ) (c : Dev nD) (b : Fin 4) (g : Fin 12) (k : Fin 32) (r : Fin 256) (d : Fin 64) :
    Value.res_main_v41 m c (ix5 b g k r d)
      = rotated (m (c.tc.loc main_arg0)) (m (c.tc.loc main_arg1)) (m (c.tc.loc main_arg2)) b ⟨k.val * 256 + r.val, by omega⟩ g d := by
  rw [kref_eq, blocks_apply, turn_apply]
  unfold rotated
  simp only [heads_apply, cos_apply, sin_apply, angles_apply]

/-- The mean of a block's keys. -/
theorem mref_eq (m : (ℓ : Loc nD τ sig) → Buf (Elt Ideal) ℓ) (c : Dev nD) :
    Value.res_main_v46 m c = (Host.divf (Host.reduceAdd (Value.res_main_v41 m c : FVec Ideal S4x12x32x256x64 .f32) (constant S_ .f32 0x00000000#32)
        reducesTo_S4x12x32x256x64_S4x12x32x64_d3 h_S_)
      (broadcastInDim S4x12x32x64 ![] bcast_S_S4x12x32x64 (constant S_ .f32 0x43800000#32)) : FVec Ideal S4x12x32x64 .f32) := rfl

theorem mref_apply (m : (ℓ : Loc nD τ sig) → Buf (Elt Ideal) ℓ) (c : Dev nD) (b : Fin 4) (g : Fin 12) (k : Fin 32) (d : Fin 64) :
    Value.res_main_v46 m c (ix4 b g k d)
      = Ideal.div (∑ r : Fin 256, Value.res_main_v41 m c (ix5 b g k r d)) (Ideal.ofBits .f32 1132462080#32) := by
  rw [mref_eq]
  generalize Value.res_main_v41 m c = X
  pointwise

/-- The reference's values. -/
theorem vref_apply (x : FVec Ideal S4x8192x1024 .f32) (w : FVec Ideal S1024x1536 .f32) (b : Fin 4) (g : Fin 12) (k : Fin 32) (r : Fin 256) (d : Fin 64) :
    transpose S4x12x32x256x64 [0, 3, 1, 2, 4] (shapeCast _ (shapeCast _ (extractStridedSlice S4x8192x768 ![0, 0, 768] (Host.dotGeneral dot_S4x8192x1024_S1024x1536_S4x8192x1536_2_0_01_1_n_n none x w) slices_S4x8192x1536_S4x8192x768_0_0_768) shapeCasts_S4x8192x768_S4x8192x12x64) shapeCasts_S4x8192x12x64_S4x32x256x12x64) transposes_S4x32x256x12x64_S4x12x32x256x64_0_3_1_2_4 (ix5 b g k r d)
      = lane x w b ⟨k.val * 256 + r.val, by omega⟩ ⟨768 + (g.val * 64 + d.val), by omega⟩ := by
  pointwise
  rfl

end Cert.Kv

end
-- ==== Proof.KvValue.lean ====
/- What the shared keys' and values' kernel leaves: each point takes 256 rows through the two halves of the weights, turns
   the keys by the tables of cosines and sines, and takes the mean of the turned keys over its rows. -/
module

public import proofs.«01_k».proof.Proof.Gen.Kernel5Ideal.Frame
public import Idealize.ShloMosaic.Lib.Pipeline.ValueKit
public import Idealize.ShloMosaic.Lib.Pipeline.ReadBack
public import Idealize.ShloMosaic.Lib.StableHlo.RunRead
public import Idealize.ShloMosaic.Lib.Routing.OpsSearch
public import proofs.«01_k».proof.Proof.KvSpec

@[expose] public section

set_option maxRecDepth 16384

noncomputable section

namespace Cert.Kv

open Cert.Kernel5Ideal Cert.Kernel5Ideal.Gen Idealize.ShloMosaic Idealize.ShloMosaic.TcCoe Idealize.SL.Sem

/-! ## A point's arithmetic -/

/-- Six copies of a table of 128 lanes side by side. -/
theorem copies (f : Fin 128 → EReal) (c : Fin 768) :
    (if h : c.val < 128 then f ⟨c.val, h⟩
      else if h : c.val - 128 < 128 then f ⟨c.val - 128, h⟩
      else if h : c.val - 128 - 128 < 128 then f ⟨c.val - 128 - 128, h⟩
      else if h : c.val - 128 - 128 - 128 < 128 then f ⟨c.val - 128 - 128 - 128, h⟩
      else if h : c.val - 128 - 128 - 128 - 128 < 128 then f ⟨c.val - 128 - 128 - 128 - 128, h⟩
      else f ⟨c.val - 128 - 128 - 128 - 128 - 128, by omega⟩) = f ⟨c.val % 128, by omega⟩ := by
  split_ifs
  all_goals refine congrArg f (Fin.ext ?_)
  all_goals dsimp only
  all_goals omega

theorem pay6_apply (v0 : Vec Ideal S1x256x1024 .f32) (v3 : Vec Ideal S1024x768 .bf16) (r : Fin 256) (c : Fin 768) :
    k0_pay6 v0 v3 (ix2 r c) = ∑ k : Fin 1024, v0 (ix3 0 r k) * v3 (ix2 k c) := by
  pointwise [k0_pay6, k0_pay5]

theorem pay7_apply (v6 : Vec Ideal S1x256x1 .f32) (v8 : Vec Ideal S1x128 .f32) (r : Fin 256) (l : Fin 128) :
    k0_pay7 v6 v8 (ix2 r l) = v6 (ix3 0 r 0) * v8 (ix2 0 l) := by
  pointwise [k0_pay7]

theorem pay8_apply (v6 : Vec Ideal S1x256x1 .f32) (v8 : Vec Ideal S1x128 .f32) (r : Fin 256) (c : Fin 768) :
    k0_pay8 v6 v8 (ix2 r c) = Ideal.sin (k0_pay7 v6 v8 (ix2 r ⟨c.val % 128, by omega⟩)) := by
  pointwise [k0_pay8]
  exact copies (fun l => Ideal.sin (k0_pay7 v6 v8 (ix2 r l))) c

theorem pay9_apply : ∀ c : Fin 768, k0_pay9 (ix2 0 c) = BitVec.ofNat 32 (c.val % 64) := by
  decide +kernel

/-- Whether a lane is in the first half of its head's rotary dimensions, in words. -/
theorem first_half (n : Fin 64) : IntOp.cmpi .slt (BitVec.ofNat 32 n.val) 8#32 = if n.val < 8 then 1#1 else 0#1 := by
  revert n
  decide +kernel

theorem pay12_apply (v0 : Vec Ideal S1x256x1024 .f32) (v3 : Vec Ideal S1024x768 .bf16) (v6 : Vec Ideal S1x256x1 .f32) (v8 : Vec Ideal S1x128 .f32)
    (r : Fin 256) (c : Fin 768) :
    k0_pay12 v0 v3 v6 v8 (ix2 r c) = k0_pay6 v0 v3 (ix2 r c) * Ideal.cos (k0_pay7 v6 v8 (ix2 r ⟨c.val % 128, by omega⟩)) := by
  pointwise [k0_pay12]
  exact congrArg _ (copies (fun l => Ideal.cos (k0_pay7 v6 v8 (ix2 r l))) c)

theorem pay1_apply (v0 : Vec Ideal S1x256x1024 .f32) (v3 : Vec Ideal S1024x768 .bf16) (v6 : Vec Ideal S1x256x1 .f32) (v8 : Vec Ideal S1x128 .f32)
    (r : Fin 256) (c : Fin 768) :
    k0_pay1 (k0_pay8 v6 v8) k0_pay9 (k0_pay10 v0 v3) (k0_pay11 v0 v3) (k0_pay12 v0 v3 v6 v8) k0_pay13 (ix2 r c)
      = k0_pay6 v0 v3 (ix2 r c) * Ideal.cos (v6 (ix3 0 r 0) * v8 (ix2 0 ⟨c.val % 128, by omega⟩))
        + (if c.val % 64 < 8 then 0 - k0_pay6 v0 v3 (ix2 r ⟨(c.val + 768 - 760) % 768, by omega⟩)
            else k0_pay6 v0 v3 (ix2 r ⟨(c.val + 768 - 8) % 768, by omega⟩))
          * Ideal.sin (v6 (ix3 0 r 0) * v8 (ix2 0 ⟨c.val % 128, by omega⟩)) := by
  have h12 := pay12_apply v0 v3 v6 v8 r c
  have h8 := pay8_apply v6 v8 r c
  have h9 := pay9_apply c
  have hf : IntOp.cmpi .slt (BitVec.ofNat 32 (c.val % 64)) 8#32 = if c.val % 64 < 8 then 1#1 else 0#1 := first_half ⟨c.val % 64, by omega⟩
  rw [pay7_apply] at h12 h8
  generalize k0_pay12 v0 v3 v6 v8 = A at *
  generalize k0_pay8 v6 v8 = B at *
  generalize k0_pay9 = D at *
  pointwise [k0_pay1, k0_pay10, k0_pay11, k0_pay13]
  rw [h12, h8, h9, hf]
  unfold Scalar.select
  by_cases hc : c.val % 64 < 8
  · rw [if_pos hc, if_pos hc, if_pos (by decide : (1#1 : BitVec 1) = 1)]
  · rw [if_neg hc, if_neg hc, if_neg (by decide)]

/-- The turned keys of a row from its lanes before the turn, the position and the table of frequencies. -/
theorem turned (x : FVec Ideal S4x8192x1024 .f32) (p : IVec S4x8192 32) (w : FVec Ideal S1024x1536 .f32) (b : Fin 4) (s : Fin 8192)
    (T : Fin 768 → EReal) (f : Fin 128 → EReal) (P : EReal)
    (hT : ∀ c : Fin 768, T c = lane x w b s ⟨c.val, by omega⟩)
    (hf : ∀ l : Fin 128, f l = if l.val % 64 < 16 then freq (l.val % 8) else 0)
    (hP : P = FloatOps.sitofp (F := Ideal) .f32 (p (ix2 b s))) (c : Fin 768) :
    T c * Ideal.cos (P * f ⟨c.val % 128, by omega⟩)
        + (if c.val % 64 < 8 then 0 - T ⟨(c.val + 768 - 760) % 768, by omega⟩ else T ⟨(c.val + 768 - 8) % 768, by omega⟩)
          * Ideal.sin (P * f ⟨c.val % 128, by omega⟩)
      = rotated x p w b s ⟨c.val / 64, by omega⟩ ⟨c.val % 64, by omega⟩ := by
  have hc := c.isLt
  have e64 : c.val % 128 % 64 = c.val % 64 := by omega
  have cos0 : Ideal.cos 0 = 1 := by
    show ((Real.cos 0 : ℝ) : EReal) = 1
    rw [Real.cos_zero]; rfl
  have sin0 : Ideal.sin 0 = 0 := by
    show ((Real.sin 0 : ℝ) : EReal) = 0
    rw [Real.sin_zero]; rfl
  rw [hf, hT]
  unfold rotated
  dsimp only
  rw [e64]
  by_cases h : c.val % 64 < 16
  · rw [if_pos h, dif_pos h]
    by_cases h' : c.val % 64 < 8
    · rw [if_pos h', dif_pos h', hT, show c.val % 128 % 8 = c.val % 64 by omega, zero_sub, EReal.neg_mul, ← sub_eq_add_neg, hP]
      refine congrArg₂ (· - ·) (congrArg₂ (· * ·) (lane_congr _ _ _ _ ?_) rfl) (congrArg₂ (· * ·) (lane_congr _ _ _ _ ?_) rfl)
      all_goals dsimp only
      all_goals omega
    · rw [if_neg h', dif_neg h', hT, show c.val % 128 % 8 = c.val % 64 - 8 by omega, hP]
      refine congrArg₂ (· + ·) (congrArg₂ (· * ·) (lane_congr _ _ _ _ ?_) rfl) (congrArg₂ (· * ·) (lane_congr _ _ _ _ ?_) rfl)
      all_goals dsimp only
      all_goals omega
  · rw [if_neg h, dif_neg h, mul_zero, cos0, sin0, mul_one, mul_zero, add_zero]
    refine lane_congr _ _ _ _ ?_
    dsimp only
    omega

/-! ## What a point leaves, given what its blocks hold -/

section Blocks

variable (x : FVec Ideal S4x8192x1024 .f32) (p : IVec S4x8192 32) (w : FVec Ideal S1024x1536 .f32) (b : Fin 4) (s : Fin 256 → Fin 8192)
  (x0 : Vec Ideal S1x256x1024 .f32) (x1 : Vec Ideal S1x256x1 .f32) (x2 : Vec Ideal S1x128 .f32) (x3 x4 : Vec Ideal S1024x768 .bf16)
  (h0 : ∀ (r : Fin 256) (k : Fin 1024), x0 (ix3 0 r k) = x (ix3 b (s r) k))
  (h1 : ∀ r : Fin 256, x1 (ix3 0 r 0) = FloatOps.sitofp (F := Ideal) .f32 (p (ix2 b (s r))))
  (h2 : ∀ l : Fin 128, x2 (ix2 0 l) = if l.val % 64 < 16 then freq (l.val % 8) else 0)
  (h3 : ∀ (k : Fin 1024) (e : Fin 768), x3 (ix2 k e) = w (ix2 k ⟨e.val, by omega⟩))
  (h4 : ∀ (k : Fin 1024) (e : Fin 768), x4 (ix2 k e) = w (ix2 k ⟨768 + e.val, by omega⟩))

include h0 h1 h2 h3 in
theorem keys_of_blocks (r : Fin 256) (e : Fin 768) :
    k0_pay1 (k0_pay8 x1 x2) k0_pay9 (k0_pay10 x0 x3) (k0_pay11 x0 x3) (k0_pay12 x0 x3 x1 x2) k0_pay13 (ix2 r e)
      = rotated x p w b (s r) ⟨e.val / 64, by omega⟩ ⟨e.val % 64, by omega⟩ := by
  refine (pay1_apply _ _ _ _ r e).trans ?_
  exact turned x p w b (s r) (fun c => k0_pay6 x0 x3 (ix2 r c)) (fun l => x2 (ix2 0 l)) (x1 (ix3 0 r 0))
    (fun c => (pay6_apply _ _ r c).trans (Finset.sum_congr rfl fun k _ => congrArg₂ (· * ·) (h0 r k) (h3 k c))) h2 (h1 r) e

include h0 h1 h2 h3 in
theorem out5_of_blocks (r : Fin 256) (e : Fin 768) :
    out0_5 x0 x1 x2 x3 x4 (ix3 0 r e) = rotated x p w b (s r) ⟨e.val / 64, by omega⟩ ⟨e.val % 64, by omega⟩ := by
  refine Eq.trans ?_ (keys_of_blocks x p w b s x0 x1 x2 x3 h0 h1 h2 h3 r e)
  unfold_out out0_5
  frame_out
  generalize k0_pay8 x1 x2 = A
  generalize k0_pay9 = B
  generalize k0_pay10 x0 x3 = C
  generalize k0_pay11 x0 x3 = D
  generalize k0_pay12 x0 x3 x1 x2 = G
  generalize k0_pay13 = H
  pointwise [k0_pay2]

include h0 h4 in
theorem out6_of_blocks (r : Fin 256) (e : Fin 768) :
    out0_6 x0 x1 x2 x3 x4 (ix3 0 r e) = lane x w b (s r) ⟨768 + e.val, by omega⟩ := by
  unfold out0_6
  frame_out
  have q : k0_pay3 (k0_pay5 x0) x4 (ix3 0 r e) = ∑ k : Fin 1024, x0 (ix3 0 r k) * x4 (ix2 k e) := by
    pointwise [k0_pay3, k0_pay5]
  rw [q]
  exact Finset.sum_congr rfl fun k _ => congrArg₂ (· * ·) (h0 r k) (h4 k e)

include h0 h1 h2 h3 in
theorem out7_of_blocks (e : Fin 768) :
    out0_7 x0 x1 x2 x3 x4 (ix4 0 0 0 e)
      = Ideal.div (∑ r : Fin 256, rotated x p w b (s r) ⟨e.val / 64, by omega⟩ ⟨e.val % 64, by omega⟩) (Ideal.ofBits .f32 1132462080#32) := by
  have hk := fun r => keys_of_blocks x p w b s x0 x1 x2 x3 h0 h1 h2 h3 r e
  unfold_out out0_7
  frame_out
  generalize k0_pay8 x1 x2 = A at *
  generalize k0_pay9 = B at *
  generalize k0_pay10 x0 x3 = C at *
  generalize k0_pay11 x0 x3 = D at *
  generalize k0_pay12 x0 x3 x1 x2 = G at *
  generalize k0_pay13 = H at *
  pointwise [k0_pay4]
  exact congrArg (fun z => Ideal.div z _) (Finset.sum_congr rfl fun r _ => hk r)

end Blocks

/-! ## The tables the host makes -/

variable (m : (ℓ : Loc nD τ sig) → Buf (Elt Ideal) ℓ)

/-- The remainder of a table of lanes by a constant, as the host takes it. -/
abbrev remV (a : IVec S128 32) (n : BitVec 32) : IVec S128 32 :=
  let k : IVec S_ 32 := select (cmpi .eq (constantI S_ 32 n) (constantI S_ 32 0#32)) (constantI S_ 32 1#32) (constantI S_ 32 n)
  let r : IVec S128 32 := Host.remsi a (broadcastInDim S128 ![] bcast_S_S128 k)
  select (andi (cmpi .ne (cmpi .slt r (broadcastInDim S128 ![] bcast_S_S128 (constantI S_ 32 0#32)))
      (broadcastInDim S128 ![] bcast_S_S128 (cmpi .slt k (constantI S_ 32 0#32))))
      (cmpi .ne r (broadcastInDim S128 ![] bcast_S_S128 (constantI S_ 32 0#32))))
    (addi r (broadcastInDim S128 ![] bcast_S_S128 k)) r

/-- A lane's dimension in its head. -/
abbrev dimV : IVec S128 32 := remV (iotaInDim S128 32 0) 64#32
/-- A lane's rotary pair. -/
abbrev pairV : IVec S128 32 :=
  let r : IVec S128 32 := remV dimV 8#32
  select (cmpi .slt r (broadcastInDim S128 ![] bcast_S_S128 (constantI S_ 32 0#32))) (addi r (broadcastInDim S128 ![] bcast_S_S128 (constantI S_ 32 8#32))) r
/-- The rotary frequencies. -/
abbrev freqV : FVec Ideal S8 .f32 :=
  Host.powf (broadcastInDim S8 ![] bcast_S_S8 (constant S_ .f32 0x48F42400#32))
    (Host.divf (Host.negf (addf (broadcastInDim S8 ![] bcast_S_S8 (constant S_ .f32 0x00000000#32))
        (mulf (broadcastInDim S8 ![] bcast_S_S8 (constant S_ .f32 0x40000000#32)) (sitofp .f32 (iotaInDim S8 32 0)))))
      (broadcastInDim S8 ![] bcast_S_S8 (constant S_ .f32 0x41800000#32)))
/-- The frequency of each of 128 lanes from the lanes' words. -/
abbrev tableOf (D P : IVec S128 32) (f : FVec Ideal S8 .f32) : FVec Ideal S1x128 .f32 := broadcastInDim S1x128 ![1] bcast_S128_S1x128_1
  (select (cmpi .slt D (broadcastInDim S128 ![] bcast_S_S128 (constantI S_ 32 16#32)))
    (Host.gather gather_S8_S128x1_S128_n_0_n_n_0_1_1 f (broadcastInDim S128x1 ![0] bcast_S128_S128x1_0 P))
    (broadcastInDim S128 ![] bcast_S_S128 (constant S_ .f32 0x00000000#32)))

theorem dim_eq : ∀ l : Fin 128, dimV (ix1 l) = BitVec.ofNat 32 (l.val % 64) := by decide +kernel
theorem pair_eq : ∀ l : Fin 128, pairV (ix1 l) = BitVec.ofNat 32 (l.val % 8) := by decide +kernel

theorem freq_apply (i : Fin 8) : freqV (ix1 i) = freq i.val := by
  pointwise
  rfl

/-- Whether a lane is among its head's rotary dimensions, in words. -/
theorem rotary (n : Fin 64) : IntOp.cmpi .slt (BitVec.ofNat 32 n.val) 16#32 = if n.val < 16 then 1#1 else 0#1 := by
  revert n
  decide +kernel

theorem table_apply (D P : IVec S128 32) (f : FVec Ideal S8 .f32) (l : Fin 128) (hd : D (ix1 l) = BitVec.ofNat 32 (l.val % 64))
    (hp : P (ix1 l) = BitVec.ofNat 32 (l.val % 8)) :
    tableOf D P f (ix2 0 l) = if l.val % 64 < 16 then f (ix1 ⟨l.val % 8, by omega⟩) else 0 := by
  have hg : Host.gather gather_S8_S128x1_S128_n_0_n_n_0_1_1 f (broadcastInDim S128x1 ![0] bcast_S128_S128x1_0 P) (ix1 l)
      = f (ix1 ⟨l.val % 8, by omega⟩) :=
    Routing.take_ap gather_S8_S128x1_S128_n_0_n_n_0_1_1 rfl rfl rfl rfl f _ l (by omega) (by omega) (by pointwise; exact hp)
  have hr : IntOp.cmpi .slt (BitVec.ofNat 32 (l.val % 64)) 16#32 = if l.val % 64 < 16 then 1#1 else 0#1 := rotary ⟨l.val % 64, by omega⟩
  pointwise
  rw [hg, hd, hr]
  unfold Scalar.select
  by_cases h : l.val % 64 < 16
  · rw [if_pos h, if_pos h, if_pos (by decide : (1#1 : BitVec 1) = 1)]
  · rw [if_neg h, if_neg h, if_neg (by decide)]

theorem V_v25 (c : Dev nD) : V m c main_v25 = tableOf dimV pairV freqV := by
  unfold V
  after_reads_simp
  simp -implicitDefEqProofs only [StableHlo.TRef.toBuf, StableHlo.TRef.ofBuf, cast_cast, cast_eq]
  rfl

theorem V_v1 (c : Dev nD) : V m c main_v1 = (broadcastInDim S4x8192x1 ![0, 1] bcast_S4x8192_S4x8192x1_0_1
    (sitofp .f32 (m ((c : Thread nD τ).loc main_arg1) : IVec S4x8192 32) : FVec Ideal S4x8192 .f32) : FVec Ideal S4x8192x1 .f32) := by
  unfold V
  after_reads_simp
  try rfl

theorem V_v27 (c : Dev nD) : V m c main_v27 = (truncf .bf16 (extractStridedSlice S1024x768 ![0, 0]
    (m ((c : Thread nD τ).loc main_arg2) : FVec Ideal S1024x1536 .f32) slices_S1024x1536_S1024x768_0_0) bitsLt_bf16_f32 : FVec Ideal S1024x768 .bf16) := by
  unfold V
  after_reads_simp
  try rfl

theorem V_v29 (c : Dev nD) : V m c main_v29 = (truncf .bf16 (extractStridedSlice S1024x768 ![0, 768]
    (m ((c : Thread nD τ).loc main_arg2) : FVec Ideal S1024x1536 .f32) slices_S1024x1536_S1024x768_0_768) bitsLt_bf16_f32 : FVec Ideal S1024x768 .bf16) := by
  unfold V
  after_reads_simp
  try rfl

theorem pos_apply (c : Dev nD) (b : Fin 4) (s : Fin 8192) :
    (V m c main_v1 : FVec Ideal S4x8192x1 .f32) (ix3 b s 0) = FloatOps.sitofp (F := Ideal) .f32 ((m ((c : Thread nD τ).loc main_arg1) : IVec S4x8192 32) (ix2 b s)) := by
  rw [V_v1]
  pointwise

theorem freq_lane (c : Dev nD) (l : Fin 128) :
    (V m c main_v25 : FVec Ideal S1x128 .f32) (ix2 0 l) = if l.val % 64 < 16 then freq (l.val % 8) else 0 := by
  rw [V_v25]
  exact (table_apply dimV pairV freqV l (dim_eq l) (pair_eq l)).trans (by rw [freq_apply])

theorem wk_apply (c : Dev nD) (k : Fin 1024) (e : Fin 768) :
    (V m c main_v27 : FVec Ideal S1024x768 .bf16) (ix2 k e) = (m ((c : Thread nD τ).loc main_arg2) : FVec Ideal S1024x1536 .f32) (ix2 k ⟨e.val, by omega⟩) := by
  rw [V_v27]
  pointwise

theorem wv_apply (c : Dev nD) (k : Fin 1024) (e : Fin 768) :
    (V m c main_v29 : FVec Ideal S1024x768 .bf16) (ix2 k e) = (m ((c : Thread nD τ).loc main_arg2) : FVec Ideal S1024x1536 .f32) (ix2 k ⟨768 + e.val, by omega⟩) := by
  rw [V_v29]
  pointwise

/-! ## The blocks -/

/-- The blocks' places in the arrays. -/
theorem idx : ∀ t : Fin cfg0.N, win0_0.index t = ![t.val / 32, t.val % 32, 0] ∧ win0_1.index t = ![t.val / 32, t.val % 32, 0]
    ∧ win0_2.index t = ![0, 0] ∧ win0_3.index t = ![0, 0] ∧ win0_4.index t = ![0, 0] ∧ win0_5.index t = ![t.val / 32, t.val % 32, 0]
    ∧ win0_6.index t = ![t.val / 32, t.val % 32, 0] ∧ win0_7.index t = ![t.val / 32, t.val % 32, 0, 0] :=
  (by decide +kernel : ∀ t : Fin grid0.N, _)

theorem x_block (c : Dev nD) (t : Fin cfg0.N) (r : Fin 256) (k : Fin 1024) (h : t.val / 32 < 4) (h' : t.val % 32 * 256 + r.val < 8192) :
    iblk m c 0 t (ix3 0 r k) = V m c main_arg0 (ix3 ⟨t.val / 32, h⟩ ⟨t.val % 32 * 256 + r.val, h'⟩ k) := by
  unfold iblk
  generalize V m c = W
  blk_ext [idx t]

theorem p_block (c : Dev nD) (t : Fin cfg0.N) (r : Fin 256) (h : t.val / 32 < 4) (h' : t.val % 32 * 256 + r.val < 8192) :
    iblk m c 1 t (ix3 0 r 0) = V m c main_v1 (ix3 ⟨t.val / 32, h⟩ ⟨t.val % 32 * 256 + r.val, h'⟩ 0) := by
  unfold iblk
  generalize V m c = W
  blk_ext [idx t]

theorem f_block (c : Dev nD) (t : Fin cfg0.N) (l : Fin 128) : iblk m c 2 t (ix2 0 l) = V m c main_v25 (ix2 0 l) := by
  unfold iblk
  generalize V m c = W
  blk_ext [idx t]

theorem wk_block (c : Dev nD) (t : Fin cfg0.N) (k : Fin 1024) (e : Fin 768) : iblk m c 3 t (ix2 k e) = V m c main_v27 (ix2 k e) := by
  unfold iblk
  generalize V m c = W
  blk_ext [idx t]

theorem wv_block (c : Dev nD) (t : Fin cfg0.N) (k : Fin 1024) (e : Fin 768) : iblk m c 4 t (ix2 k e) = V m c main_v29 (ix2 k e) := by
  unfold iblk
  generalize V m c = W
  blk_ext [idx t]

/-! ## The result arrays -/

/-- The turned keys, a row's heads side by side. -/
def keys (c : Dev nD) : FVec Ideal S4x8192x768 .bf16 := fun i =>
  rotated (m ((c : Thread nD τ).loc main_arg0)) (m ((c : Thread nD τ).loc main_arg1)) (m ((c : Thread nD τ).loc main_arg2)) (i 0) (i 1)
    ⟨(i 2).val / 64, by have h : (i 2).val < 768 := (i 2).isLt; omega⟩ ⟨(i 2).val % 64, by omega⟩

/-- The values, a row's heads side by side. -/
def values (c : Dev nD) : FVec Ideal S4x8192x768 .bf16 := fun i =>
  lane (m ((c : Thread nD τ).loc main_arg0)) (m ((c : Thread nD τ).loc main_arg2)) (i 0) (i 1)
    ⟨768 + (i 2).val, by have h : (i 2).val < 768 := (i 2).isLt; omega⟩

/-- The means of the turned keys over the rows of a block. -/
def means (c : Dev nD) : FVec Ideal S4x32x1x768 .f32 := fun i =>
  Ideal.div (∑ r : Fin 256, rotated (m ((c : Thread nD τ).loc main_arg0)) (m ((c : Thread nD τ).loc main_arg1)) (m ((c : Thread nD τ).loc main_arg2)) (i 0)
      ⟨(i 1).val * 256 + r.val, by have h : (i 1).val < 32 := (i 1).isLt; omega⟩
      ⟨(i 3).val / 64, by have h : (i 3).val < 768 := (i 3).isLt; omega⟩ ⟨(i 3).val % 64, by omega⟩)
    (Ideal.ofBits .f32 1132462080#32)

/-- Where a point's output blocks sit in the results. -/
theorem place5 (t : Fin cfg0.N) (r : Fin 256) (e : Fin 768) (h : t.val / 32 < 4) (h' : t.val % 32 * 256 + r.val < 8192) :
    (win0_5.blk t).view.emb (ix3 0 r e : S1x256x768.Idx) = (ix3 ⟨t.val / 32, h⟩ ⟨t.val % 32 * 256 + r.val, h'⟩ e : S4x8192x768.Idx) := by
  obtain ⟨-, -, -, -, -, q, -, -⟩ := idx t
  funext a
  apply Fin.ext
  match a with
  | ⟨0, _⟩ =>
    show win0_5.index t 0 * 1 + 1 * 0 = t.val / 32
    rw [q]
    show t.val / 32 * 1 + 1 * 0 = t.val / 32
    omega
  | ⟨1, _⟩ =>
    show win0_5.index t 1 * 256 + 1 * r.val = t.val % 32 * 256 + r.val
    rw [q]
    show t.val % 32 * 256 + 1 * r.val = t.val % 32 * 256 + r.val
    omega
  | ⟨2, _⟩ =>
    show win0_5.index t 2 * 768 + 1 * e.val = e.val
    rw [q]
    show 0 * 768 + 1 * e.val = e.val
    omega

theorem place6 (t : Fin cfg0.N) (r : Fin 256) (e : Fin 768) (h : t.val / 32 < 4) (h' : t.val % 32 * 256 + r.val < 8192) :
    (win0_6.blk t).view.emb (ix3 0 r e : S1x256x768.Idx) = (ix3 ⟨t.val / 32, h⟩ ⟨t.val % 32 * 256 + r.val, h'⟩ e : S4x8192x768.Idx) := by
  obtain ⟨-, -, -, -, -, -, q, -⟩ := idx t
  funext a
  apply Fin.ext
  match a with
  | ⟨0, _⟩ =>
    show win0_6.index t 0 * 1 + 1 * 0 = t.val / 32
    rw [q]
    show t.val / 32 * 1 + 1 * 0 = t.val / 32
    omega
  | ⟨1, _⟩ =>
    show win0_6.index t 1 * 256 + 1 * r.val = t.val % 32 * 256 + r.val
    rw [q]
    show t.val % 32 * 256 + 1 * r.val = t.val % 32 * 256 + r.val
    omega
  | ⟨2, _⟩ =>
    show win0_6.index t 2 * 768 + 1 * e.val = e.val
    rw [q]
    show 0 * 768 + 1 * e.val = e.val
    omega

theorem place7 (t : Fin cfg0.N) (e : Fin 768) (h : t.val / 32 < 4) (h' : t.val % 32 < 32) :
    (win0_7.blk t).view.emb (ix4 0 0 0 e : S1x1x1x768.Idx) = (ix4 ⟨t.val / 32, h⟩ ⟨t.val % 32, h'⟩ 0 e : S4x32x1x768.Idx) := by
  obtain ⟨-, -, -, -, -, -, -, q⟩ := idx t
  funext a
  apply Fin.ext
  match a with
  | ⟨0, _⟩ =>
    show win0_7.index t 0 * 1 + 1 * 0 = t.val / 32
    rw [q]
    show t.val / 32 * 1 + 1 * 0 = t.val / 32
    omega
  | ⟨1, _⟩ =>
    show win0_7.index t 1 * 1 + 1 * 0 = t.val % 32
    rw [q]
    show t.val % 32 * 1 + 1 * 0 = t.val % 32
    omega
  | ⟨2, _⟩ =>
    show win0_7.index t 2 * 1 + 1 * 0 = 0
    rw [q]
    rfl
  | ⟨3, _⟩ =>
    show win0_7.index t 3 * 768 + 1 * e.val = e.val
    rw [q]
    show 0 * 768 + 1 * e.val = e.val
    omega

section Final

variable (c : Dev nD) (t : Fin cfg0.N) (h : t.val / 32 < 4)

theorem row_lt (r : Fin 256) : t.val % 32 * 256 + r.val < 8192 := by omega

theorem keys_block (r : Fin 256) (e : Fin 768) :
    out0_5 (iblk m c 0 t) (iblk m c 1 t) (iblk m c 2 t) (iblk m c 3 t) (iblk m c 4 t) (ix3 0 r e)
      = keys m c (ix3 ⟨t.val / 32, h⟩ ⟨t.val % 32 * 256 + r.val, row_lt t r⟩ e) :=
  out5_of_blocks _ (m ((c : Thread nD τ).loc main_arg1)) (m ((c : Thread nD τ).loc main_arg2)) ⟨t.val / 32, h⟩ (fun r => ⟨t.val % 32 * 256 + r.val, row_lt t r⟩) _ _ _ _ _
    (fun r k => (x_block m c t r k h (row_lt t r)).trans (congrFun (V_main_arg0 m c) _)) (fun r => (p_block m c t r h (row_lt t r)).trans (pos_apply m c _ _))
    (fun l => (f_block m c t l).trans (freq_lane m c l)) (fun k e => (wk_block m c t k e).trans (wk_apply m c k e)) r e

theorem values_block (r : Fin 256) (e : Fin 768) :
    out0_6 (iblk m c 0 t) (iblk m c 1 t) (iblk m c 2 t) (iblk m c 3 t) (iblk m c 4 t) (ix3 0 r e)
      = values m c (ix3 ⟨t.val / 32, h⟩ ⟨t.val % 32 * 256 + r.val, row_lt t r⟩ e) :=
  out6_of_blocks _ (m ((c : Thread nD τ).loc main_arg2)) ⟨t.val / 32, h⟩ (fun r => ⟨t.val % 32 * 256 + r.val, row_lt t r⟩) _ _ _ _ _
    (fun r k => (x_block m c t r k h (row_lt t r)).trans (congrFun (V_main_arg0 m c) _)) (fun k e => (wv_block m c t k e).trans (wv_apply m c k e)) r e

theorem means_block (e : Fin 768) :
    out0_7 (iblk m c 0 t) (iblk m c 1 t) (iblk m c 2 t) (iblk m c 3 t) (iblk m c 4 t) (ix4 0 0 0 e)
      = means m c (ix4 ⟨t.val / 32, h⟩ ⟨t.val % 32, by omega⟩ 0 e) :=
  out7_of_blocks _ (m ((c : Thread nD τ).loc main_arg1)) (m ((c : Thread nD τ).loc main_arg2)) ⟨t.val / 32, h⟩ (fun r => ⟨t.val % 32 * 256 + r.val, row_lt t r⟩) _ _ _ _ _
    (fun r k => (x_block m c t r k h (row_lt t r)).trans (congrFun (V_main_arg0 m c) _)) (fun r => (p_block m c t r h (row_lt t r)).trans (pos_apply m c _ _))
    (fun l => (f_block m c t l).trans (freq_lane m c l)) (fun k e => (wk_block m c t k e).trans (wk_apply m c k e)) e

end Final

theorem keys_final (c : Dev nD) : (dats m 0 c).arrAt 5 cfg0.N = keys m c := by
  refine (dats m 0 c).arrAt_eq_of_covers 5 (keys m c) (by decide +kernel) fun t hf y => ?_
  have hN : cfg0.N = 128 := N_0
  have ht : t.val < cfg0.N := t.isLt
  blk_simp
  rw [after0_5]
  obtain ⟨r, e, rfl⟩ : ∃ (r : Fin 256) (e : Fin 768), y = (ix3 0 r e : S1x256x768.Idx) := ⟨y 1, y 2, by
    refine (eq_ix3 y).trans (congrArg (fun a => ix3 a (y 1) (y 2)) (Subsingleton.elim (α := Fin 1) _ _))⟩
  rw [place5 t r e (by omega) (row_lt t r)]
  exact keys_block m c t (by omega) r e

theorem values_final (c : Dev nD) : (dats m 0 c).arrAt 6 cfg0.N = values m c := by
  refine (dats m 0 c).arrAt_eq_of_covers 6 (values m c) (by decide +kernel) fun t hf y => ?_
  have hN : cfg0.N = 128 := N_0
  have ht : t.val < cfg0.N := t.isLt
  blk_simp
  rw [after0_6]
  obtain ⟨r, e, rfl⟩ : ∃ (r : Fin 256) (e : Fin 768), y = (ix3 0 r e : S1x256x768.Idx) := ⟨y 1, y 2, by
    refine (eq_ix3 y).trans (congrArg (fun a => ix3 a (y 1) (y 2)) (Subsingleton.elim (α := Fin 1) _ _))⟩
  rw [place6 t r e (by omega) (row_lt t r)]
  exact values_block m c t (by omega) r e

theorem means_final (c : Dev nD) : (dats m 0 c).arrAt 7 cfg0.N = means m c := by
  refine (dats m 0 c).arrAt_eq_of_covers 7 (means m c) (by decide +kernel) fun t hf y => ?_
  have hN : cfg0.N = 128 := N_0
  have ht : t.val < cfg0.N := t.isLt
  blk_simp
  rw [after0_7]
  obtain ⟨e, rfl⟩ : ∃ e : Fin 768, y = (ix4 0 0 0 e : S1x1x1x768.Idx) := ⟨y 3, by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl⟩
  rw [place7 t e (by omega) (by omega)]
  exact means_block m c t (by omega) e

/-! ## The results in the heads' layout -/

/-- The turned keys by head and block of rows. -/
def keyBlocks (c : Dev nD) : FVec Ideal S4x12x32x256x64 .f32 := fun i =>
  rotated (m ((c : Thread nD τ).loc main_arg0)) (m ((c : Thread nD τ).loc main_arg1)) (m ((c : Thread nD τ).loc main_arg2)) (i 0)
    ⟨(i 2).val * 256 + (i 3).val, by have h : (i 2).val < 32 := (i 2).isLt; have h' : (i 3).val < 256 := (i 3).isLt; omega⟩ (i 1) (i 4)

/-- The values by head and block of rows. -/
def valueBlocks (c : Dev nD) : FVec Ideal S4x12x32x256x64 .f32 := fun i =>
  lane (m ((c : Thread nD τ).loc main_arg0)) (m ((c : Thread nD τ).loc main_arg2)) (i 0)
    ⟨(i 2).val * 256 + (i 3).val, by have h : (i 2).val < 32 := (i 2).isLt; have h' : (i 3).val < 256 := (i 3).isLt; omega⟩
    ⟨768 + ((i 1).val * 64 + (i 4).val), by have h : (i 1).val < 12 := (i 1).isLt; have h' : (i 4).val < 64 := (i 4).isLt; omega⟩

/-- The means of the turned keys by head and block of rows. -/
def keyMeans (c : Dev nD) : FVec Ideal S4x12x32x64 .f32 := fun i =>
  Ideal.div (∑ r : Fin 256, keyBlocks m c (ix5 (i 0) (i 1) (i 2) r (i 3))) (Ideal.ofBits .f32 1132462080#32)

theorem rotated_congr (x : FVec Ideal S4x8192x1024 .f32) (p : IVec S4x8192 32) (w : FVec Ideal S1024x1536 .f32) (b : Fin 4) {s s' : Fin 8192}
    {g g' : Fin 12} {d d' : Fin 64} (hs : s.val = s'.val) (hg : g.val = g'.val) (hd : d.val = d'.val) :
    rotated x p w b s g d = rotated x p w b s' g' d' := by rw [Fin.ext hs, Fin.ext hg, Fin.ext hd]

/-- The operations after the region, on any contents. -/
theorem tail_v33 (W : Valuation τ sig (Elt Ideal)) : StableHlo.after (List.flatten [hostOps1]) W (Proc.devRef .tc main_v33)
    = (extf .f32 (transpose S4x12x32x256x64 [0, 3, 1, 2, 4] (shapeCast _ (W (Proc.devRef .tc main_v30_0) : FVec Ideal S4x8192x768 .bf16) shapeCasts_S4x8192x768_S4x32x256x12x64)
          transposes_S4x32x256x12x64_S4x12x32x256x64_0_3_1_2_4) bitsLt_bf16_f32 : FVec Ideal S4x12x32x256x64 .f32) := by
  after_reads_simp
  try rfl

theorem tail_v36 (W : Valuation τ sig (Elt Ideal)) : StableHlo.after (List.flatten [hostOps1]) W (Proc.devRef .tc main_v36)
    = (extf .f32 (transpose S4x12x32x256x64 [0, 3, 1, 2, 4] (shapeCast _ (W (Proc.devRef .tc main_v30_1) : FVec Ideal S4x8192x768 .bf16) shapeCasts_S4x8192x768_S4x32x256x12x64)
          transposes_S4x32x256x12x64_S4x12x32x256x64_0_3_1_2_4) bitsLt_bf16_f32 : FVec Ideal S4x12x32x256x64 .f32) := by
  after_reads_simp
  try rfl

theorem tail_v38 (W : Valuation τ sig (Elt Ideal)) : StableHlo.after (List.flatten [hostOps1]) W (Proc.devRef .tc main_v38)
    = (transpose S4x12x32x64 [0, 2, 1, 3] (shapeCast _ (W (Proc.devRef .tc main_v30_2) : FVec Ideal S4x32x1x768 .f32) shapeCasts_S4x32x1x768_S4x32x12x64)
          transposes_S4x32x12x64_S4x12x32x64_0_2_1_3 : FVec Ideal S4x12x32x64 .f32) := by
  after_reads_simp
  try rfl

/-- A row's heads side by side to the heads' layout, at an entry. -/
theorem layout (K : FVec Ideal S4x8192x768 .bf16) (b : Fin 4) (g : Fin 12) (k : Fin 32) (r : Fin 256) (d : Fin 64) :
    (extf .f32 (transpose S4x12x32x256x64 [0, 3, 1, 2, 4] (shapeCast _ K shapeCasts_S4x8192x768_S4x32x256x12x64)
          transposes_S4x32x256x12x64_S4x12x32x256x64_0_3_1_2_4) bitsLt_bf16_f32 : FVec Ideal S4x12x32x256x64 .f32) (ix5 b g k r d)
      = K (ix3 b ⟨k.val * 256 + r.val, by omega⟩ ⟨g.val * 64 + d.val, by omega⟩) := by
  pointwise

theorem layout_means (K : FVec Ideal S4x32x1x768 .f32) (b : Fin 4) (g : Fin 12) (k : Fin 32) (d : Fin 64) :
    (transpose S4x12x32x64 [0, 2, 1, 3] (shapeCast _ K shapeCasts_S4x32x1x768_S4x32x12x64)
          transposes_S4x32x12x64_S4x12x32x64_0_2_1_3 : FVec Ideal S4x12x32x64 .f32) (ix4 b g k d)
      = K (ix4 b k 0 ⟨g.val * 64 + d.val, by omega⟩) := by
  pointwise

theorem head_of (g : Fin 12) (d : Fin 64) : (g.val * 64 + d.val) / 64 = g.val := by omega
theorem dim_of (g : Fin 12) (d : Fin 64) : (g.val * 64 + d.val) % 64 = d.val := by omega

theorem tail_keys (c : Dev nD) : Pipeline.afterTail₀ cfgs (dats m) 0 (V0 m) [hostOps1] c main_v33 = keyBlocks m c := by
  refine (tail_v33 _).trans ((congrArg (fun A => (extf .f32 (transpose S4x12x32x256x64 [0, 3, 1, 2, 4] (shapeCast _ A shapeCasts_S4x8192x768_S4x32x256x12x64)
      transposes_S4x32x256x12x64_S4x12x32x256x64_0_3_1_2_4) bitsLt_bf16_f32 : FVec Ideal S4x12x32x256x64 .f32))
    ((Pipeline.withArrays_arr spec0 launch0.win.arr_inj c (V0 m c) _ 5).trans (keys_final m c))).trans ?_)
  funext i
  rw [eq_ix5 i]
  refine (layout _ _ _ _ _ _).trans ?_
  exact rotated_congr _ _ _ _ rfl (head_of (i 1) (i 4)) (dim_of (i 1) (i 4))

theorem tail_values (c : Dev nD) : Pipeline.afterTail₀ cfgs (dats m) 0 (V0 m) [hostOps1] c main_v36 = valueBlocks m c := by
  refine (tail_v36 _).trans ((congrArg (fun A => (extf .f32 (transpose S4x12x32x256x64 [0, 3, 1, 2, 4] (shapeCast _ A shapeCasts_S4x8192x768_S4x32x256x12x64)
      transposes_S4x32x256x12x64_S4x12x32x256x64_0_3_1_2_4) bitsLt_bf16_f32 : FVec Ideal S4x12x32x256x64 .f32))
    ((Pipeline.withArrays_arr spec0 launch0.win.arr_inj c (V0 m c) _ 6).trans (values_final m c))).trans ?_)
  funext i
  rw [eq_ix5 i]
  exact layout _ _ _ _ _ _

theorem tail_means (c : Dev nD) : Pipeline.afterTail₀ cfgs (dats m) 0 (V0 m) [hostOps1] c main_v38 = keyMeans m c := by
  refine (tail_v38 _).trans ((congrArg (fun A => (transpose S4x12x32x64 [0, 2, 1, 3] (shapeCast _ A shapeCasts_S4x32x1x768_S4x32x12x64)
      transposes_S4x32x12x64_S4x12x32x64_0_2_1_3 : FVec Ideal S4x12x32x64 .f32))
    ((Pipeline.withArrays_arr spec0 launch0.win.arr_inj c (V0 m c) _ 7).trans (means_final m c))).trans ?_)
  funext i
  rw [eq_ix4 i]
  refine (layout_means _ _ _ _ _).trans ?_
  exact congrArg (fun z => Ideal.div z _) (Finset.sum_congr rfl fun r _ => rotated_congr _ _ _ _ rfl (head_of (i 1) (i 3)) (dim_of (i 1) (i 3)))

/-- The kernel's run: its three results, and its arguments as they were. -/
theorem run (ρ : Dev nD → PrngReg) : θ_run defs (onTc (τ := τ) (main (F := Ideal))) ⟨m, fun _ => 0, ρ⟩ (fun r => ∀ c : Dev nD,
      r.2.mem ((c.tc : Thread nD τ).loc main_v33) = keyBlocks m c
      ∧ r.2.mem ((c.tc : Thread nD τ).loc main_v36) = valueBlocks m c
      ∧ r.2.mem ((c.tc : Thread nD τ).loc main_v38) = keyMeans m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h.1 c).2 main_v33 (Pipeline.mem_restRefs_of main_v33 (by decide) (by decide))).trans (tail_keys m c),
      ((h.1 c).2 main_v36 (Pipeline.mem_restRefs_of main_v36 (by decide) (by decide))).trans (tail_values m c),
      ((h.1 c).2 main_v38 (Pipeline.mem_restRefs_of main_v38 (by decide) (by decide))).trans (tail_means m c), h.2 c⟩)
    (θ_run_and (run_main m ρ) (unchanged m ρ))

end Cert.Kv

end
-- ==== Proof.lean ====
module

public import proofs.«01_k».proof.Defs
public import proofs.«01_k».proof.Proof.Gen.Kernel.Frame
public import proofs.«01_k».proof.Proof.Gen.Kernel2.Frame
public import proofs.«01_k».proof.Proof.Gen.Kernel2Ideal.Value
public import proofs.«01_k».proof.Proof.Gen.KernelIdeal.Value
public import proofs.«01_k».proof.Proof.Gen.Reference2Ideal.Run
public import proofs.«01_k».proof.Proof.Gen.ReferenceIdeal.Run
public import proofs.«01_k».proof.Proof.Gen.Pre_finite_logits
public import proofs.«01_k».proof.Proof.Finite
public import proofs.«01_k».proof.Proof.Gen.Kernel3
public import proofs.«01_k».proof.Proof.Gen.Pre_counts_in_range
public import proofs.«01_k».proof.Proof.ExpPre
public import proofs.«01_k».proof.Proof.ExpFrame
public import proofs.«01_k».proof.Proof.ExpValue
public import proofs.«01_k».proof.Proof.ExpRef
public import proofs.«01_k».proof.Proof.ExpSame
public import proofs.«01_k».proof.Proof.Gen.Reference3Ideal.Run
public import proofs.«01_k».proof.Proof.MixerRef
public import proofs.«01_k».proof.Proof.MixerValue
public import proofs.«01_k».proof.Proof.FfnRef
public import proofs.«01_k».proof.Proof.FfnValue
public import proofs.«01_k».proof.Proof.Gen.Kernel4.Frame
public import proofs.«01_k».proof.Proof.OutRef
public import proofs.«01_k».proof.Proof.OutValue
public import proofs.«01_k».proof.Proof.KvRef
public import proofs.«01_k».proof.Proof.KvValue
public import proofs.«01_k».proof.Proof.Gen.Kernel5.Frame
public import proofs.«01_k».proof.Proof.Gen.Kernel5Ideal.Frame
public import proofs.«01_k».proof.Proof.Gen.Reference5Ideal.Run
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic_KernelIdeal_ReferenceIdeal_pre_finite_logits : algebraic_KernelIdeal_ReferenceIdeal_pre_finite_logits := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  obtain ⟨h0, h1, h2, h3, h4, h5, h6⟩ := hagree c
  obtain ⟨hX, hW, hM⟩ := Cert.Finite.of_pre _ _ _ _ _ _ _ (hpre c)
  refine funext fun (i : Cert.KernelIdeal.S4x8192x1024.Idx) => ?_
  rw [eq_ix3 i]
  refine (Cert.Mixer.ref_apply m' c (i 0) (i 1) (i 2)).trans (Eq.trans ?_ (Cert.Mixer.result m c (i 0) (i 1) (i 2)).symm)
  rw [h0, h1, h2, h3, h4, h5, h6]
  exact congrArg (fun y => Cert.Spec.layerNorm y _ _ (i 2)) (Cert.Spec.mixed_late _ _ _ _ _ hX hW hM (i 0) (i 1)).symm

theorem algebraic_Kernel2Ideal_Reference2Ideal : algebraic_Kernel2Ideal_Reference2Ideal := by
  intro m ρ m' ρ' _ hagree
  refine ⟨_, Cert.Kernel2Ideal.Value.run (F := Ideal) m ρ, ?_⟩
  refine (θ_run Cert.Reference2Ideal.defs _ _).mono (fun _ h c => ⟨?_, (h c).2⟩) (Cert.Reference2Ideal.Value.run (F := Ideal) m' ρ')
  rw [(h c).1]
  obtain ⟨h0, h1, h2, h3, h4⟩ := hagree c
  refine funext fun (i : Cert.Kernel2Ideal.S32768x1024.Idx) => ?_
  rw [eq_ix2 i]
  refine (Cert.Ffn.ref_apply m' c (i 0) (i 1)).trans (Eq.trans ?_ (Cert.Ffn.result m c (i 0) (i 1)).symm)
  rw [h0, h1, h2, h3, h4]
  rfl

/-- The experts' rows as naturals, none more than 65536 and one of them at least one: what the precondition gives. -/
def Counts {F : FTy → Type} [FloatOps F] (m : (ℓ : Loc Cert.Kernel3Ideal.nD Cert.Kernel3Ideal.τ Cert.Kernel3Ideal.sig) → Buf (Elt F) ℓ) (k : ℕ → ℕ) : Prop :=
  (∀ i : Fin 8, Cert.Experts.cntArr m (ix1 i) = BitVec.ofNat 32 (k i.val)) ∧ (∀ i, k i ≤ 65536) ∧ ∃ e, e < 8 ∧ 1 ≤ k e

theorem counts_of_pre {F : FTy → Type} [FloatOps F]
    (m : (ℓ : Loc Cert.Kernel3Ideal.nD Cert.Kernel3Ideal.τ Cert.Kernel3Ideal.sig) → Buf (Elt F) ℓ)
    (h : ∀ c : Dev Cert.Kernel3Ideal.nD, Cert.Pre_counts_in_range.fn (F := F)
      (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3)) = fun _ => 1#1) :
    ∃ k, Counts m k :=
  Cert.ExpertsPre.of_pre _ _ _ _ (h 0)

section tables

variable {F : FTy → Type} [FloatOps F] (m : (ℓ : Loc Cert.Kernel3Ideal.nD Cert.Kernel3Ideal.τ Cert.Kernel3Ideal.sig) → Buf (Elt F) ℓ)
  (k : ℕ → ℕ) (hc : Counts m k)

include hc in
theorem te_val (t : Fin 136) : Cert.Experts.te m t = BitVec.ofNat 32 (min 7 (Nat.count (fun e => Cert.Experts.before k (e + 1) ≤ t.val) 8)) :=
  (congrFun (Cert.Experts.tbl_0 m) (ix1 t)).trans (Cert.Experts.experts_apply _ k hc.1 hc.2.1 t)

include hc in
theorem ntw_val : Cert.Experts.ntw m = BitVec.ofNat 32 (Cert.Experts.before k 8) :=
  (Cert.Experts.ntw_eq m).trans ((congrFun (Cert.Experts.tbl_1 m) (ix1 0)).trans (Cert.Experts.used_apply _ k hc.1 hc.2.1))

include hc in
theorem ntw_int : (Cert.Experts.ntw m).toInt = (Cert.Experts.before k 8 : ℕ) := by
  have hl := Cert.Experts.before_le k hc.2.1 8
  rw [ntw_val m k hc, Cert.Experts.word_toInt _ (by omega)]

include hc in
theorem good_of_counts : Cert.Experts.Good m := by
  refine ⟨fun t => ?_, ?_⟩
  · rw [te_val m k hc t, BitVec.toNat_ofNat]
    omega
  · obtain ⟨e, he, h1⟩ := hc.2.2
    have := Cert.Experts.before_pos k e he h1
    rw [ntw_int m k hc]
    omega

end tables

theorem good_of_pre {F : FTy → Type} [FloatOps F]
    (m : (ℓ : Loc Cert.Kernel3Ideal.nD Cert.Kernel3Ideal.τ Cert.Kernel3Ideal.sig) → Buf (Elt F) ℓ)
    (h : ∀ c : Dev Cert.Kernel3Ideal.nD, Cert.Pre_counts_in_range.fn (F := F)
      (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3)) = fun _ => 1#1) :
    Cert.Experts.Good m := by
  obtain ⟨k, hc⟩ := counts_of_pre m h
  exact good_of_counts m k hc

theorem frame_kernel3 : quiescent_Kernel3 := fun m ρ hpre =>
  Cert.ExpertsSame.run_same m ρ _ ((θ_run Cert.Kernel3Ideal.defs _ _).mono (fun _ h => ⟨fun c => (h.1 c).2, h.2⟩)
    (Cert.Experts.run_main (F := Bits) m ρ (Cert.Experts.ok_of_good (good_of_pre m hpre))))

theorem frame_kernel3Ideal : quiescent_Kernel3Ideal := fun m ρ hpre =>
  (θ_run Cert.Kernel3Ideal.defs _ _).mono (fun _ h => ⟨fun c => (h.1 c).2, h.2⟩)
    (Cert.Experts.run_main (F := Ideal) m ρ (Cert.Experts.ok_of_good (good_of_pre m hpre)))

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Row by row: a row of a tile in use holds its expert's feed-forward on both sides, any other zero. -/
theorem rows_eq (m : (ℓ : Loc Cert.Kernel3Ideal.nD Cert.Kernel3Ideal.τ Cert.Kernel3Ideal.sig) → Buf (Elt Ideal) ℓ)
    (k : ℕ → ℕ) (hc : Counts m k) (hO : Cert.Experts.Ok m) (r : Fin 69632) (j : Fin 1024) :
    Cert.ExpertsRef.sumA (Cert.Experts.xArr m 0) (Cert.Experts.wArr m 0) (Cert.Experts.dArr m 0) (Cert.Experts.cntArr m) (ix2 r j)
      = Cert.Experts.result m hO 0 (ix2 r j) := by
  have hr := r.isLt
  have hn := ntw_int m k hc
  by_cases hl : r.val / 512 < Cert.Experts.before k 8
  · obtain ⟨e, he, h1, h2⟩ := Cert.Experts.exists_mem k _ _ hl
    have ht := te_val m k hc ⟨r.val / 512, by omega⟩
    rw [Cert.Experts.count_of_mem k e (r.val / 512) he h1 h2] at ht
    rw [Cert.Experts.result_live m hO 0 r j ⟨e, he⟩ (by rw [ht, BitVec.toNat_ofNat]; show e % 2 ^ 32 = e; omega) (by rw [hn]; omega)]
    exact Cert.ExpertsRef.sum_some _ _ _ _ k hc.1 hc.2.1 r j ⟨e, he⟩
      ⟨by show 512 * Cert.Experts.before k e ≤ r.val; omega, by show r.val < 512 * Cert.Experts.before k (e + 1); omega⟩
  · rw [Cert.Experts.result_idle m hO 0 r j (by rw [hn]; omega)]
    refine Cert.ExpertsRef.sum_none _ _ _ _ k hc.1 hc.2.1 r j (fun e he hi => hl ?_)
    have := Cert.Experts.before_mono k (show e + 1 ≤ 8 by omega)
    have := hi.2
    omega

theorem algebraic_Kernel3Ideal_Reference3Ideal : algebraic_Kernel3Ideal_Reference3Ideal := by
  intro m ρ m' ρ' hpre hagree
  obtain ⟨k, hc⟩ := counts_of_pre m hpre
  have hO := Cert.Experts.ok_of_good (good_of_counts m k hc)
  refine ⟨fun c => Cert.Experts.result m hO c, (θ_run Cert.Kernel3Ideal.defs _ _).mono
    (fun _ h c => ⟨((h.1 c).1).trans (Cert.Experts.final m hO c), (h.1 c).2⟩) (Cert.Experts.run_main (F := Ideal) m ρ hO), ?_⟩
  refine (θ_run Cert.Reference3Ideal.defs _ _).mono (fun _ h c => ⟨?_, (h c).2⟩) (Cert.Reference3Ideal.Value.run (F := Ideal) m' ρ')
  rw [(h c).1]
  obtain ⟨h0, h1, h2, h3⟩ := hagree c
  refine funext fun (i : Cert.Kernel3Ideal.S69632x1024.Idx) => ?_
  rw [eq_ix2 i]
  generalize i 0 = r
  generalize i 1 = j
  refine Eq.trans (b := Cert.ExpertsRef.sumA (m' (c.tc.loc Cert.Reference3Ideal.main_arg0)) (m' (c.tc.loc Cert.Reference3Ideal.main_arg2))
    (m' (c.tc.loc Cert.Reference3Ideal.main_arg3)) (m' (c.tc.loc Cert.Reference3Ideal.main_arg1)) (ix2 r j)) rfl ?_
  rw [h0, h1, h2, h3]
  have h : c = (0 : Dev Cert.Kernel3Ideal.nD) := Subsingleton.elim _ _
  subst h
  exact rows_eq m k hc hO r j

theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem quiescent_Reference5Ideal : quiescent_Reference5Ideal := fun m ρ _ =>
  (θ_run Cert.Reference5Ideal.defs _ _).mono (fun r h => ⟨fun c => (h c).2.2.2, sem_eq_zero_of_no_sems (by decide) r.2⟩)
    (Cert.Reference5Ideal.Value.run (F := Ideal) m ρ)

theorem algebraic_Kernel4Ideal_Reference4Ideal : algebraic_Kernel4Ideal_Reference4Ideal := by
  intro m ρ m' ρ' _ hagree
  refine ⟨fun c => Cert.Out.result m c, (θ_run Cert.Kernel4Ideal.defs _ _).mono
    (fun _ h c => ⟨((h c).1).trans (Cert.Out.final m c), (h c).2⟩) (Cert.Kernel4Ideal.Value.run_blocks (F := Ideal) m ρ), ?_⟩
  refine (θ_run Cert.Reference4Ideal.defs _ _).mono (fun _ h c => ⟨?_, (h c).2⟩) (Cert.Reference4Ideal.Value.run (F := Ideal) m' ρ')
  rw [(h c).1]
  obtain ⟨h0, h1, h2, h3, h4, h5⟩ := hagree c
  refine funext fun (i : Cert.Kernel4Ideal.S4x8192x1024.Idx) => ?_
  rw [eq_ix3 i]
  refine (Cert.Out.ref_apply m' c (i 0) (i 1) (i 2)).trans ?_
  rw [h0, h1, h2, h3, h4, h5]
  rfl

theorem algebraic_Kernel5Ideal_Reference5Ideal : algebraic_Kernel5Ideal_Reference5Ideal := by
  intro m ρ m' ρ' _ hagree
  refine ⟨fun c => Cert.Kv.keyBlocks m c, fun c => Cert.Kv.valueBlocks m c, fun c => Cert.Kv.keyMeans m c, Cert.Kv.run m ρ, ?_⟩
  have hk : ∀ (c : Dev Cert.Kernel5Ideal.nD) (i : Cert.Kernel5Ideal.S4x12x32x256x64.Idx),
      Cert.Reference5Ideal.Value.res_main_v41 m' c i = Cert.Kv.keyBlocks m c i := by
    intro c i
    obtain ⟨h0, h1, h2⟩ := hagree c
    rw [eq_ix5 i]
    refine (Cert.Kv.kref_apply m' c (i 0) (i 1) (i 2) (i 3) (i 4)).trans ?_
    rw [h0, h1, h2]
    rfl
  refine (θ_run Cert.Reference5Ideal.defs _ _).mono (fun _ h c => ⟨?_, ?_, ?_, (h c).2.2.2⟩) (Cert.Reference5Ideal.Value.run (F := Ideal) m' ρ')
  · rw [(h c).1]
    exact funext fun (i : Cert.Kernel5Ideal.S4x12x32x256x64.Idx) => hk c i
  · rw [(h c).2.1]
    obtain ⟨h0, h1, h2⟩ := hagree c
    refine funext fun (i : Cert.Kernel5Ideal.S4x12x32x256x64.Idx) => ?_
    rw [eq_ix5 i]
    refine (Cert.Kv.vref_apply _ _ (i 0) (i 1) (i 2) (i 3) (i 4)).trans ?_
    rw [h0, h2]
    rfl
  · rw [(h c).2.2.1]
    refine funext fun (i : Cert.Kernel5Ideal.S4x12x32x64.Idx) => ?_
    rw [eq_ix4 i]
    refine (Cert.Kv.mref_apply m' c (i 0) (i 1) (i 2) (i 3)).trans ?_
    exact congrArg (fun z => Ideal.div z _) (Finset.sum_congr rfl fun r _ => hk c (ix5 (i 0) (i 1) (i 2) r (i 3)))

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts, Cert.Kernel5.Gen.facts, Cert.Kernel5Ideal.Gen.facts,
  Cert.Reference5Ideal.Gen.facts, Cert.Pre_finite_logits.Gen.facts, Cert.Pre_counts_in_range.Gen.facts,
  fun m ρ _ => Cert.Kernel.Gen.frame m ρ, fun m ρ _ => Cert.KernelIdeal.Gen.frame m ρ, fun m ρ _ => Cert.KernelIdeal.Gen.frame m ρ,
  quiescent_ReferenceIdeal, fun m ρ _ => quiescent_ReferenceIdeal m ρ trivial,
  fun m ρ _ => Cert.Kernel2.Gen.frame m ρ, fun m ρ _ => Cert.Kernel2Ideal.Gen.frame m ρ, quiescent_Reference2Ideal,
  frame_kernel3, frame_kernel3Ideal, quiescent_Reference3Ideal, fun m ρ _ => quiescent_Reference3Ideal m ρ trivial,
  fun m ρ _ => Cert.Kernel4.Gen.frame m ρ, fun m ρ _ => Cert.Kernel4Ideal.Gen.frame m ρ, quiescent_Reference4Ideal,
  fun m ρ _ => Cert.Kernel5.Gen.frame m ρ, fun m ρ _ => Cert.Kernel5Ideal.Gen.frame m ρ, quiescent_Reference5Ideal,
  (trivial : preserves_Kernel_KernelIdeal), algebraic_KernelIdeal_ReferenceIdeal_pre_finite_logits,
  (trivial : preserves_Kernel2_Kernel2Ideal), algebraic_Kernel2Ideal_Reference2Ideal,
  (trivial : preserves_Kernel3_Kernel3Ideal), algebraic_Kernel3Ideal_Reference3Ideal,
  (trivial : preserves_Kernel4_Kernel4Ideal), algebraic_Kernel4Ideal_Reference4Ideal,
  (trivial : preserves_Kernel5_Kernel5Ideal), algebraic_Kernel5Ideal_Reference5Ideal⟩

end Cert.Proof

end
